-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_AttnFirst (m : (ℓ : Loc Cert.AttnFirst.nD Cert.AttnFirst.τ Cert.AttnFirst.sig) → Buf (Elt Bits) ℓ) : Prop :=
  True

def Pre_AttnFirstIdeal (m : (ℓ : Loc Cert.AttnFirstIdeal.nD Cert.AttnFirstIdeal.τ Cert.AttnFirstIdeal.sig) → Buf (Elt Ideal) ℓ) : Prop :=
  True

def Pre_AttnFirstIdeal_finite [hPre_finite : Cert.Pre_finite.Facts] (m : (ℓ : Loc Cert.AttnFirstIdeal.nD Cert.AttnFirstIdeal.τ Cert.AttnFirstIdeal.sig) → Buf (Elt Ideal) ℓ) : Prop :=
  ∀ c : Dev Cert.AttnFirstIdeal.nD,
    (Cert.Pre_finite.fn (F := Ideal) (m ((c.tc : Thread Cert.AttnFirstIdeal.nD Cert.AttnFirstIdeal.τ).loc Cert.AttnFirstIdeal.main_arg0)) (m ((c.tc : Thread Cert.AttnFirstIdeal.nD Cert.AttnFirstIdeal.τ).loc Cert.AttnFirstIdeal.main_arg1)) (m ((c.tc : Thread Cert.AttnFirstIdeal.nD Cert.AttnFirstIdeal.τ).loc Cert.AttnFirstIdeal.main_arg2))).1 = (fun _ => 1#1)
    ∧ (Cert.Pre_finite.fn (F := Ideal) (m ((c.tc : Thread Cert.AttnFirstIdeal.nD Cert.AttnFirstIdeal.τ).loc Cert.AttnFirstIdeal.main_arg0)) (m ((c.tc : Thread Cert.AttnFirstIdeal.nD Cert.AttnFirstIdeal.τ).loc Cert.AttnFirstIdeal.main_arg1)) (m ((c.tc : Thread Cert.AttnFirstIdeal.nD Cert.AttnFirstIdeal.τ).loc Cert.AttnFirstIdeal.main_arg2))).2 = (fun _ => 1#1)

def Pre_AttnFirstRefIdeal (m : (ℓ : Loc Cert.AttnFirstRefIdeal.nD Cert.AttnFirstRefIdeal.τ Cert.AttnFirstRefIdeal.sig) → Buf (Elt Ideal) ℓ) : Prop :=
  True

def Pre_AttnFirstRefIdeal_finite [hPre_finite : Cert.Pre_finite.Facts] (m : (ℓ : Loc Cert.AttnFirstRefIdeal.nD Cert.AttnFirstRefIdeal.τ Cert.AttnFirstRefIdeal.sig) → Buf (Elt Ideal) ℓ) : Prop :=
  ∀ c : Dev Cert.AttnFirstRefIdeal.nD,
    (Cert.Pre_finite.fn (F := Ideal) (m ((c.tc : Thread Cert.AttnFirstRefIdeal.nD Cert.AttnFirstRefIdeal.τ).loc Cert.AttnFirstRefIdeal.main_arg0)) (m ((c.tc : Thread Cert.AttnFirstRefIdeal.nD Cert.AttnFirstRefIdeal.τ).loc Cert.AttnFirstRefIdeal.main_arg1)) (m ((c.tc : Thread Cert.AttnFirstRefIdeal.nD Cert.AttnFirstRefIdeal.τ).loc Cert.AttnFirstRefIdeal.main_arg2))).1 = (fun _ => 1#1)
    ∧ (Cert.Pre_finite.fn (F := Ideal) (m ((c.tc : Thread Cert.AttnFirstRefIdeal.nD Cert.AttnFirstRefIdeal.τ).loc Cert.AttnFirstRefIdeal.main_arg0)) (m ((c.tc : Thread Cert.AttnFirstRefIdeal.nD Cert.AttnFirstRefIdeal.τ).loc Cert.AttnFirstRefIdeal.main_arg1)) (m ((c.tc : Thread Cert.AttnFirstRefIdeal.nD Cert.AttnFirstRefIdeal.τ).loc Cert.AttnFirstRefIdeal.main_arg2))).2 = (fun _ => 1#1)

def Pre_AttnSecond (m : (ℓ : Loc Cert.AttnSecond.nD Cert.AttnSecond.τ Cert.AttnSecond.sig) → Buf (Elt Bits) ℓ) : Prop :=
  True

def Pre_AttnSecondIdeal (m : (ℓ : Loc Cert.AttnSecondIdeal.nD Cert.AttnSecondIdeal.τ Cert.AttnSecondIdeal.sig) → Buf (Elt Ideal) ℓ) : Prop :=
  True

def Pre_AttnSecondIdeal_finite [hPre_finite : Cert.Pre_finite.Facts] (m : (ℓ : Loc Cert.AttnSecondIdeal.nD Cert.AttnSecondIdeal.τ Cert.AttnSecondIdeal.sig) → Buf (Elt Ideal) ℓ) : Prop :=
  ∀ c : Dev Cert.AttnSecondIdeal.nD,
    (Cert.Pre_finite.fn (F := Ideal) (m ((c.tc : Thread Cert.AttnSecondIdeal.nD Cert.AttnSecondIdeal.τ).loc Cert.AttnSecondIdeal.main_arg0)) (m ((c.tc : Thread Cert.AttnSecondIdeal.nD Cert.AttnSecondIdeal.τ).loc Cert.AttnSecondIdeal.main_arg1)) (m ((c.tc : Thread Cert.AttnSecondIdeal.nD Cert.AttnSecondIdeal.τ).loc Cert.AttnSecondIdeal.main_arg2))).1 = (fun _ => 1#1)
    ∧ (Cert.Pre_finite.fn (F := Ideal) (m ((c.tc : Thread Cert.AttnSecondIdeal.nD Cert.AttnSecondIdeal.τ).loc Cert.AttnSecondIdeal.main_arg0)) (m ((c.tc : Thread Cert.AttnSecondIdeal.nD Cert.AttnSecondIdeal.τ).loc Cert.AttnSecondIdeal.main_arg1)) (m ((c.tc : Thread Cert.AttnSecondIdeal.nD Cert.AttnSecondIdeal.τ).loc Cert.AttnSecondIdeal.main_arg2))).2 = (fun _ => 1#1)

def Pre_AttnSecondRefIdeal (m : (ℓ : Loc Cert.AttnSecondRefIdeal.nD Cert.AttnSecondRefIdeal.τ Cert.AttnSecondRefIdeal.sig) → Buf (Elt Ideal) ℓ) : Prop :=
  True

def Pre_AttnSecondRefIdeal_finite [hPre_finite : Cert.Pre_finite.Facts] (m : (ℓ : Loc Cert.AttnSecondRefIdeal.nD Cert.AttnSecondRefIdeal.τ Cert.AttnSecondRefIdeal.sig) → Buf (Elt Ideal) ℓ) : Prop :=
  ∀ c : Dev Cert.AttnSecondRefIdeal.nD,
    (Cert.Pre_finite.fn (F := Ideal) (m ((c.tc : Thread Cert.AttnSecondRefIdeal.nD Cert.AttnSecondRefIdeal.τ).loc Cert.AttnSecondRefIdeal.main_arg0)) (m ((c.tc : Thread Cert.AttnSecondRefIdeal.nD Cert.AttnSecondRefIdeal.τ).loc Cert.AttnSecondRefIdeal.main_arg1)) (m ((c.tc : Thread Cert.AttnSecondRefIdeal.nD Cert.AttnSecondRefIdeal.τ).loc Cert.AttnSecondRefIdeal.main_arg2))).1 = (fun _ => 1#1)
    ∧ (Cert.Pre_finite.fn (F := Ideal) (m ((c.tc : Thread Cert.AttnSecondRefIdeal.nD Cert.AttnSecondRefIdeal.τ).loc Cert.AttnSecondRefIdeal.main_arg0)) (m ((c.tc : Thread Cert.AttnSecondRefIdeal.nD Cert.AttnSecondRefIdeal.τ).loc Cert.AttnSecondRefIdeal.main_arg1)) (m ((c.tc : Thread Cert.AttnSecondRefIdeal.nD Cert.AttnSecondRefIdeal.τ).loc Cert.AttnSecondRefIdeal.main_arg2))).2 = (fun _ => 1#1)

def Pre_AttnThird (m : (ℓ : Loc Cert.AttnThird.nD Cert.AttnThird.τ Cert.AttnThird.sig) → Buf (Elt Bits) ℓ) : Prop :=
  True

def Pre_AttnThirdIdeal (m : (ℓ : Loc Cert.AttnThirdIdeal.nD Cert.AttnThirdIdeal.τ Cert.AttnThirdIdeal.sig) → Buf (Elt Ideal) ℓ) : Prop :=
  True

def Pre_AttnThirdIdeal_finite [hPre_finite : Cert.Pre_finite.Facts] (m : (ℓ : Loc Cert.AttnThirdIdeal.nD Cert.AttnThirdIdeal.τ Cert.AttnThirdIdeal.sig) → Buf (Elt Ideal) ℓ) : Prop :=
  ∀ c : Dev Cert.AttnThirdIdeal.nD,
    (Cert.Pre_finite.fn (F := Ideal) (m ((c.tc : Thread Cert.AttnThirdIdeal.nD Cert.AttnThirdIdeal.τ).loc Cert.AttnThirdIdeal.main_arg0)) (m ((c.tc : Thread Cert.AttnThirdIdeal.nD Cert.AttnThirdIdeal.τ).loc Cert.AttnThirdIdeal.main_arg1)) (m ((c.tc : Thread Cert.AttnThirdIdeal.nD Cert.AttnThirdIdeal.τ).loc Cert.AttnThirdIdeal.main_arg2))).1 = (fun _ => 1#1)
    ∧ (Cert.Pre_finite.fn (F := Ideal) (m ((c.tc : Thread Cert.AttnThirdIdeal.nD Cert.AttnThirdIdeal.τ).loc Cert.AttnThirdIdeal.main_arg0)) (m ((c.tc : Thread Cert.AttnThirdIdeal.nD Cert.AttnThirdIdeal.τ).loc Cert.AttnThirdIdeal.main_arg1)) (m ((c.tc : Thread Cert.AttnThirdIdeal.nD Cert.AttnThirdIdeal.τ).loc Cert.AttnThirdIdeal.main_arg2))).2 = (fun _ => 1#1)

def Pre_AttnThirdRefIdeal (m : (ℓ : Loc Cert.AttnThirdRefIdeal.nD Cert.AttnThirdRefIdeal.τ Cert.AttnThirdRefIdeal.sig) → Buf (Elt Ideal) ℓ) : Prop :=
  True

def Pre_AttnThirdRefIdeal_finite [hPre_finite : Cert.Pre_finite.Facts] (m : (ℓ : Loc Cert.AttnThirdRefIdeal.nD Cert.AttnThirdRefIdeal.τ Cert.AttnThirdRefIdeal.sig) → Buf (Elt Ideal) ℓ) : Prop :=
  ∀ c : Dev Cert.AttnThirdRefIdeal.nD,
    (Cert.Pre_finite.fn (F := Ideal) (m ((c.tc : Thread Cert.AttnThirdRefIdeal.nD Cert.AttnThirdRefIdeal.τ).loc Cert.AttnThirdRefIdeal.main_arg0)) (m ((c.tc : Thread Cert.AttnThirdRefIdeal.nD Cert.AttnThirdRefIdeal.τ).loc Cert.AttnThirdRefIdeal.main_arg1)) (m ((c.tc : Thread Cert.AttnThirdRefIdeal.nD Cert.AttnThirdRefIdeal.τ).loc Cert.AttnThirdRefIdeal.main_arg2))).1 = (fun _ => 1#1)
    ∧ (Cert.Pre_finite.fn (F := Ideal) (m ((c.tc : Thread Cert.AttnThirdRefIdeal.nD Cert.AttnThirdRefIdeal.τ).loc Cert.AttnThirdRefIdeal.main_arg0)) (m ((c.tc : Thread Cert.AttnThirdRefIdeal.nD Cert.AttnThirdRefIdeal.τ).loc Cert.AttnThirdRefIdeal.main_arg1)) (m ((c.tc : Thread Cert.AttnThirdRefIdeal.nD Cert.AttnThirdRefIdeal.τ).loc Cert.AttnThirdRefIdeal.main_arg2))).2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Bounds (m : (ℓ : Loc Cert.Bounds.nD Cert.Bounds.τ Cert.Bounds.sig) → Buf (Elt Bits) ℓ) : Prop :=
  True

def Pre_BoundsIdeal (m : (ℓ : Loc Cert.BoundsIdeal.nD Cert.BoundsIdeal.τ Cert.BoundsIdeal.sig) → Buf (Elt Ideal) ℓ) : Prop :=
  True

def Pre_BoundsRefIdeal (m : (ℓ : Loc Cert.BoundsRefIdeal.nD Cert.BoundsRefIdeal.τ Cert.BoundsRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnFirst [hAttnFirst : Cert.AttnFirst.Facts] : Prop :=
  ∀ (m : (ℓ : Loc Cert.AttnFirst.nD Cert.AttnFirst.τ Cert.AttnFirst.sig) → Buf (Elt Bits) ℓ) (g : Dev Cert.AttnFirst.nD → PrngReg), Pre_AttnFirst m →
    θ_run (Cert.AttnFirst.defs (F := Bits)) (onTc (τ := Cert.AttnFirst.τ) (Cert.AttnFirst.main (F := Bits))) ⟨m, fun _ => 0, g⟩ (fun r => (∀ c : Dev Cert.AttnFirst.nD,
      r.2.mem ((c.tc : Thread Cert.AttnFirst.nD Cert.AttnFirst.τ).loc Cert.AttnFirst.main_arg0) = m ((c.tc : Thread Cert.AttnFirst.nD Cert.AttnFirst.τ).loc Cert.AttnFirst.main_arg0)
      ∧ r.2.mem ((c.tc : Thread Cert.AttnFirst.nD Cert.AttnFirst.τ).loc Cert.AttnFirst.main_arg1) = m ((c.tc : Thread Cert.AttnFirst.nD Cert.AttnFirst.τ).loc Cert.AttnFirst.main_arg1)
      ∧ r.2.mem ((c.tc : Thread Cert.AttnFirst.nD Cert.AttnFirst.τ).loc Cert.AttnFirst.main_arg2) = m ((c.tc : Thread Cert.AttnFirst.nD Cert.AttnFirst.τ).loc Cert.AttnFirst.main_arg2))
      ∧ r.2.sem = fun _ => 0)

def quiescent_AttnFirstIdeal [hAttnFirstIdeal : Cert.AttnFirstIdeal.Facts] : Prop :=
  ∀ (m : (ℓ : Loc Cert.AttnFirstIdeal.nD Cert.AttnFirstIdeal.τ Cert.AttnFirstIdeal.sig) → Buf (Elt Ideal) ℓ) (g : Dev Cert.AttnFirstIdeal.nD → PrngReg), Pre_AttnFirstIdeal m →
    θ_run (Cert.AttnFirstIdeal.defs (F := Ideal)) (onTc (τ := Cert.AttnFirstIdeal.τ) (Cert.AttnFirstIdeal.main (F := Ideal))) ⟨m, fun _ => 0, g⟩ (fun r => (∀ c : Dev Cert.AttnFirstIdeal.nD,
      r.2.mem ((c.tc : Thread Cert.AttnFirstIdeal.nD Cert.AttnFirstIdeal.τ).loc Cert.AttnFirstIdeal.main_arg0) = m ((c.tc : Thread Cert.AttnFirstIdeal.nD Cert.AttnFirstIdeal.τ).loc Cert.AttnFirstIdeal.main_arg0)
      ∧ r.2.mem ((c.tc : Thread Cert.AttnFirstIdeal.nD Cert.AttnFirstIdeal.τ).loc Cert.AttnFirstIdeal.main_arg1) = m ((c.tc : Thread Cert.AttnFirstIdeal.nD Cert.AttnFirstIdeal.τ).loc Cert.AttnFirstIdeal.main_arg1)
      ∧ r.2.mem ((c.tc : Thread Cert.AttnFirstIdeal.nD Cert.AttnFirstIdeal.τ).loc Cert.AttnFirstIdeal.main_arg2) = m ((c.tc : Thread Cert.AttnFirstIdeal.nD Cert.AttnFirstIdeal.τ).loc Cert.AttnFirstIdeal.main_arg2))
      ∧ r.2.sem = fun _ => 0)

def quiescent_AttnFirstIdeal_pre_finite [hAttnFirstIdeal : Cert.AttnFirstIdeal.Facts] [hPre_finite : Cert.Pre_finite.Facts] : Prop :=
  ∀ (m : (ℓ : Loc Cert.AttnFirstIdeal.nD Cert.AttnFirstIdeal.τ Cert.AttnFirstIdeal.sig) → Buf (Elt Ideal) ℓ) (g : Dev Cert.AttnFirstIdeal.nD → PrngReg), Pre_AttnFirstIdeal_finite m →
    θ_run (Cert.AttnFirstIdeal.defs (F := Ideal)) (onTc (τ := Cert.AttnFirstIdeal.τ) (Cert.AttnFirstIdeal.main (F := Ideal))) ⟨m, fun _ => 0, g⟩ (fun r => (∀ c : Dev Cert.AttnFirstIdeal.nD,
      r.2.mem ((c.tc : Thread Cert.AttnFirstIdeal.nD Cert.AttnFirstIdeal.τ).loc Cert.AttnFirstIdeal.main_arg0) = m ((c.tc : Thread Cert.AttnFirstIdeal.nD Cert.AttnFirstIdeal.τ).loc Cert.AttnFirstIdeal.main_arg0)
      ∧ r.2.mem ((c.tc : Thread Cert.AttnFirstIdeal.nD Cert.AttnFirstIdeal.τ).loc Cert.AttnFirstIdeal.main_arg1) = m ((c.tc : Thread Cert.AttnFirstIdeal.nD Cert.AttnFirstIdeal.τ).loc Cert.AttnFirstIdeal.main_arg1)
      ∧ r.2.mem ((c.tc : Thread Cert.AttnFirstIdeal.nD Cert.AttnFirstIdeal.τ).loc Cert.AttnFirstIdeal.main_arg2) = m ((c.tc : Thread Cert.AttnFirstIdeal.nD Cert.AttnFirstIdeal.τ).loc Cert.AttnFirstIdeal.main_arg2))
      ∧ r.2.sem = fun _ => 0)

def quiescent_AttnFirstRefIdeal [hAttnFirstRefIdeal : Cert.AttnFirstRefIdeal.Facts] : Prop :=
  ∀ (m : (ℓ : Loc Cert.AttnFirstRefIdeal.nD Cert.AttnFirstRefIdeal.τ Cert.AttnFirstRefIdeal.sig) → Buf (Elt Ideal) ℓ) (g : Dev Cert.AttnFirstRefIdeal.nD → PrngReg), Pre_AttnFirstRefIdeal m →
    θ_run (Cert.AttnFirstRefIdeal.defs (F := Ideal)) (onTc (τ := Cert.AttnFirstRefIdeal.τ) (Cert.AttnFirstRefIdeal.main (F := Ideal))) ⟨m, fun _ => 0, g⟩ (fun r => (∀ c : Dev Cert.AttnFirstRefIdeal.nD,
      r.2.mem ((c.tc : Thread Cert.AttnFirstRefIdeal.nD Cert.AttnFirstRefIdeal.τ).loc Cert.AttnFirstRefIdeal.main_arg0) = m ((c.tc : Thread Cert.AttnFirstRefIdeal.nD Cert.AttnFirstRefIdeal.τ).loc Cert.AttnFirstRefIdeal.main_arg0)
      ∧ r.2.mem ((c.tc : Thread Cert.AttnFirstRefIdeal.nD Cert.AttnFirstRefIdeal.τ).loc Cert.AttnFirstRefIdeal.main_arg1) = m ((c.tc : Thread Cert.AttnFirstRefIdeal.nD Cert.AttnFirstRefIdeal.τ).loc Cert.AttnFirstRefIdeal.main_arg1)
      ∧ r.2.mem ((c.tc : Thread Cert.AttnFirstRefIdeal.nD Cert.AttnFirstRefIdeal.τ).loc Cert.AttnFirstRefIdeal.main_arg2) = m ((c.tc : Thread Cert.AttnFirstRefIdeal.nD Cert.AttnFirstRefIdeal.τ).loc Cert.AttnFirstRefIdeal.main_arg2))
      ∧ r.2.sem = fun _ => 0)

def quiescent_AttnFirstRefIdeal_pre_finite [hAttnFirstRefIdeal : Cert.AttnFirstRefIdeal.Facts] [hPre_finite : Cert.Pre_finite.Facts] : Prop :=
  ∀ (m : (ℓ : Loc Cert.AttnFirstRefIdeal.nD Cert.AttnFirstRefIdeal.τ Cert.AttnFirstRefIdeal.sig) → Buf (Elt Ideal) ℓ) (g : Dev Cert.AttnFirstRefIdeal.nD → PrngReg), Pre_AttnFirstRefIdeal_finite m →
    θ_run (Cert.AttnFirstRefIdeal.defs (F := Ideal)) (onTc (τ := Cert.AttnFirstRefIdeal.τ) (Cert.AttnFirstRefIdeal.main (F := Ideal))) ⟨m, fun _ => 0, g⟩ (fun r => (∀ c : Dev Cert.AttnFirstRefIdeal.nD,
      r.2.mem ((c.tc : Thread Cert.AttnFirstRefIdeal.nD Cert.AttnFirstRefIdeal.τ).loc Cert.AttnFirstRefIdeal.main_arg0) = m ((c.tc : Thread Cert.AttnFirstRefIdeal.nD Cert.AttnFirstRefIdeal.τ).loc Cert.AttnFirstRefIdeal.main_arg0)
      ∧ r.2.mem ((c.tc : Thread Cert.AttnFirstRefIdeal.nD Cert.AttnFirstRefIdeal.τ).loc Cert.AttnFirstRefIdeal.main_arg1) = m ((c.tc : Thread Cert.AttnFirstRefIdeal.nD Cert.AttnFirstRefIdeal.τ).loc Cert.AttnFirstRefIdeal.main_arg1)
      ∧ r.2.mem ((c.tc : Thread Cert.AttnFirstRefIdeal.nD Cert.AttnFirstRefIdeal.τ).loc Cert.AttnFirstRefIdeal.main_arg2) = m ((c.tc : Thread Cert.AttnFirstRefIdeal.nD Cert.AttnFirstRefIdeal.τ).loc Cert.AttnFirstRefIdeal.main_arg2))
      ∧ r.2.sem = fun _ => 0)

def quiescent_AttnSecond [hAttnSecond : Cert.AttnSecond.Facts] : Prop :=
  ∀ (m : (ℓ : Loc Cert.AttnSecond.nD Cert.AttnSecond.τ Cert.AttnSecond.sig) → Buf (Elt Bits) ℓ) (g : Dev Cert.AttnSecond.nD → PrngReg), Pre_AttnSecond m →
    θ_run (Cert.AttnSecond.defs (F := Bits)) (onTc (τ := Cert.AttnSecond.τ) (Cert.AttnSecond.main (F := Bits))) ⟨m, fun _ => 0, g⟩ (fun r => (∀ c : Dev Cert.AttnSecond.nD,
      r.2.mem ((c.tc : Thread Cert.AttnSecond.nD Cert.AttnSecond.τ).loc Cert.AttnSecond.main_arg0) = m ((c.tc : Thread Cert.AttnSecond.nD Cert.AttnSecond.τ).loc Cert.AttnSecond.main_arg0)
      ∧ r.2.mem ((c.tc : Thread Cert.AttnSecond.nD Cert.AttnSecond.τ).loc Cert.AttnSecond.main_arg1) = m ((c.tc : Thread Cert.AttnSecond.nD Cert.AttnSecond.τ).loc Cert.AttnSecond.main_arg1)
      ∧ r.2.mem ((c.tc : Thread Cert.AttnSecond.nD Cert.AttnSecond.τ).loc Cert.AttnSecond.main_arg2) = m ((c.tc : Thread Cert.AttnSecond.nD Cert.AttnSecond.τ).loc Cert.AttnSecond.main_arg2))
      ∧ r.2.sem = fun _ => 0)

def quiescent_AttnSecondIdeal [hAttnSecondIdeal : Cert.AttnSecondIdeal.Facts] : Prop :=
  ∀ (m : (ℓ : Loc Cert.AttnSecondIdeal.nD Cert.AttnSecondIdeal.τ Cert.AttnSecondIdeal.sig) → Buf (Elt Ideal) ℓ) (g : Dev Cert.AttnSecondIdeal.nD → PrngReg), Pre_AttnSecondIdeal m →
    θ_run (Cert.AttnSecondIdeal.defs (F := Ideal)) (onTc (τ := Cert.AttnSecondIdeal.τ) (Cert.AttnSecondIdeal.main (F := Ideal))) ⟨m, fun _ => 0, g⟩ (fun r => (∀ c : Dev Cert.AttnSecondIdeal.nD,
      r.2.mem ((c.tc : Thread Cert.AttnSecondIdeal.nD Cert.AttnSecondIdeal.τ).loc Cert.AttnSecondIdeal.main_arg0) = m ((c.tc : Thread Cert.AttnSecondIdeal.nD Cert.AttnSecondIdeal.τ).loc Cert.AttnSecondIdeal.main_arg0)
      ∧ r.2.mem ((c.tc : Thread Cert.AttnSecondIdeal.nD Cert.AttnSecondIdeal.τ).loc Cert.AttnSecondIdeal.main_arg1) = m ((c.tc : Thread Cert.AttnSecondIdeal.nD Cert.AttnSecondIdeal.τ).loc Cert.AttnSecondIdeal.main_arg1)
      ∧ r.2.mem ((c.tc : Thread Cert.AttnSecondIdeal.nD Cert.AttnSecondIdeal.τ).loc Cert.AttnSecondIdeal.main_arg2) = m ((c.tc : Thread Cert.AttnSecondIdeal.nD Cert.AttnSecondIdeal.τ).loc Cert.AttnSecondIdeal.main_arg2))
      ∧ r.2.sem = fun _ => 0)

def quiescent_AttnSecondIdeal_pre_finite [hAttnSecondIdeal : Cert.AttnSecondIdeal.Facts] [hPre_finite : Cert.Pre_finite.Facts] : Prop :=
  ∀ (m : (ℓ : Loc Cert.AttnSecondIdeal.nD Cert.AttnSecondIdeal.τ Cert.AttnSecondIdeal.sig) → Buf (Elt Ideal) ℓ) (g : Dev Cert.AttnSecondIdeal.nD → PrngReg), Pre_AttnSecondIdeal_finite m →
    θ_run (Cert.AttnSecondIdeal.defs (F := Ideal)) (onTc (τ := Cert.AttnSecondIdeal.τ) (Cert.AttnSecondIdeal.main (F := Ideal))) ⟨m, fun _ => 0, g⟩ (fun r => (∀ c : Dev Cert.AttnSecondIdeal.nD,
      r.2.mem ((c.tc : Thread Cert.AttnSecondIdeal.nD Cert.AttnSecondIdeal.τ).loc Cert.AttnSecondIdeal.main_arg0) = m ((c.tc : Thread Cert.AttnSecondIdeal.nD Cert.AttnSecondIdeal.τ).loc Cert.AttnSecondIdeal.main_arg0)
      ∧ r.2.mem ((c.tc : Thread Cert.AttnSecondIdeal.nD Cert.AttnSecondIdeal.τ).loc Cert.AttnSecondIdeal.main_arg1) = m ((c.tc : Thread Cert.AttnSecondIdeal.nD Cert.AttnSecondIdeal.τ).loc Cert.AttnSecondIdeal.main_arg1)
      ∧ r.2.mem ((c.tc : Thread Cert.AttnSecondIdeal.nD Cert.AttnSecondIdeal.τ).loc Cert.AttnSecondIdeal.main_arg2) = m ((c.tc : Thread Cert.AttnSecondIdeal.nD Cert.AttnSecondIdeal.τ).loc Cert.AttnSecondIdeal.main_arg2))
      ∧ r.2.sem = fun _ => 0)

def quiescent_AttnSecondRefIdeal [hAttnSecondRefIdeal : Cert.AttnSecondRefIdeal.Facts] : Prop :=
  ∀ (m : (ℓ : Loc Cert.AttnSecondRefIdeal.nD Cert.AttnSecondRefIdeal.τ Cert.AttnSecondRefIdeal.sig) → Buf (Elt Ideal) ℓ) (g : Dev Cert.AttnSecondRefIdeal.nD → PrngReg), Pre_AttnSecondRefIdeal m →
    θ_run (Cert.AttnSecondRefIdeal.defs (F := Ideal)) (onTc (τ := Cert.AttnSecondRefIdeal.τ) (Cert.AttnSecondRefIdeal.main (F := Ideal))) ⟨m, fun _ => 0, g⟩ (fun r => (∀ c : Dev Cert.AttnSecondRefIdeal.nD,
      r.2.mem ((c.tc : Thread Cert.AttnSecondRefIdeal.nD Cert.AttnSecondRefIdeal.τ).loc Cert.AttnSecondRefIdeal.main_arg0) = m ((c.tc : Thread Cert.AttnSecondRefIdeal.nD Cert.AttnSecondRefIdeal.τ).loc Cert.AttnSecondRefIdeal.main_arg0)
      ∧ r.2.mem ((c.tc : Thread Cert.AttnSecondRefIdeal.nD Cert.AttnSecondRefIdeal.τ).loc Cert.AttnSecondRefIdeal.main_arg1) = m ((c.tc : Thread Cert.AttnSecondRefIdeal.nD Cert.AttnSecondRefIdeal.τ).loc Cert.AttnSecondRefIdeal.main_arg1)
      ∧ r.2.mem ((c.tc : Thread Cert.AttnSecondRefIdeal.nD Cert.AttnSecondRefIdeal.τ).loc Cert.AttnSecondRefIdeal.main_arg2) = m ((c.tc : Thread Cert.AttnSecondRefIdeal.nD Cert.AttnSecondRefIdeal.τ).loc Cert.AttnSecondRefIdeal.main_arg2))
      ∧ r.2.sem = fun _ => 0)

def quiescent_AttnSecondRefIdeal_pre_finite [hAttnSecondRefIdeal : Cert.AttnSecondRefIdeal.Facts] [hPre_finite : Cert.Pre_finite.Facts] : Prop :=
  ∀ (m : (ℓ : Loc Cert.AttnSecondRefIdeal.nD Cert.AttnSecondRefIdeal.τ Cert.AttnSecondRefIdeal.sig) → Buf (Elt Ideal) ℓ) (g : Dev Cert.AttnSecondRefIdeal.nD → PrngReg), Pre_AttnSecondRefIdeal_finite m →
    θ_run (Cert.AttnSecondRefIdeal.defs (F := Ideal)) (onTc (τ := Cert.AttnSecondRefIdeal.τ) (Cert.AttnSecondRefIdeal.main (F := Ideal))) ⟨m, fun _ => 0, g⟩ (fun r => (∀ c : Dev Cert.AttnSecondRefIdeal.nD,
      r.2.mem ((c.tc : Thread Cert.AttnSecondRefIdeal.nD Cert.AttnSecondRefIdeal.τ).loc Cert.AttnSecondRefIdeal.main_arg0) = m ((c.tc : Thread Cert.AttnSecondRefIdeal.nD Cert.AttnSecondRefIdeal.τ).loc Cert.AttnSecondRefIdeal.main_arg0)
      ∧ r.2.mem ((c.tc : Thread Cert.AttnSecondRefIdeal.nD Cert.AttnSecondRefIdeal.τ).loc Cert.AttnSecondRefIdeal.main_arg1) = m ((c.tc : Thread Cert.AttnSecondRefIdeal.nD Cert.AttnSecondRefIdeal.τ).loc Cert.AttnSecondRefIdeal.main_arg1)
      ∧ r.2.mem ((c.tc : Thread Cert.AttnSecondRefIdeal.nD Cert.AttnSecondRefIdeal.τ).loc Cert.AttnSecondRefIdeal.main_arg2) = m ((c.tc : Thread Cert.AttnSecondRefIdeal.nD Cert.AttnSecondRefIdeal.τ).loc Cert.AttnSecondRefIdeal.main_arg2))
      ∧ r.2.sem = fun _ => 0)

def quiescent_AttnThird [hAttnThird : Cert.AttnThird.Facts] : Prop :=
  ∀ (m : (ℓ : Loc Cert.AttnThird.nD Cert.AttnThird.τ Cert.AttnThird.sig) → Buf (Elt Bits) ℓ) (g : Dev Cert.AttnThird.nD → PrngReg), Pre_AttnThird m →
    θ_run (Cert.AttnThird.defs (F := Bits)) (onTc (τ := Cert.AttnThird.τ) (Cert.AttnThird.main (F := Bits))) ⟨m, fun _ => 0, g⟩ (fun r => (∀ c : Dev Cert.AttnThird.nD,
      r.2.mem ((c.tc : Thread Cert.AttnThird.nD Cert.AttnThird.τ).loc Cert.AttnThird.main_arg0) = m ((c.tc : Thread Cert.AttnThird.nD Cert.AttnThird.τ).loc Cert.AttnThird.main_arg0)
      ∧ r.2.mem ((c.tc : Thread Cert.AttnThird.nD Cert.AttnThird.τ).loc Cert.AttnThird.main_arg1) = m ((c.tc : Thread Cert.AttnThird.nD Cert.AttnThird.τ).loc Cert.AttnThird.main_arg1)
      ∧ r.2.mem ((c.tc : Thread Cert.AttnThird.nD Cert.AttnThird.τ).loc Cert.AttnThird.main_arg2) = m ((c.tc : Thread Cert.AttnThird.nD Cert.AttnThird.τ).loc Cert.AttnThird.main_arg2))
      ∧ r.2.sem = fun _ => 0)

def quiescent_AttnThirdIdeal [hAttnThirdIdeal : Cert.AttnThirdIdeal.Facts] : Prop :=
  ∀ (m : (ℓ : Loc Cert.AttnThirdIdeal.nD Cert.AttnThirdIdeal.τ Cert.AttnThirdIdeal.sig) → Buf (Elt Ideal) ℓ) (g : Dev Cert.AttnThirdIdeal.nD → PrngReg), Pre_AttnThirdIdeal m →
    θ_run (Cert.AttnThirdIdeal.defs (F := Ideal)) (onTc (τ := Cert.AttnThirdIdeal.τ) (Cert.AttnThirdIdeal.main (F := Ideal))) ⟨m, fun _ => 0, g⟩ (fun r => (∀ c : Dev Cert.AttnThirdIdeal.nD,
      r.2.mem ((c.tc : Thread Cert.AttnThirdIdeal.nD Cert.AttnThirdIdeal.τ).loc Cert.AttnThirdIdeal.main_arg0) = m ((c.tc : Thread Cert.AttnThirdIdeal.nD Cert.AttnThirdIdeal.τ).loc Cert.AttnThirdIdeal.main_arg0)
      ∧ r.2.mem ((c.tc : Thread Cert.AttnThirdIdeal.nD Cert.AttnThirdIdeal.τ).loc Cert.AttnThirdIdeal.main_arg1) = m ((c.tc : Thread Cert.AttnThirdIdeal.nD Cert.AttnThirdIdeal.τ).loc Cert.AttnThirdIdeal.main_arg1)
      ∧ r.2.mem ((c.tc : Thread Cert.AttnThirdIdeal.nD Cert.AttnThirdIdeal.τ).loc Cert.AttnThirdIdeal.main_arg2) = m ((c.tc : Thread Cert.AttnThirdIdeal.nD Cert.AttnThirdIdeal.τ).loc Cert.AttnThirdIdeal.main_arg2))
      ∧ r.2.sem = fun _ => 0)

def quiescent_AttnThirdIdeal_pre_finite [hAttnThirdIdeal : Cert.AttnThirdIdeal.Facts] [hPre_finite : Cert.Pre_finite.Facts] : Prop :=
  ∀ (m : (ℓ : Loc Cert.AttnThirdIdeal.nD Cert.AttnThirdIdeal.τ Cert.AttnThirdIdeal.sig) → Buf (Elt Ideal) ℓ) (g : Dev Cert.AttnThirdIdeal.nD → PrngReg), Pre_AttnThirdIdeal_finite m →
    θ_run (Cert.AttnThirdIdeal.defs (F := Ideal)) (onTc (τ := Cert.AttnThirdIdeal.τ) (Cert.AttnThirdIdeal.main (F := Ideal))) ⟨m, fun _ => 0, g⟩ (fun r => (∀ c : Dev Cert.AttnThirdIdeal.nD,
      r.2.mem ((c.tc : Thread Cert.AttnThirdIdeal.nD Cert.AttnThirdIdeal.τ).loc Cert.AttnThirdIdeal.main_arg0) = m ((c.tc : Thread Cert.AttnThirdIdeal.nD Cert.AttnThirdIdeal.τ).loc Cert.AttnThirdIdeal.main_arg0)
      ∧ r.2.mem ((c.tc : Thread Cert.AttnThirdIdeal.nD Cert.AttnThirdIdeal.τ).loc Cert.AttnThirdIdeal.main_arg1) = m ((c.tc : Thread Cert.AttnThirdIdeal.nD Cert.AttnThirdIdeal.τ).loc Cert.AttnThirdIdeal.main_arg1)
      ∧ r.2.mem ((c.tc : Thread Cert.AttnThirdIdeal.nD Cert.AttnThirdIdeal.τ).loc Cert.AttnThirdIdeal.main_arg2) = m ((c.tc : Thread Cert.AttnThirdIdeal.nD Cert.AttnThirdIdeal.τ).loc Cert.AttnThirdIdeal.main_arg2))
      ∧ r.2.sem = fun _ => 0)

def quiescent_AttnThirdRefIdeal [hAttnThirdRefIdeal : Cert.AttnThirdRefIdeal.Facts] : Prop :=
  ∀ (m : (ℓ : Loc Cert.AttnThirdRefIdeal.nD Cert.AttnThirdRefIdeal.τ Cert.AttnThirdRefIdeal.sig) → Buf (Elt Ideal) ℓ) (g : Dev Cert.AttnThirdRefIdeal.nD → PrngReg), Pre_AttnThirdRefIdeal m →
    θ_run (Cert.AttnThirdRefIdeal.defs (F := Ideal)) (onTc (τ := Cert.AttnThirdRefIdeal.τ) (Cert.AttnThirdRefIdeal.main (F := Ideal))) ⟨m, fun _ => 0, g⟩ (fun r => (∀ c : Dev Cert.AttnThirdRefIdeal.nD,
      r.2.mem ((c.tc : Thread Cert.AttnThirdRefIdeal.nD Cert.AttnThirdRefIdeal.τ).loc Cert.AttnThirdRefIdeal.main_arg0) = m ((c.tc : Thread Cert.AttnThirdRefIdeal.nD Cert.AttnThirdRefIdeal.τ).loc Cert.AttnThirdRefIdeal.main_arg0)
      ∧ r.2.mem ((c.tc : Thread Cert.AttnThirdRefIdeal.nD Cert.AttnThirdRefIdeal.τ).loc Cert.AttnThirdRefIdeal.main_arg1) = m ((c.tc : Thread Cert.AttnThirdRefIdeal.nD Cert.AttnThirdRefIdeal.τ).loc Cert.AttnThirdRefIdeal.main_arg1)
      ∧ r.2.mem ((c.tc : Thread Cert.AttnThirdRefIdeal.nD Cert.AttnThirdRefIdeal.τ).loc Cert.AttnThirdRefIdeal.main_arg2) = m ((c.tc : Thread Cert.AttnThirdRefIdeal.nD Cert.AttnThirdRefIdeal.τ).loc Cert.AttnThirdRefIdeal.main_arg2))
      ∧ r.2.sem = fun _ => 0)

def quiescent_AttnThirdRefIdeal_pre_finite [hAttnThirdRefIdeal : Cert.AttnThirdRefIdeal.Facts] [hPre_finite : Cert.Pre_finite.Facts] : Prop :=
  ∀ (m : (ℓ : Loc Cert.AttnThirdRefIdeal.nD Cert.AttnThirdRefIdeal.τ Cert.AttnThirdRefIdeal.sig) → Buf (Elt Ideal) ℓ) (g : Dev Cert.AttnThirdRefIdeal.nD → PrngReg), Pre_AttnThirdRefIdeal_finite m →
    θ_run (Cert.AttnThirdRefIdeal.defs (F := Ideal)) (onTc (τ := Cert.AttnThirdRefIdeal.τ) (Cert.AttnThirdRefIdeal.main (F := Ideal))) ⟨m, fun _ => 0, g⟩ (fun r => (∀ c : Dev Cert.AttnThirdRefIdeal.nD,
      r.2.mem ((c.tc : Thread Cert.AttnThirdRefIdeal.nD Cert.AttnThirdRefIdeal.τ).loc Cert.AttnThirdRefIdeal.main_arg0) = m ((c.tc : Thread Cert.AttnThirdRefIdeal.nD Cert.AttnThirdRefIdeal.τ).loc Cert.AttnThirdRefIdeal.main_arg0)
      ∧ r.2.mem ((c.tc : Thread Cert.AttnThirdRefIdeal.nD Cert.AttnThirdRefIdeal.τ).loc Cert.AttnThirdRefIdeal.main_arg1) = m ((c.tc : Thread Cert.AttnThirdRefIdeal.nD Cert.AttnThirdRefIdeal.τ).loc Cert.AttnThirdRefIdeal.main_arg1)
      ∧ r.2.mem ((c.tc : Thread Cert.AttnThirdRefIdeal.nD Cert.AttnThirdRefIdeal.τ).loc Cert.AttnThirdRefIdeal.main_arg2) = m ((c.tc : Thread Cert.AttnThirdRefIdeal.nD Cert.AttnThirdRefIdeal.τ).loc Cert.AttnThirdRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14)
      ∧ r.2.mem ((c.tc : Thread Cert.Post.nD Cert.Post.τ).loc Cert.Post.main_arg15) = m ((c.tc : Thread Cert.Post.nD Cert.Post.τ).loc Cert.Post.main_arg15)
      ∧ r.2.mem ((c.tc : Thread Cert.Post.nD Cert.Post.τ).loc Cert.Post.main_arg16) = m ((c.tc : Thread Cert.Post.nD Cert.Post.τ).loc Cert.Post.main_arg16))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
      ∧ r.2.mem ((c.tc : Thread Cert.PostIdeal.nD Cert.PostIdeal.τ).loc Cert.PostIdeal.main_arg16) = m ((c.tc : Thread Cert.PostIdeal.nD Cert.PostIdeal.τ).loc Cert.PostIdeal.main_arg16))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14)
      ∧ r.2.mem ((c.tc : Thread Cert.PostRefIdeal.nD Cert.PostRefIdeal.τ).loc Cert.PostRefIdeal.main_arg15) = m ((c.tc : Thread Cert.PostRefIdeal.nD Cert.PostRefIdeal.τ).loc Cert.PostRefIdeal.main_arg15)
      ∧ r.2.mem ((c.tc : Thread Cert.PostRefIdeal.nD Cert.PostRefIdeal.τ).loc Cert.PostRefIdeal.main_arg16) = m ((c.tc : Thread Cert.PostRefIdeal.nD Cert.PostRefIdeal.τ).loc Cert.PostRefIdeal.main_arg16))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12)
      ∧ r.2.mem ((c.tc : Thread Cert.Mid.nD Cert.Mid.τ).loc Cert.Mid.main_arg13) = m ((c.tc : Thread Cert.Mid.nD Cert.Mid.τ).loc Cert.Mid.main_arg13)
      ∧ r.2.mem ((c.tc : Thread Cert.Mid.nD Cert.Mid.τ).loc Cert.Mid.main_arg14) = m ((c.tc : Thread Cert.Mid.nD Cert.Mid.τ).loc Cert.Mid.main_arg14)
      ∧ r.2.mem ((c.tc : Thread Cert.Mid.nD Cert.Mid.τ).loc Cert.Mid.main_arg15) = m ((c.tc : Thread Cert.Mid.nD Cert.Mid.τ).loc Cert.Mid.main_arg15)
      ∧ r.2.mem ((c.tc : Thread Cert.Mid.nD Cert.Mid.τ).loc Cert.Mid.main_arg16) = m ((c.tc : Thread Cert.Mid.nD Cert.Mid.τ).loc Cert.Mid.main_arg16))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
      ∧ r.2.mem ((c.tc : Thread Cert.MidIdeal.nD Cert.MidIdeal.τ).loc Cert.MidIdeal.main_arg13) = m ((c.tc : Thread Cert.MidIdeal.nD Cert.MidIdeal.τ).loc Cert.MidIdeal.main_arg13)
      ∧ r.2.mem ((c.tc : Thread Cert.MidIdeal.nD Cert.MidIdeal.τ).loc Cert.MidIdeal.main_arg14) = m ((c.tc : Thread Cert.MidIdeal.nD Cert.MidIdeal.τ).loc Cert.MidIdeal.main_arg14)
      ∧ r.2.mem ((c.tc : Thread Cert.MidIdeal.nD Cert.MidIdeal.τ).loc Cert.MidIdeal.main_arg15) = m ((c.tc : Thread Cert.MidIdeal.nD Cert.MidIdeal.τ).loc Cert.MidIdeal.main_arg15)
      ∧ r.2.mem ((c.tc : Thread Cert.MidIdeal.nD Cert.MidIdeal.τ).loc Cert.MidIdeal.main_arg16) = m ((c.tc : Thread Cert.MidIdeal.nD Cert.MidIdeal.τ).loc Cert.MidIdeal.main_arg16))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12)
      ∧ r.2.mem ((c.tc : Thread Cert.MidRefIdeal.nD Cert.MidRefIdeal.τ).loc Cert.MidRefIdeal.main_arg13) = m ((c.tc : Thread Cert.MidRefIdeal.nD Cert.MidRefIdeal.τ).loc Cert.MidRefIdeal.main_arg13)
      ∧ r.2.mem ((c.tc : Thread Cert.MidRefIdeal.nD Cert.MidRefIdeal.τ).loc Cert.MidRefIdeal.main_arg14) = m ((c.tc : Thread Cert.MidRefIdeal.nD Cert.MidRefIdeal.τ).loc Cert.MidRefIdeal.main_arg14)
      ∧ r.2.mem ((c.tc : Thread Cert.MidRefIdeal.nD Cert.MidRefIdeal.τ).loc Cert.MidRefIdeal.main_arg15) = m ((c.tc : Thread Cert.MidRefIdeal.nD Cert.MidRefIdeal.τ).loc Cert.MidRefIdeal.main_arg15)
      ∧ r.2.mem ((c.tc : Thread Cert.MidRefIdeal.nD Cert.MidRefIdeal.τ).loc Cert.MidRefIdeal.main_arg16) = m ((c.tc : Thread Cert.MidRefIdeal.nD Cert.MidRefIdeal.τ).loc Cert.MidRefIdeal.main_arg16))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Bounds [hBounds : Cert.Bounds.Facts] : Prop :=
  ∀ (m : (ℓ : Loc Cert.Bounds.nD Cert.Bounds.τ Cert.Bounds.sig) → Buf (Elt Bits) ℓ) (g : Dev Cert.Bounds.nD → PrngReg), Pre_Bounds m →
    θ_run (Cert.Bounds.defs (F := Bits)) (onTc (τ := Cert.Bounds.τ) (Cert.Bounds.main (F := Bits))) ⟨m, fun _ => 0, g⟩ (fun r => (∀ c : Dev Cert.Bounds.nD,
      r.2.mem ((c.tc : Thread Cert.Bounds.nD Cert.Bounds.τ).loc Cert.Bounds.main_arg0) = m ((c.tc : Thread Cert.Bounds.nD Cert.Bounds.τ).loc Cert.Bounds.main_arg0))
      ∧ r.2.sem = fun _ => 0)

def quiescent_BoundsIdeal [hBoundsIdeal : Cert.BoundsIdeal.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ r.2.sem = fun _ => 0)

def quiescent_BoundsRefIdeal [hBoundsRefIdeal : Cert.BoundsRefIdeal.Facts] : Prop :=
  ∀ (m : (ℓ : Loc Cert.BoundsRefIdeal.nD Cert.BoundsRefIdeal.τ Cert.BoundsRefIdeal.sig) → Buf (Elt Ideal) ℓ) (g : Dev Cert.BoundsRefIdeal.nD → PrngReg), Pre_BoundsRefIdeal m →
    θ_run (Cert.BoundsRefIdeal.defs (F := Ideal)) (onTc (τ := Cert.BoundsRefIdeal.τ) (Cert.BoundsRefIdeal.main (F := Ideal))) ⟨m, fun _ => 0, g⟩ (fun r => (∀ c : Dev Cert.BoundsRefIdeal.nD,
      r.2.mem ((c.tc : Thread Cert.BoundsRefIdeal.nD Cert.BoundsRefIdeal.τ).loc Cert.BoundsRefIdeal.main_arg0) = m ((c.tc : Thread Cert.BoundsRefIdeal.nD Cert.BoundsRefIdeal.τ).loc Cert.BoundsRefIdeal.main_arg0))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v79) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_AttnFirst_AttnFirstIdeal : Prop :=
  True

def algebraic_AttnFirstIdeal_AttnFirstRefIdeal_pre_finite [hAttnFirstIdeal : Cert.AttnFirstIdeal.Facts] [hAttnFirstRefIdeal : Cert.AttnFirstRefIdeal.Facts] [hPre_finite : Cert.Pre_finite.Facts] : Prop :=
  ∀ (m : (ℓ : Loc Cert.AttnFirstIdeal.nD Cert.AttnFirstIdeal.τ Cert.AttnFirstIdeal.sig) → Buf (Elt Ideal) ℓ) (g : Dev Cert.AttnFirstIdeal.nD → PrngReg)
    (m' : (ℓ : Loc Cert.AttnFirstRefIdeal.nD Cert.AttnFirstRefIdeal.τ Cert.AttnFirstRefIdeal.sig) → Buf (Elt Ideal) ℓ) (g' : Dev Cert.AttnFirstRefIdeal.nD → PrngReg), Pre_AttnFirstIdeal_finite m →
    (∀ c : Dev Cert.AttnFirstIdeal.nD,
      m' ((c.tc : Thread Cert.AttnFirstRefIdeal.nD Cert.AttnFirstRefIdeal.τ).loc Cert.AttnFirstRefIdeal.main_arg0) = m ((c.tc : Thread Cert.AttnFirstIdeal.nD Cert.AttnFirstIdeal.τ).loc Cert.AttnFirstIdeal.main_arg0)
      ∧ m' ((c.tc : Thread Cert.AttnFirstRefIdeal.nD Cert.AttnFirstRefIdeal.τ).loc Cert.AttnFirstRefIdeal.main_arg1) = m ((c.tc : Thread Cert.AttnFirstIdeal.nD Cert.AttnFirstIdeal.τ).loc Cert.AttnFirstIdeal.main_arg1)
      ∧ m' ((c.tc : Thread Cert.AttnFirstRefIdeal.nD Cert.AttnFirstRefIdeal.τ).loc Cert.AttnFirstRefIdeal.main_arg2) = m ((c.tc : Thread Cert.AttnFirstIdeal.nD Cert.AttnFirstIdeal.τ).loc Cert.AttnFirstIdeal.main_arg2)) →
    ∃ (v0 : (c : Dev Cert.AttnFirstIdeal.nD) → Buf (Elt Ideal) ((c.tc : Thread Cert.AttnFirstIdeal.nD Cert.AttnFirstIdeal.τ).loc Cert.AttnFirstIdeal.main_v1)),
      θ_run (Cert.AttnFirstIdeal.defs (F := Ideal)) (onTc (τ := Cert.AttnFirstIdeal.τ) (Cert.AttnFirstIdeal.main (F := Ideal))) ⟨m, fun _ => 0, g⟩ (fun r => ∀ c : Dev Cert.AttnFirstIdeal.nD,
          r.2.mem ((c.tc : Thread Cert.AttnFirstIdeal.nD Cert.AttnFirstIdeal.τ).loc Cert.AttnFirstIdeal.main_v1) = v0 c
          ∧ r.2.mem ((c.tc : Thread Cert.AttnFirstIdeal.nD Cert.AttnFirstIdeal.τ).loc Cert.AttnFirstIdeal.main_arg0) = m ((c.tc : Thread Cert.AttnFirstIdeal.nD Cert.AttnFirstIdeal.τ).loc Cert.AttnFirstIdeal.main_arg0)
          ∧ r.2.mem ((c.tc : Thread Cert.AttnFirstIdeal.nD Cert.AttnFirstIdeal.τ).loc Cert.AttnFirstIdeal.main_arg1) = m ((c.tc : Thread Cert.AttnFirstIdeal.nD Cert.AttnFirstIdeal.τ).loc Cert.AttnFirstIdeal.main_arg1)
          ∧ r.2.mem ((c.tc : Thread Cert.AttnFirstIdeal.nD Cert.AttnFirstIdeal.τ).loc Cert.AttnFirstIdeal.main_arg2) = m ((c.tc : Thread Cert.AttnFirstIdeal.nD Cert.AttnFirstIdeal.τ).loc Cert.AttnFirstIdeal.main_arg2))
      ∧ θ_run (Cert.AttnFirstRefIdeal.defs (F := Ideal)) (onTc (τ := Cert.AttnFirstRefIdeal.τ) (Cert.AttnFirstRefIdeal.main (F := Ideal))) ⟨m', fun _ => 0, g'⟩ (fun r => ∀ c : Dev Cert.AttnFirstRefIdeal.nD,
          r.2.mem ((c.tc : Thread Cert.AttnFirstRefIdeal.nD Cert.AttnFirstRefIdeal.τ).loc Cert.AttnFirstRefIdeal.main_v79) = v0 c
          ∧ r.2.mem ((c.tc : Thread Cert.AttnFirstRefIdeal.nD Cert.AttnFirstRefIdeal.τ).loc Cert.AttnFirstRefIdeal.main_arg0) = m' ((c.tc : Thread Cert.AttnFirstRefIdeal.nD Cert.AttnFirstRefIdeal.τ).loc Cert.AttnFirstRefIdeal.main_arg0)
          ∧ r.2.mem ((c.tc : Thread Cert.AttnFirstRefIdeal.nD Cert.AttnFirstRefIdeal.τ).loc Cert.AttnFirstRefIdeal.main_arg1) = m' ((c.tc : Thread Cert.AttnFirstRefIdeal.nD Cert.AttnFirstRefIdeal.τ).loc Cert.AttnFirstRefIdeal.main_arg1)
          ∧ r.2.mem ((c.tc : Thread Cert.AttnFirstRefIdeal.nD Cert.AttnFirstRefIdeal.τ).loc Cert.AttnFirstRefIdeal.main_arg2) = m' ((c.tc : Thread Cert.AttnFirstRefIdeal.nD Cert.AttnFirstRefIdeal.τ).loc Cert.AttnFirstRefIdeal.main_arg2))

def preserves_AttnSecond_AttnSecondIdeal : Prop :=
  True

def algebraic_AttnSecondIdeal_AttnSecondRefIdeal_pre_finite [hAttnSecondIdeal : Cert.AttnSecondIdeal.Facts] [hAttnSecondRefIdeal : Cert.AttnSecondRefIdeal.Facts] [hPre_finite : Cert.Pre_finite.Facts] : Prop :=
  ∀ (m : (ℓ : Loc Cert.AttnSecondIdeal.nD Cert.AttnSecondIdeal.τ Cert.AttnSecondIdeal.sig) → Buf (Elt Ideal) ℓ) (g : Dev Cert.AttnSecondIdeal.nD → PrngReg)
    (m' : (ℓ : Loc Cert.AttnSecondRefIdeal.nD Cert.AttnSecondRefIdeal.τ Cert.AttnSecondRefIdeal.sig) → Buf (Elt Ideal) ℓ) (g' : Dev Cert.AttnSecondRefIdeal.nD → PrngReg), Pre_AttnSecondIdeal_finite m →
    (∀ c : Dev Cert.AttnSecondIdeal.nD,
      m' ((c.tc : Thread Cert.AttnSecondRefIdeal.nD Cert.AttnSecondRefIdeal.τ).loc Cert.AttnSecondRefIdeal.main_arg0) = m ((c.tc : Thread Cert.AttnSecondIdeal.nD Cert.AttnSecondIdeal.τ).loc Cert.AttnSecondIdeal.main_arg0)
      ∧ m' ((c.tc : Thread Cert.AttnSecondRefIdeal.nD Cert.AttnSecondRefIdeal.τ).loc Cert.AttnSecondRefIdeal.main_arg1) = m ((c.tc : Thread Cert.AttnSecondIdeal.nD Cert.AttnSecondIdeal.τ).loc Cert.AttnSecondIdeal.main_arg1)
      ∧ m' ((c.tc : Thread Cert.AttnSecondRefIdeal.nD Cert.AttnSecondRefIdeal.τ).loc Cert.AttnSecondRefIdeal.main_arg2) = m ((c.tc : Thread Cert.AttnSecondIdeal.nD Cert.AttnSecondIdeal.τ).loc Cert.AttnSecondIdeal.main_arg2)) →
    ∃ (v0 : (c : Dev Cert.AttnSecondIdeal.nD) → Buf (Elt Ideal) ((c.tc : Thread Cert.AttnSecondIdeal.nD Cert.AttnSecondIdeal.τ).loc Cert.AttnSecondIdeal.main_v1)),
      θ_run (Cert.AttnSecondIdeal.defs (F := Ideal)) (onTc (τ := Cert.AttnSecondIdeal.τ) (Cert.AttnSecondIdeal.main (F := Ideal))) ⟨m, fun _ => 0, g⟩ (fun r => ∀ c : Dev Cert.AttnSecondIdeal.nD,
          r.2.mem ((c.tc : Thread Cert.AttnSecondIdeal.nD Cert.AttnSecondIdeal.τ).loc Cert.AttnSecondIdeal.main_v1) = v0 c
          ∧ r.2.mem ((c.tc : Thread Cert.AttnSecondIdeal.nD Cert.AttnSecondIdeal.τ).loc Cert.AttnSecondIdeal.main_arg0) = m ((c.tc : Thread Cert.AttnSecondIdeal.nD Cert.AttnSecondIdeal.τ).loc Cert.AttnSecondIdeal.main_arg0)
          ∧ r.2.mem ((c.tc : Thread Cert.AttnSecondIdeal.nD Cert.AttnSecondIdeal.τ).loc Cert.AttnSecondIdeal.main_arg1) = m ((c.tc : Thread Cert.AttnSecondIdeal.nD Cert.AttnSecondIdeal.τ).loc Cert.AttnSecondIdeal.main_arg1)
          ∧ r.2.mem ((c.tc : Thread Cert.AttnSecondIdeal.nD Cert.AttnSecondIdeal.τ).loc Cert.AttnSecondIdeal.main_arg2) = m ((c.tc : Thread Cert.AttnSecondIdeal.nD Cert.AttnSecondIdeal.τ).loc Cert.AttnSecondIdeal.main_arg2))
      ∧ θ_run (Cert.AttnSecondRefIdeal.defs (F := Ideal)) (onTc (τ := Cert.AttnSecondRefIdeal.τ) (Cert.AttnSecondRefIdeal.main (F := Ideal))) ⟨m', fun _ => 0, g'⟩ (fun r => ∀ c : Dev Cert.AttnSecondRefIdeal.nD,
          r.2.mem ((c.tc : Thread Cert.AttnSecondRefIdeal.nD Cert.AttnSecondRefIdeal.τ).loc Cert.AttnSecondRefIdeal.main_v79) = v0 c
          ∧ r.2.mem ((c.tc : Thread Cert.AttnSecondRefIdeal.nD Cert.AttnSecondRefIdeal.τ).loc Cert.AttnSecondRefIdeal.main_arg0) = m' ((c.tc : Thread Cert.AttnSecondRefIdeal.nD Cert.AttnSecondRefIdeal.τ).loc Cert.AttnSecondRefIdeal.main_arg0)
          ∧ r.2.mem ((c.tc : Thread Cert.AttnSecondRefIdeal.nD Cert.AttnSecondRefIdeal.τ).loc Cert.AttnSecondRefIdeal.main_arg1) = m' ((c.tc : Thread Cert.AttnSecondRefIdeal.nD Cert.AttnSecondRefIdeal.τ).loc Cert.AttnSecondRefIdeal.main_arg1)
          ∧ r.2.mem ((c.tc : Thread Cert.AttnSecondRefIdeal.nD Cert.AttnSecondRefIdeal.τ).loc Cert.AttnSecondRefIdeal.main_arg2) = m' ((c.tc : Thread Cert.AttnSecondRefIdeal.nD Cert.AttnSecondRefIdeal.τ).loc Cert.AttnSecondRefIdeal.main_arg2))

def preserves_AttnThird_AttnThirdIdeal : Prop :=
  True

def algebraic_AttnThirdIdeal_AttnThirdRefIdeal_pre_finite [hAttnThirdIdeal : Cert.AttnThirdIdeal.Facts] [hAttnThirdRefIdeal : Cert.AttnThirdRefIdeal.Facts] [hPre_finite : Cert.Pre_finite.Facts] : Prop :=
  ∀ (m : (ℓ : Loc Cert.AttnThirdIdeal.nD Cert.AttnThirdIdeal.τ Cert.AttnThirdIdeal.sig) → Buf (Elt Ideal) ℓ) (g : Dev Cert.AttnThirdIdeal.nD → PrngReg)
    (m' : (ℓ : Loc Cert.AttnThirdRefIdeal.nD Cert.AttnThirdRefIdeal.τ Cert.AttnThirdRefIdeal.sig) → Buf (Elt Ideal) ℓ) (g' : Dev Cert.AttnThirdRefIdeal.nD → PrngReg), Pre_AttnThirdIdeal_finite m →
    (∀ c : Dev Cert.AttnThirdIdeal.nD,
      m' ((c.tc : Thread Cert.AttnThirdRefIdeal.nD Cert.AttnThirdRefIdeal.τ).loc Cert.AttnThirdRefIdeal.main_arg0) = m ((c.tc : Thread Cert.AttnThirdIdeal.nD Cert.AttnThirdIdeal.τ).loc Cert.AttnThirdIdeal.main_arg0)
      ∧ m' ((c.tc : Thread Cert.AttnThirdRefIdeal.nD Cert.AttnThirdRefIdeal.τ).loc Cert.AttnThirdRefIdeal.main_arg1) = m ((c.tc : Thread Cert.AttnThirdIdeal.nD Cert.AttnThirdIdeal.τ).loc Cert.AttnThirdIdeal.main_arg1)
      ∧ m' ((c.tc : Thread Cert.AttnThirdRefIdeal.nD Cert.AttnThirdRefIdeal.τ).loc Cert.AttnThirdRefIdeal.main_arg2) = m ((c.tc : Thread Cert.AttnThirdIdeal.nD Cert.AttnThirdIdeal.τ).loc Cert.AttnThirdIdeal.main_arg2)) →
    ∃ (v0 : (c : Dev Cert.AttnThirdIdeal.nD) → Buf (Elt Ideal) ((c.tc : Thread Cert.AttnThirdIdeal.nD Cert.AttnThirdIdeal.τ).loc Cert.AttnThirdIdeal.main_v1)),
      θ_run (Cert.AttnThirdIdeal.defs (F := Ideal)) (onTc (τ := Cert.AttnThirdIdeal.τ) (Cert.AttnThirdIdeal.main (F := Ideal))) ⟨m, fun _ => 0, g⟩ (fun r => ∀ c : Dev Cert.AttnThirdIdeal.nD,
          r.2.mem ((c.tc : Thread Cert.AttnThirdIdeal.nD Cert.AttnThirdIdeal.τ).loc Cert.AttnThirdIdeal.main_v1) = v0 c
          ∧ r.2.mem ((c.tc : Thread Cert.AttnThirdIdeal.nD Cert.AttnThirdIdeal.τ).loc Cert.AttnThirdIdeal.main_arg0) = m ((c.tc : Thread Cert.AttnThirdIdeal.nD Cert.AttnThirdIdeal.τ).loc Cert.AttnThirdIdeal.main_arg0)
          ∧ r.2.mem ((c.tc : Thread Cert.AttnThirdIdeal.nD Cert.AttnThirdIdeal.τ).loc Cert.AttnThirdIdeal.main_arg1) = m ((c.tc : Thread Cert.AttnThirdIdeal.nD Cert.AttnThirdIdeal.τ).loc Cert.AttnThirdIdeal.main_arg1)
          ∧ r.2.mem ((c.tc : Thread Cert.AttnThirdIdeal.nD Cert.AttnThirdIdeal.τ).loc Cert.AttnThirdIdeal.main_arg2) = m ((c.tc : Thread Cert.AttnThirdIdeal.nD Cert.AttnThirdIdeal.τ).loc Cert.AttnThirdIdeal.main_arg2))
      ∧ θ_run (Cert.AttnThirdRefIdeal.defs (F := Ideal)) (onTc (τ := Cert.AttnThirdRefIdeal.τ) (Cert.AttnThirdRefIdeal.main (F := Ideal))) ⟨m', fun _ => 0, g'⟩ (fun r => ∀ c : Dev Cert.AttnThirdRefIdeal.nD,
          r.2.mem ((c.tc : Thread Cert.AttnThirdRefIdeal.nD Cert.AttnThirdRefIdeal.τ).loc Cert.AttnThirdRefIdeal.main_v79) = v0 c
          ∧ r.2.mem ((c.tc : Thread Cert.AttnThirdRefIdeal.nD Cert.AttnThirdRefIdeal.τ).loc Cert.AttnThirdRefIdeal.main_arg0) = m' ((c.tc : Thread Cert.AttnThirdRefIdeal.nD Cert.AttnThirdRefIdeal.τ).loc Cert.AttnThirdRefIdeal.main_arg0)
          ∧ r.2.mem ((c.tc : Thread Cert.AttnThirdRefIdeal.nD Cert.AttnThirdRefIdeal.τ).loc Cert.AttnThirdRefIdeal.main_arg1) = m' ((c.tc : Thread Cert.AttnThirdRefIdeal.nD Cert.AttnThirdRefIdeal.τ).loc Cert.AttnThirdRefIdeal.main_arg1)
          ∧ r.2.mem ((c.tc : Thread Cert.AttnThirdRefIdeal.nD Cert.AttnThirdRefIdeal.τ).loc Cert.AttnThirdRefIdeal.main_arg2) = m' ((c.tc : Thread Cert.AttnThirdRefIdeal.nD Cert.AttnThirdRefIdeal.τ).loc Cert.AttnThirdRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)
      ∧ m' ((c.tc : Thread Cert.PostRefIdeal.nD Cert.PostRefIdeal.τ).loc Cert.PostRefIdeal.main_arg14) = m ((c.tc : Thread Cert.PostIdeal.nD Cert.PostIdeal.τ).loc Cert.PostIdeal.main_arg14)
      ∧ m' ((c.tc : Thread Cert.PostRefIdeal.nD Cert.PostRefIdeal.τ).loc Cert.PostRefIdeal.main_arg15) = m ((c.tc : Thread Cert.PostIdeal.nD Cert.PostIdeal.τ).loc Cert.PostIdeal.main_arg15)
      ∧ m' ((c.tc : Thread Cert.PostRefIdeal.nD Cert.PostRefIdeal.τ).loc Cert.PostRefIdeal.main_arg16) = m ((c.tc : Thread Cert.PostIdeal.nD Cert.PostIdeal.τ).loc Cert.PostIdeal.main_arg16)) →
    ∃ (v0 : (c : Dev Cert.PostIdeal.nD) → Buf (Elt Ideal) ((c.tc : Thread Cert.PostIdeal.nD Cert.PostIdeal.τ).loc Cert.PostIdeal.main_v8)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v8) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
          ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
          ∧ r.2.mem ((c.tc : Thread Cert.PostIdeal.nD Cert.PostIdeal.τ).loc Cert.PostIdeal.main_arg16) = m ((c.tc : Thread Cert.PostIdeal.nD Cert.PostIdeal.τ).loc Cert.PostIdeal.main_arg16))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v63) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13)
          ∧ r.2.mem ((c.tc : Thread Cert.PostRefIdeal.nD Cert.PostRefIdeal.τ).loc Cert.PostRefIdeal.main_arg14) = m' ((c.tc : Thread Cert.PostRefIdeal.nD Cert.PostRefIdeal.τ).loc Cert.PostRefIdeal.main_arg14)
          ∧ r.2.mem ((c.tc : Thread Cert.PostRefIdeal.nD Cert.PostRefIdeal.τ).loc Cert.PostRefIdeal.main_arg15) = m' ((c.tc : Thread Cert.PostRefIdeal.nD Cert.PostRefIdeal.τ).loc Cert.PostRefIdeal.main_arg15)
          ∧ r.2.mem ((c.tc : Thread Cert.PostRefIdeal.nD Cert.PostRefIdeal.τ).loc Cert.PostRefIdeal.main_arg16) = m' ((c.tc : Thread Cert.PostRefIdeal.nD Cert.PostRefIdeal.τ).loc Cert.PostRefIdeal.main_arg16))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)
      ∧ m' ((c.tc : Thread Cert.MidRefIdeal.nD Cert.MidRefIdeal.τ).loc Cert.MidRefIdeal.main_arg11) = m ((c.tc : Thread Cert.MidIdeal.nD Cert.MidIdeal.τ).loc Cert.MidIdeal.main_arg11)
      ∧ m' ((c.tc : Thread Cert.MidRefIdeal.nD Cert.MidRefIdeal.τ).loc Cert.MidRefIdeal.main_arg12) = m ((c.tc : Thread Cert.MidIdeal.nD Cert.MidIdeal.τ).loc Cert.MidIdeal.main_arg12)
      ∧ m' ((c.tc : Thread Cert.MidRefIdeal.nD Cert.MidRefIdeal.τ).loc Cert.MidRefIdeal.main_arg13) = m ((c.tc : Thread Cert.MidIdeal.nD Cert.MidIdeal.τ).loc Cert.MidIdeal.main_arg13)
      ∧ m' ((c.tc : Thread Cert.MidRefIdeal.nD Cert.MidRefIdeal.τ).loc Cert.MidRefIdeal.main_arg14) = m ((c.tc : Thread Cert.MidIdeal.nD Cert.MidIdeal.τ).loc Cert.MidIdeal.main_arg14)
      ∧ m' ((c.tc : Thread Cert.MidRefIdeal.nD Cert.MidRefIdeal.τ).loc Cert.MidRefIdeal.main_arg15) = m ((c.tc : Thread Cert.MidIdeal.nD Cert.MidIdeal.τ).loc Cert.MidIdeal.main_arg15)
      ∧ m' ((c.tc : Thread Cert.MidRefIdeal.nD Cert.MidRefIdeal.τ).loc Cert.MidRefIdeal.main_arg16) = m ((c.tc : Thread Cert.MidIdeal.nD Cert.MidIdeal.τ).loc Cert.MidIdeal.main_arg16)) →
    ∃ (v0 : (c : Dev Cert.MidIdeal.nD) → Buf (Elt Ideal) ((c.tc : Thread Cert.MidIdeal.nD Cert.MidIdeal.τ).loc Cert.MidIdeal.main_v8)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v8) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
          ∧ r.2.mem ((c.tc : Thread Cert.MidIdeal.nD Cert.MidIdeal.τ).loc Cert.MidIdeal.main_arg13) = m ((c.tc : Thread Cert.MidIdeal.nD Cert.MidIdeal.τ).loc Cert.MidIdeal.main_arg13)
          ∧ r.2.mem ((c.tc : Thread Cert.MidIdeal.nD Cert.MidIdeal.τ).loc Cert.MidIdeal.main_arg14) = m ((c.tc : Thread Cert.MidIdeal.nD Cert.MidIdeal.τ).loc Cert.MidIdeal.main_arg14)
          ∧ r.2.mem ((c.tc : Thread Cert.MidIdeal.nD Cert.MidIdeal.τ).loc Cert.MidIdeal.main_arg15) = m ((c.tc : Thread Cert.MidIdeal.nD Cert.MidIdeal.τ).loc Cert.MidIdeal.main_arg15)
          ∧ r.2.mem ((c.tc : Thread Cert.MidIdeal.nD Cert.MidIdeal.τ).loc Cert.MidIdeal.main_arg16) = m ((c.tc : Thread Cert.MidIdeal.nD Cert.MidIdeal.τ).loc Cert.MidIdeal.main_arg16))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v50) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10)
          ∧ r.2.mem ((c.tc : Thread Cert.MidRefIdeal.nD Cert.MidRefIdeal.τ).loc Cert.MidRefIdeal.main_arg11) = m' ((c.tc : Thread Cert.MidRefIdeal.nD Cert.MidRefIdeal.τ).loc Cert.MidRefIdeal.main_arg11)
          ∧ r.2.mem ((c.tc : Thread Cert.MidRefIdeal.nD Cert.MidRefIdeal.τ).loc Cert.MidRefIdeal.main_arg12) = m' ((c.tc : Thread Cert.MidRefIdeal.nD Cert.MidRefIdeal.τ).loc Cert.MidRefIdeal.main_arg12)
          ∧ r.2.mem ((c.tc : Thread Cert.MidRefIdeal.nD Cert.MidRefIdeal.τ).loc Cert.MidRefIdeal.main_arg13) = m' ((c.tc : Thread Cert.MidRefIdeal.nD Cert.MidRefIdeal.τ).loc Cert.MidRefIdeal.main_arg13)
          ∧ r.2.mem ((c.tc : Thread Cert.MidRefIdeal.nD Cert.MidRefIdeal.τ).loc Cert.MidRefIdeal.main_arg14) = m' ((c.tc : Thread Cert.MidRefIdeal.nD Cert.MidRefIdeal.τ).loc Cert.MidRefIdeal.main_arg14)
          ∧ r.2.mem ((c.tc : Thread Cert.MidRefIdeal.nD Cert.MidRefIdeal.τ).loc Cert.MidRefIdeal.main_arg15) = m' ((c.tc : Thread Cert.MidRefIdeal.nD Cert.MidRefIdeal.τ).loc Cert.MidRefIdeal.main_arg15)
          ∧ r.2.mem ((c.tc : Thread Cert.MidRefIdeal.nD Cert.MidRefIdeal.τ).loc Cert.MidRefIdeal.main_arg16) = m' ((c.tc : Thread Cert.MidRefIdeal.nD Cert.MidRefIdeal.τ).loc Cert.MidRefIdeal.main_arg16))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)) →
    ∃ (v0 : (c : Dev Cert.PreIdeal.nD) → Buf (Elt Ideal) ((c.tc : Thread Cert.PreIdeal.nD Cert.PreIdeal.τ).loc Cert.PreIdeal.main_v16_0)) (v1 : (c : Dev Cert.PreIdeal.nD) → Buf (Elt Ideal) ((c.tc : Thread Cert.PreIdeal.nD Cert.PreIdeal.τ).loc Cert.PreIdeal.main_v16_1)) (v2 : (c : Dev Cert.PreIdeal.nD) → Buf (Elt Ideal) ((c.tc : Thread Cert.PreIdeal.nD Cert.PreIdeal.τ).loc Cert.PreIdeal.main_v16_2)) (v3 : (c : Dev Cert.PreIdeal.nD) → Buf (Elt Ideal) ((c.tc : Thread Cert.PreIdeal.nD Cert.PreIdeal.τ).loc Cert.PreIdeal.main_v16_3)) (v4 : (c : Dev Cert.PreIdeal.nD) → Buf (Elt Ideal) ((c.tc : Thread Cert.PreIdeal.nD Cert.PreIdeal.τ).loc Cert.PreIdeal.main_v16_4)) (v5 : (c : Dev Cert.PreIdeal.nD) → Buf (Elt Ideal) ((c.tc : Thread Cert.PreIdeal.nD Cert.PreIdeal.τ).loc Cert.PreIdeal.main_v16_5)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v16_0) = v0 c
          ∧ r.2.mem ((c.tc : Thread Cert.PreIdeal.nD Cert.PreIdeal.τ).loc Cert.PreIdeal.main_v16_1) = v1 c
          ∧ r.2.mem ((c.tc : Thread Cert.PreIdeal.nD Cert.PreIdeal.τ).loc Cert.PreIdeal.main_v16_2) = v2 c
          ∧ r.2.mem ((c.tc : Thread Cert.PreIdeal.nD Cert.PreIdeal.τ).loc Cert.PreIdeal.main_v16_3) = v3 c
          ∧ r.2.mem ((c.tc : Thread Cert.PreIdeal.nD Cert.PreIdeal.τ).loc Cert.PreIdeal.main_v16_4) = v4 c
          ∧ r.2.mem ((c.tc : Thread Cert.PreIdeal.nD Cert.PreIdeal.τ).loc Cert.PreIdeal.main_v16_5) = v5 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v28) = v0 c
          ∧ r.2.mem ((c.tc : Thread Cert.PreRefIdeal.nD Cert.PreRefIdeal.τ).loc Cert.PreRefIdeal.main_v30) = v1 c
          ∧ r.2.mem ((c.tc : Thread Cert.PreRefIdeal.nD Cert.PreRefIdeal.τ).loc Cert.PreRefIdeal.main_v22) = v2 c
          ∧ r.2.mem ((c.tc : Thread Cert.PreRefIdeal.nD Cert.PreRefIdeal.τ).loc Cert.PreRefIdeal.main_v31) = v3 c
          ∧ r.2.mem ((c.tc : Thread Cert.PreRefIdeal.nD Cert.PreRefIdeal.τ).loc Cert.PreRefIdeal.main_v27) = v4 c
          ∧ r.2.mem ((c.tc : Thread Cert.PreRefIdeal.nD Cert.PreRefIdeal.τ).loc Cert.PreRefIdeal.main_v32) = v5 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v5) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Bounds_BoundsIdeal : Prop :=
  True

def algebraic_BoundsIdeal_BoundsRefIdeal [hBoundsIdeal : Cert.BoundsIdeal.Facts] [hBoundsRefIdeal : Cert.BoundsRefIdeal.Facts] : Prop :=
  ∀ (m : (ℓ : Loc Cert.BoundsIdeal.nD Cert.BoundsIdeal.τ Cert.BoundsIdeal.sig) → Buf (Elt Ideal) ℓ) (g : Dev Cert.BoundsIdeal.nD → PrngReg)
    (m' : (ℓ : Loc Cert.BoundsRefIdeal.nD Cert.BoundsRefIdeal.τ Cert.BoundsRefIdeal.sig) → Buf (Elt Ideal) ℓ) (g' : Dev Cert.BoundsRefIdeal.nD → PrngReg), Pre_BoundsIdeal m →
    (∀ c : Dev Cert.BoundsIdeal.nD,
      m' ((c.tc : Thread Cert.BoundsRefIdeal.nD Cert.BoundsRefIdeal.τ).loc Cert.BoundsRefIdeal.main_arg0) = m ((c.tc : Thread Cert.BoundsIdeal.nD Cert.BoundsIdeal.τ).loc Cert.BoundsIdeal.main_arg0)) →
    ∃ (v0 : (c : Dev Cert.BoundsIdeal.nD) → Buf (Elt Ideal) ((c.tc : Thread Cert.BoundsIdeal.nD Cert.BoundsIdeal.τ).loc Cert.BoundsIdeal.main_v1)),
      θ_run (Cert.BoundsIdeal.defs (F := Ideal)) (onTc (τ := Cert.BoundsIdeal.τ) (Cert.BoundsIdeal.main (F := Ideal))) ⟨m, fun _ => 0, g⟩ (fun r => ∀ c : Dev Cert.BoundsIdeal.nD,
          r.2.mem ((c.tc : Thread Cert.BoundsIdeal.nD Cert.BoundsIdeal.τ).loc Cert.BoundsIdeal.main_v1) = v0 c
          ∧ r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ θ_run (Cert.BoundsRefIdeal.defs (F := Ideal)) (onTc (τ := Cert.BoundsRefIdeal.τ) (Cert.BoundsRefIdeal.main (F := Ideal))) ⟨m', fun _ => 0, g'⟩ (fun r => ∀ c : Dev Cert.BoundsRefIdeal.nD,
          r.2.mem ((c.tc : Thread Cert.BoundsRefIdeal.nD Cert.BoundsRefIdeal.τ).loc Cert.BoundsRefIdeal.main_v13) = v0 c
          ∧ r.2.mem ((c.tc : Thread Cert.BoundsRefIdeal.nD Cert.BoundsRefIdeal.τ).loc Cert.BoundsRefIdeal.main_arg0) = m' ((c.tc : Thread Cert.BoundsRefIdeal.nD Cert.BoundsRefIdeal.τ).loc Cert.BoundsRefIdeal.main_arg0))

def Claim : Prop :=
  ∃ (hAttn : Cert.Attn.Facts) (hAttnIdeal : Cert.AttnIdeal.Facts) (hAttnRefIdeal : Cert.AttnRefIdeal.Facts) (hAttnFirst : Cert.AttnFirst.Facts) (hAttnFirstIdeal : Cert.AttnFirstIdeal.Facts) (hAttnFirstRefIdeal : Cert.AttnFirstRefIdeal.Facts) (hAttnSecond : Cert.AttnSecond.Facts) (hAttnSecondIdeal : Cert.AttnSecondIdeal.Facts) (hAttnSecondRefIdeal : Cert.AttnSecondRefIdeal.Facts) (hAttnThird : Cert.AttnThird.Facts) (hAttnThirdIdeal : Cert.AttnThirdIdeal.Facts) (hAttnThirdRefIdeal : Cert.AttnThirdRefIdeal.Facts) (hPost : Cert.Post.Facts) (hPostIdeal : Cert.PostIdeal.Facts) (hPostRefIdeal : Cert.PostRefIdeal.Facts) (hMid : Cert.Mid.Facts) (hMidIdeal : Cert.MidIdeal.Facts) (hMidRefIdeal : Cert.MidRefIdeal.Facts) (hPre : Cert.Pre.Facts) (hPreIdeal : Cert.PreIdeal.Facts) (hPreRefIdeal : Cert.PreRefIdeal.Facts) (hMod : Cert.Mod.Facts) (hModIdeal : Cert.ModIdeal.Facts) (hModRefIdeal : Cert.ModRefIdeal.Facts) (hBounds : Cert.Bounds.Facts) (hBoundsIdeal : Cert.BoundsIdeal.Facts) (hBoundsRefIdeal : Cert.BoundsRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_AttnFirst (hAttnFirst := hAttnFirst)
    ∧ quiescent_AttnFirstIdeal (hAttnFirstIdeal := hAttnFirstIdeal)
    ∧ quiescent_AttnFirstIdeal_pre_finite (hAttnFirstIdeal := hAttnFirstIdeal) (hPre_finite := hPre_finite)
    ∧ quiescent_AttnFirstRefIdeal (hAttnFirstRefIdeal := hAttnFirstRefIdeal)
    ∧ quiescent_AttnFirstRefIdeal_pre_finite (hAttnFirstRefIdeal := hAttnFirstRefIdeal) (hPre_finite := hPre_finite)
    ∧ quiescent_AttnSecond (hAttnSecond := hAttnSecond)
    ∧ quiescent_AttnSecondIdeal (hAttnSecondIdeal := hAttnSecondIdeal)
    ∧ quiescent_AttnSecondIdeal_pre_finite (hAttnSecondIdeal := hAttnSecondIdeal) (hPre_finite := hPre_finite)
    ∧ quiescent_AttnSecondRefIdeal (hAttnSecondRefIdeal := hAttnSecondRefIdeal)
    ∧ quiescent_AttnSecondRefIdeal_pre_finite (hAttnSecondRefIdeal := hAttnSecondRefIdeal) (hPre_finite := hPre_finite)
    ∧ quiescent_AttnThird (hAttnThird := hAttnThird)
    ∧ quiescent_AttnThirdIdeal (hAttnThirdIdeal := hAttnThirdIdeal)
    ∧ quiescent_AttnThirdIdeal_pre_finite (hAttnThirdIdeal := hAttnThirdIdeal) (hPre_finite := hPre_finite)
    ∧ quiescent_AttnThirdRefIdeal (hAttnThirdRefIdeal := hAttnThirdRefIdeal)
    ∧ quiescent_AttnThirdRefIdeal_pre_finite (hAttnThirdRefIdeal := hAttnThirdRefIdeal) (hPre_finite := hPre_finite)
    ∧ quiescent_Post (hPost := hPost)
    ∧ quiescent_PostIdeal (hPostIdeal := hPostIdeal)
    ∧ quiescent_PostRefIdeal (hPostRefIdeal := hPostRefIdeal)
    ∧ quiescent_Mid (hMid := hMid)
    ∧ quiescent_MidIdeal (hMidIdeal := hMidIdeal)
    ∧ quiescent_MidRefIdeal (hMidRefIdeal := hMidRefIdeal)
    ∧ quiescent_Pre (hPre := hPre)
    ∧ quiescent_PreIdeal (hPreIdeal := hPreIdeal)
    ∧ quiescent_PreRefIdeal (hPreRefIdeal := hPreRefIdeal)
    ∧ quiescent_Mod (hMod := hMod)
    ∧ quiescent_ModIdeal (hModIdeal := hModIdeal)
    ∧ quiescent_ModRefIdeal (hModRefIdeal := hModRefIdeal)
    ∧ quiescent_Bounds (hBounds := hBounds)
    ∧ quiescent_BoundsIdeal (hBoundsIdeal := hBoundsIdeal)
    ∧ quiescent_BoundsRefIdeal (hBoundsRefIdeal := hBoundsRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_AttnFirst_AttnFirstIdeal
    ∧ algebraic_AttnFirstIdeal_AttnFirstRefIdeal_pre_finite (hAttnFirstIdeal := hAttnFirstIdeal) (hAttnFirstRefIdeal := hAttnFirstRefIdeal) (hPre_finite := hPre_finite)
    ∧ preserves_AttnSecond_AttnSecondIdeal
    ∧ algebraic_AttnSecondIdeal_AttnSecondRefIdeal_pre_finite (hAttnSecondIdeal := hAttnSecondIdeal) (hAttnSecondRefIdeal := hAttnSecondRefIdeal) (hPre_finite := hPre_finite)
    ∧ preserves_AttnThird_AttnThirdIdeal
    ∧ algebraic_AttnThirdIdeal_AttnThirdRefIdeal_pre_finite (hAttnThirdIdeal := hAttnThirdIdeal) (hAttnThirdRefIdeal := hAttnThirdRefIdeal) (hPre_finite := hPre_finite)
    ∧ preserves_Post_PostIdeal
    ∧ algebraic_PostIdeal_PostRefIdeal (hPostIdeal := hPostIdeal) (hPostRefIdeal := hPostRefIdeal)
    ∧ preserves_Mid_MidIdeal
    ∧ algebraic_MidIdeal_MidRefIdeal (hMidIdeal := hMidIdeal) (hMidRefIdeal := hMidRefIdeal)
    ∧ preserves_Pre_PreIdeal
    ∧ algebraic_PreIdeal_PreRefIdeal (hPreIdeal := hPreIdeal) (hPreRefIdeal := hPreRefIdeal)
    ∧ preserves_Mod_ModIdeal
    ∧ algebraic_ModIdeal_ModRefIdeal (hModIdeal := hModIdeal) (hModRefIdeal := hModRefIdeal)
    ∧ preserves_Bounds_BoundsIdeal
    ∧ algebraic_BoundsIdeal_BoundsRefIdeal (hBoundsIdeal := hBoundsIdeal) (hBoundsRefIdeal := hBoundsRefIdeal)
-- ==== Pre_finite.lean ====
abbrev S32x2048x1536 : Shape := ⟨3, ![32, 2048, 1536]⟩
abbrev S4x64 : Shape := ⟨2, ![4, 64]⟩
abbrev S128 : Shape := ⟨1, ![128]⟩
abbrev S_ : Shape := ⟨0, ![]⟩

class Facts : Prop where
  bcast_S_S32x2048x1536 : S_.BroadcastsInDim S32x2048x1536 (![] : Fin 0 → Fin S32x2048x1536.rank)
  bcast_S_S4x64 : S_.BroadcastsInDim S4x64 (![] : Fin 0 → Fin S4x64.rank)

variable [Facts]

def fn {F : FTy → Type} [FloatOps F] (main_arg0 : FVec F S32x2048x1536 .bf16) (main_arg1 : FVec F S4x64 .f32) (main_arg2 : FVec F S128 .f32) : IVec S32x2048x1536 1 × IVec S4x64 1 :=
  let main_v0 : FVec F S32x2048x1536 .bf16 := Host.absf main_arg0
  let main_cst : FVec F S_ .bf16 := constant S_ .bf16 0x7F80#16
  let main_v1 : FVec F S32x2048x1536 .bf16 := broadcastInDim S32x2048x1536 ![] bcast_S_S32x2048x1536 main_cst
  let main_v2 : IVec S32x2048x1536 1 := cmpf .olt main_v0 main_v1
  let main_v3 : FVec F S4x64 .f32 := Host.absf main_arg1
  let main_cst_0 : FVec F S_ .f32 := constant S_ .f32 0x7F800000#32
  let main_v4 : FVec F S4x64 .f32 := broadcastInDim S4x64 ![] bcast_S_S4x64 main_cst_0
  let main_v5 : IVec S4x64 1 := cmpf .olt main_v3 main_v4
  (main_v2, main_v5)
-- ==== Attn.lean ====
abbrev S32x2048x1536 : Shape := ⟨3, ![32, 2048, 1536]⟩
abbrev S4x64 : Shape := ⟨2, ![4, 64]⟩
abbrev S128 : Shape := ⟨1, ![128]⟩
abbrev S4x1x128 : Shape := ⟨3, ![4, 1, 128]⟩
abbrev S1x128 : Shape := ⟨2, ![1, 128]⟩
abbrev S32x2048x512 : Shape := ⟨3, ![32, 2048, 512]⟩
abbrev S1x256x128 : Shape := ⟨3, ![1, 256, 128]⟩
abbrev S1x2048x128 : Shape := ⟨3, ![1, 2048, 128]⟩
abbrev S1x1x128 : Shape := ⟨3, ![1, 1, 128]⟩
abbrev S256x2048 : Shape := ⟨2, ![256, 2048]⟩
abbrev S1x1 : Shape := ⟨2, ![1, 1]⟩
abbrev S256x128 : Shape := ⟨2, ![256, 128]⟩
abbrev S2048x128 : Shape := ⟨2, ![2048, 128]⟩
abbrev S1x64 : Shape := ⟨2, ![1, 64]⟩
abbrev S1 : Shape := ⟨1, ![1]⟩
abbrev S256 : Shape := ⟨1, ![256]⟩
abbrev S256x1 : Shape := ⟨2, ![256, 1]⟩

abbrev nBuf : Space → Nat
  | .hbm => 6
  | .vmem => 13
  | .smem => 0
  | _ => 0

abbrev bufTy : (tb : Table) → Fin (tcTables nBuf tb) → BufTy
  | .hbm, ⟨0, _⟩ => ⟨S32x2048x1536, .bf16⟩
  | .hbm, ⟨1, _⟩ => ⟨S4x64, .f32⟩
  | .hbm, ⟨2, _⟩ => ⟨S128, .f32⟩
  | .hbm, ⟨3, _⟩ => ⟨S4x1x128, .f32⟩
  | .hbm, ⟨4, _⟩ => ⟨S1x128, .f32⟩
  | .hbm, ⟨5, _⟩ => ⟨S32x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x128, .f32⟩
  | .local _ .vmem, ⟨7, _⟩ => ⟨S1x1x128, .f32⟩
  | .local _ .vmem, ⟨8, _⟩ => ⟨S4x64, .f32⟩
  | .local _ .vmem, ⟨9, _⟩ => ⟨S1x128, .f32⟩
  | .local _ .vmem, ⟨10, _⟩ => ⟨S1x256x128, .bf16⟩
  | .local _ .vmem, ⟨11, _⟩ => ⟨S1x256x128, .bf16⟩
  | .local _ .vmem, ⟨12, _⟩ => ⟨S256x2048, .f32⟩
  | _, _ => ⟨S32x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg2.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg2.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnRefIdeal.lean ====
abbrev S32x2048x1536 : Shape := ⟨3, ![32, 2048, 1536]⟩
abbrev S4x64 : Shape := ⟨2, ![4, 64]⟩
abbrev S128 : Shape := ⟨1, ![128]⟩
abbrev S4 : Shape := ⟨1, ![4]⟩
abbrev S32x2048x512 : Shape := ⟨3, ![32, 2048, 512]⟩
abbrev S32x2048x4x2x64 : Shape := ⟨5, ![32, 2048, 4, 2, 64]⟩
abbrev S32x4x2x2048x64 : Shape := ⟨5, ![32, 4, 2, 2048, 64]⟩
abbrev S32x2048x4x128 : Shape := ⟨4, ![32, 2048, 4, 128]⟩
abbrev S32x4x2048x128 : Shape := ⟨4, ![32, 4, 2048, 128]⟩
abbrev S1x64 : Shape := ⟨2, ![1, 64]⟩
abbrev S64 : Shape := ⟨1, ![64]⟩
abbrev S_ : Shape := ⟨0, ![]⟩
abbrev S32x4x2x2048x2048 : Shape := ⟨5, ![32, 4, 2, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x1x1x1 : Shape := ⟨4, ![4, 1, 1, 1]⟩
abbrev S1x1x2048x2048 : Shape := ⟨4, ![1, 1, 2048, 2048]⟩
abbrev S4x1x2048x2048 : Shape := ⟨4, ![4, 1, 2048, 2048]⟩
abbrev S1x4x1x2048x2048 : Shape := ⟨5, ![1, 4, 1, 2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x2048 : Shape := ⟨3, ![32, 4, 2048]⟩
abbrev S32x4x2048x1 : Shape := ⟨4, ![32, 4, 2048, 1]⟩
abbrev S1x1x1x128 : Shape := ⟨4, ![1, 1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S32x2048x1536, .bf16⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S32x2048x1536, .f32⟩
  | .hbm, ⟨5, _⟩ => ⟨S32x2048x512, .f32⟩
  | .hbm, ⟨6, _⟩ => ⟨S32x2048x512, .f32⟩
  | .hbm, ⟨7, _⟩ => ⟨S32x2048x512, .f32⟩
  | .hbm, ⟨8, _⟩ => ⟨S32x2048x4x2x64, .f32⟩
  | .hbm, ⟨9, _⟩ => ⟨S32x4x2x2048x64, .f32⟩
  | .hbm, ⟨10, _⟩ => ⟨S32x2048x4x2x64, .f32⟩
  | .hbm, ⟨11, _⟩ => ⟨S32x4x2x2048x64, .f32⟩
  | .hbm, ⟨12, _⟩ => ⟨S32x2048x4x128, .f32⟩
  | .hbm, ⟨13, _⟩ => ⟨S32x4x2048x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32x4x2x2048x2048, .f32⟩
  | .hbm, ⟨34, _⟩ => ⟨S_, .f32⟩
  | .hbm, ⟨35, _⟩ => ⟨S32x4x2x2048x2048, .f32⟩
  | .hbm, ⟨36, _⟩ => ⟨S32x4x2x2048x2048, .f32⟩
  | .hbm, ⟨37, _⟩ => ⟨S2048, .i32⟩
  | .hbm, ⟨38, _⟩ => ⟨S2048x1, .i32⟩
  | .hbm, ⟨39, _⟩ => ⟨S1x2048, .i32⟩
  | .hbm, ⟨40, _⟩ => ⟨S2048x2048, .i32⟩
  | .hbm, ⟨41, _⟩ => ⟨S2048x2048, .i32⟩
  | .hbm, ⟨42, _⟩ => ⟨S2048x2048, .i32⟩
  | .hbm, ⟨43, _⟩ => ⟨S2048x2048, .i32⟩
  | .hbm, ⟨44, _⟩ => ⟨S2048x2048, .f32⟩
  | .hbm, ⟨45, _⟩ => ⟨S4x1x1x1, .f32⟩
  | .hbm, ⟨46, _⟩ => ⟨S1x1x2048x2048, .f32⟩
  | .hbm, ⟨47, _⟩ => ⟨S4x1x2048x2048, .f32⟩
  | .hbm, ⟨48, _⟩ => ⟨S4x1x2048x2048, .f32⟩
  | .hbm, ⟨49, _⟩ => ⟨S4x1x2048x2048, .f32⟩
  | .hbm, ⟨50, _⟩ => ⟨S1x4x1x2048x2048, .f32⟩
  | .hbm, ⟨51, _⟩ => ⟨S32x4x2x2048x2048, .f32⟩
  | .hbm, ⟨52, _⟩ => ⟨S32x4x2x2048x2048, .f32⟩
  | .hbm, ⟨53, _⟩ => ⟨S_, .f32⟩
  | .hbm, ⟨54, _⟩ => ⟨S32x4x2x2048, .f32⟩
  | .hbm, ⟨55, _⟩ => ⟨S32x4x2x2048x1, .f32⟩
  | .hbm, ⟨56, _⟩ => ⟨S32x4x2x2048x2048, .f32⟩
  | .hbm, ⟨57, _⟩ => ⟨S32x4x2x2048x2048, .f32⟩
  | .hbm, ⟨58, _⟩ => ⟨S32x4x2x2048x2048, .f32⟩
  | .hbm, ⟨59, _⟩ => ⟨S_, .f32⟩
  | .hbm, ⟨60, _⟩ => ⟨S32x4x2x2048, .f32⟩
  | .hbm, ⟨61, _⟩ => ⟨S32x4x2x2048x1, .f32⟩
  | .hbm, ⟨62, _⟩ => ⟨S32x4x2x2048x2048, .f32⟩
  | .hbm, ⟨63, _⟩ => ⟨S32x4x2x2048x2048, .f32⟩
  | .hbm, ⟨64, _⟩ => ⟨S32x4x1x2048x2048, .f32⟩
  | .hbm, ⟨65, _⟩ => ⟨S32x4x2048x2048, .f32⟩
  | .hbm, ⟨66, _⟩ => ⟨S32x4x1x2048x2048, .f32⟩
  | .hbm, ⟨67, _⟩ => ⟨S32x4x2048x2048, .f32⟩
  | .hbm, ⟨68, _⟩ => ⟨S32x4x2048x2048, .f32⟩
  | .hbm, ⟨69, _⟩ => ⟨S32x4x2048x2048, .f32⟩
  | .hbm, ⟨70, _⟩ => ⟨S32x4x2048x2048, .f32⟩
  | .hbm, ⟨71, _⟩ => ⟨S32x4x2048x128, .f32⟩
  | .hbm, ⟨72, _⟩ => ⟨S32x4x2048x128, .f32⟩
  | .hbm, ⟨73, _⟩ => ⟨S_, .f32⟩
  | .hbm, ⟨74, _⟩ => ⟨S32x4x2048, .f32⟩
  | .hbm, ⟨75, _⟩ => ⟨S32x4x2048x1, .f32⟩
  | .hbm, ⟨76, _⟩ => ⟨S_, .f32⟩
  | .hbm, ⟨77, _⟩ => ⟨S32x4x2048x1, .f32⟩
  | .hbm, ⟨78, _⟩ => ⟨S32x4x2048x1, .f32⟩
  | .hbm, ⟨79, _⟩ => ⟨S_, .f32⟩
  | .hbm, ⟨80, _⟩ => ⟨S32x4x2048x1, .f32⟩
  | .hbm, ⟨81, _⟩ => ⟨S32x4x2048x1, .f32⟩
  | .hbm, ⟨82, _⟩ => ⟨S32x4x2048x1, .f32⟩
  | .hbm, ⟨83, _⟩ => ⟨S32x4x2048x128, .f32⟩
  | .hbm, ⟨84, _⟩ => ⟨S32x4x2048x128, .f32⟩
  | .hbm, ⟨85, _⟩ => ⟨S1x1x1x128, .f32⟩
  | .hbm, ⟨86, _⟩ => ⟨S32x4x2048x128, .f32⟩
  | .hbm, ⟨87, _⟩ => ⟨S32x4x2048x128, .f32⟩
  | .hbm, ⟨88, _⟩ => ⟨S_, .f32⟩
  | .hbm, ⟨89, _⟩ => ⟨S32x4x2048x128, .f32⟩
  | .hbm, ⟨90, _⟩ => ⟨S32x4x2048x128, .f32⟩
  | .hbm, ⟨91, _⟩ => ⟨S32x2048x4x128, .f32⟩
  | .hbm, ⟨92, _⟩ => ⟨S32x2048x512, .f32⟩
  | .hbm, ⟨93, _⟩ => ⟨S32x2048x512, .bf16⟩
  | _, _ => ⟨S32x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_cst_8 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_9 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩

abbrev nD : Nat := 1
abbrev τ : Topo := Topo.v7x

variable {F : FTy → Type} [FloatOps F]
-- ==== AttnFirst.lean ====
abbrev S32x2048x1536 : Shape := ⟨3, ![32, 2048, 1536]⟩
abbrev S4x64 : Shape := ⟨2, ![4, 64]⟩
abbrev S128 : Shape := ⟨1, ![128]⟩
abbrev S4x1x128 : Shape := ⟨3, ![4, 1, 128]⟩
abbrev S1x128 : Shape := ⟨2, ![1, 128]⟩
abbrev S32x2048x512 : Shape := ⟨3, ![32, 2048, 512]⟩
abbrev S1x256x128 : Shape := ⟨3, ![1, 256, 128]⟩
abbrev S1x2048x128 : Shape := ⟨3, ![1, 2048, 128]⟩
abbrev S1x1x128 : Shape := ⟨3, ![1, 1, 128]⟩
abbrev S256x2048 : Shape := ⟨2, ![256, 2048]⟩
abbrev S1x1 : Shape := ⟨2, ![1, 1]⟩
abbrev S256x128 : Shape := ⟨2, ![256, 128]⟩
abbrev S2048x128 : Shape := ⟨2, ![2048, 128]⟩
abbrev S1x64 : Shape := ⟨2, ![1, 64]⟩
abbrev S1 : Shape := ⟨1, ![1]⟩
abbrev S256 : Shape := ⟨1, ![256]⟩
abbrev S256x1 : Shape := ⟨2, ![256, 1]⟩

abbrev nBuf : Space → Nat
  | .hbm => 6
  | .vmem => 13
  | .smem => 0
  | _ => 0

abbrev bufTy : (tb : Table) → Fin (tcTables nBuf tb) → BufTy
  | .hbm, ⟨0, _⟩ => ⟨S32x2048x1536, .bf16⟩
  | .hbm, ⟨1, _⟩ => ⟨S4x64, .f32⟩
  | .hbm, ⟨2, _⟩ => ⟨S128, .f32⟩
  | .hbm, ⟨3, _⟩ => ⟨S4x1x128, .f32⟩
  | .hbm, ⟨4, _⟩ => ⟨S1x128, .f32⟩
  | .hbm, ⟨5, _⟩ => ⟨S32x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x128, .f32⟩
  | .local _ .vmem, ⟨7, _⟩ => ⟨S1x1x128, .f32⟩
  | .local _ .vmem, ⟨8, _⟩ => ⟨S4x64, .f32⟩
  | .local _ .vmem, ⟨9, _⟩ => ⟨S1x128, .f32⟩
  | .local _ .vmem, ⟨10, _⟩ => ⟨S1x256x128, .bf16⟩
  | .local _ .vmem, ⟨11, _⟩ => ⟨S1x256x128, .bf16⟩
  | .local _ .vmem, ⟨12, _⟩ => ⟨S256x2048, .f32⟩
  | _, _ => ⟨S32x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg2.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg2.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnFirstRefIdeal.lean ====
abbrev S32x2048x1536 : Shape := ⟨3, ![32, 2048, 1536]⟩
abbrev S4x64 : Shape := ⟨2, ![4, 64]⟩
abbrev S128 : Shape := ⟨1, ![128]⟩
abbrev S4 : Shape := ⟨1, ![4]⟩
abbrev S32x2048x512 : Shape := ⟨3, ![32, 2048, 512]⟩
abbrev S32x2048x4x2x64 : Shape := ⟨5, ![32, 2048, 4, 2, 64]⟩
abbrev S32x4x2x2048x64 : Shape := ⟨5, ![32, 4, 2, 2048, 64]⟩
abbrev S32x2048x4x128 : Shape := ⟨4, ![32, 2048, 4, 128]⟩
abbrev S32x4x2048x128 : Shape := ⟨4, ![32, 4, 2048, 128]⟩
abbrev S1x64 : Shape := ⟨2, ![1, 64]⟩
abbrev S64 : Shape := ⟨1, ![64]⟩
abbrev S_ : Shape := ⟨0, ![]⟩
abbrev S32x4x2x2048x2048 : Shape := ⟨5, ![32, 4, 2, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x1x1x1 : Shape := ⟨4, ![4, 1, 1, 1]⟩
abbrev S1x1x2048x2048 : Shape := ⟨4, ![1, 1, 2048, 2048]⟩
abbrev S4x1x2048x2048 : Shape := ⟨4, ![4, 1, 2048, 2048]⟩
abbrev S1x4x1x2048x2048 : Shape := ⟨5, ![1, 4, 1, 2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x2048 : Shape := ⟨3, ![32, 4, 2048]⟩
abbrev S32x4x2048x1 : Shape := ⟨4, ![32, 4, 2048, 1]⟩
abbrev S1x1x1x128 : Shape := ⟨4, ![1, 1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S32x2048x1536, .bf16⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S32x2048x1536, .f32⟩
  | .hbm, ⟨5, _⟩ => ⟨S32x2048x512, .f32⟩
  | .hbm, ⟨6, _⟩ => ⟨S32x2048x512, .f32⟩
  | .hbm, ⟨7, _⟩ => ⟨S32x2048x512, .f32⟩
  | .hbm, ⟨8, _⟩ => ⟨S32x2048x4x2x64, .f32⟩
  | .hbm, ⟨9, _⟩ => ⟨S32x4x2x2048x64, .f32⟩
  | .hbm, ⟨10, _⟩ => ⟨S32x2048x4x2x64, .f32⟩
  | .hbm, ⟨11, _⟩ => ⟨S32x4x2x2048x64, .f32⟩
  | .hbm, ⟨12, _⟩ => ⟨S32x2048x4x128, .f32⟩
  | .hbm, ⟨13, _⟩ => ⟨S32x4x2048x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32x4x2x2048x2048, .f32⟩
  | .hbm, ⟨34, _⟩ => ⟨S_, .f32⟩
  | .hbm, ⟨35, _⟩ => ⟨S32x4x2x2048x2048, .f32⟩
  | .hbm, ⟨36, _⟩ => ⟨S32x4x2x2048x2048, .f32⟩
  | .hbm, ⟨37, _⟩ => ⟨S2048, .i32⟩
  | .hbm, ⟨38, _⟩ => ⟨S2048x1, .i32⟩
  | .hbm, ⟨39, _⟩ => ⟨S1x2048, .i32⟩
  | .hbm, ⟨40, _⟩ => ⟨S2048x2048, .i32⟩
  | .hbm, ⟨41, _⟩ => ⟨S2048x2048, .i32⟩
  | .hbm, ⟨42, _⟩ => ⟨S2048x2048, .i32⟩
  | .hbm, ⟨43, _⟩ => ⟨S2048x2048, .i32⟩
  | .hbm, ⟨44, _⟩ => ⟨S2048x2048, .f32⟩
  | .hbm, ⟨45, _⟩ => ⟨S4x1x1x1, .f32⟩
  | .hbm, ⟨46, _⟩ => ⟨S1x1x2048x2048, .f32⟩
  | .hbm, ⟨47, _⟩ => ⟨S4x1x2048x2048, .f32⟩
  | .hbm, ⟨48, _⟩ => ⟨S4x1x2048x2048, .f32⟩
  | .hbm, ⟨49, _⟩ => ⟨S4x1x2048x2048, .f32⟩
  | .hbm, ⟨50, _⟩ => ⟨S1x4x1x2048x2048, .f32⟩
  | .hbm, ⟨51, _⟩ => ⟨S32x4x2x2048x2048, .f32⟩
  | .hbm, ⟨52, _⟩ => ⟨S32x4x2x2048x2048, .f32⟩
  | .hbm, ⟨53, _⟩ => ⟨S_, .f32⟩
  | .hbm, ⟨54, _⟩ => ⟨S32x4x2x2048, .f32⟩
  | .hbm, ⟨55, _⟩ => ⟨S32x4x2x2048x1, .f32⟩
  | .hbm, ⟨56, _⟩ => ⟨S32x4x2x2048x2048, .f32⟩
  | .hbm, ⟨57, _⟩ => ⟨S32x4x2x2048x2048, .f32⟩
  | .hbm, ⟨58, _⟩ => ⟨S32x4x2x2048x2048, .f32⟩
  | .hbm, ⟨59, _⟩ => ⟨S_, .f32⟩
  | .hbm, ⟨60, _⟩ => ⟨S32x4x2x2048, .f32⟩
  | .hbm, ⟨61, _⟩ => ⟨S32x4x2x2048x1, .f32⟩
  | .hbm, ⟨62, _⟩ => ⟨S32x4x2x2048x2048, .f32⟩
  | .hbm, ⟨63, _⟩ => ⟨S32x4x2x2048x2048, .f32⟩
  | .hbm, ⟨64, _⟩ => ⟨S32x4x1x2048x2048, .f32⟩
  | .hbm, ⟨65, _⟩ => ⟨S32x4x2048x2048, .f32⟩
  | .hbm, ⟨66, _⟩ => ⟨S32x4x1x2048x2048, .f32⟩
  | .hbm, ⟨67, _⟩ => ⟨S32x4x2048x2048, .f32⟩
  | .hbm, ⟨68, _⟩ => ⟨S32x4x2048x2048, .f32⟩
  | .hbm, ⟨69, _⟩ => ⟨S32x4x2048x2048, .f32⟩
  | .hbm, ⟨70, _⟩ => ⟨S32x4x2048x2048, .f32⟩
  | .hbm, ⟨71, _⟩ => ⟨S32x4x2048x128, .f32⟩
  | .hbm, ⟨72, _⟩ => ⟨S32x4x2048x128, .f32⟩
  | .hbm, ⟨73, _⟩ => ⟨S_, .f32⟩
  | .hbm, ⟨74, _⟩ => ⟨S32x4x2048, .f32⟩
  | .hbm, ⟨75, _⟩ => ⟨S32x4x2048x1, .f32⟩
  | .hbm, ⟨76, _⟩ => ⟨S_, .f32⟩
  | .hbm, ⟨77, _⟩ => ⟨S32x4x2048x1, .f32⟩
  | .hbm, ⟨78, _⟩ => ⟨S32x4x2048x1, .f32⟩
  | .hbm, ⟨79, _⟩ => ⟨S_, .f32⟩
  | .hbm, ⟨80, _⟩ => ⟨S32x4x2048x1, .f32⟩
  | .hbm, ⟨81, _⟩ => ⟨S32x4x2048x1, .f32⟩
  | .hbm, ⟨82, _⟩ => ⟨S32x4x2048x1, .f32⟩
  | .hbm, ⟨83, _⟩ => ⟨S32x4x2048x128, .f32⟩
  | .hbm, ⟨84, _⟩ => ⟨S32x4x2048x128, .f32⟩
  | .hbm, ⟨85, _⟩ => ⟨S1x1x1x128, .f32⟩
  | .hbm, ⟨86, _⟩ => ⟨S32x4x2048x128, .f32⟩
  | .hbm, ⟨87, _⟩ => ⟨S32x4x2048x128, .f32⟩
  | .hbm, ⟨88, _⟩ => ⟨S_, .f32⟩
  | .hbm, ⟨89, _⟩ => ⟨S32x4x2048x128, .f32⟩
  | .hbm, ⟨90, _⟩ => ⟨S32x4x2048x128, .f32⟩
  | .hbm, ⟨91, _⟩ => ⟨S32x2048x4x128, .f32⟩
  | .hbm, ⟨92, _⟩ => ⟨S32x2048x512, .f32⟩
  | .hbm, ⟨93, _⟩ => ⟨S32x2048x512, .bf16⟩
  | _, _ => ⟨S32x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_cst_8 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_9 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩

abbrev nD : Nat := 1
abbrev τ : Topo := Topo.v7x

variable {F : FTy → Type} [FloatOps F]
-- ==== AttnSecond.lean ====
abbrev S32x2048x1536 : Shape := ⟨3, ![32, 2048, 1536]⟩
abbrev S4x64 : Shape := ⟨2, ![4, 64]⟩
abbrev S128 : Shape := ⟨1, ![128]⟩
abbrev S4x1x128 : Shape := ⟨3, ![4, 1, 128]⟩
abbrev S1x128 : Shape := ⟨2, ![1, 128]⟩
abbrev S32x2048x512 : Shape := ⟨3, ![32, 2048, 512]⟩
abbrev S1x256x128 : Shape := ⟨3, ![1, 256, 128]⟩
abbrev S1x2048x128 : Shape := ⟨3, ![1, 2048, 128]⟩
abbrev S1x1x128 : Shape := ⟨3, ![1, 1, 128]⟩
abbrev S256x2048 : Shape := ⟨2, ![256, 2048]⟩
abbrev S1x1 : Shape := ⟨2, ![1, 1]⟩
abbrev S256x128 : Shape := ⟨2, ![256, 128]⟩
abbrev S2048x128 : Shape := ⟨2, ![2048, 128]⟩
abbrev S1x64 : Shape := ⟨2, ![1, 64]⟩
abbrev S1 : Shape := ⟨1, ![1]⟩
abbrev S256 : Shape := ⟨1, ![256]⟩
abbrev S256x1 : Shape := ⟨2, ![256, 1]⟩

abbrev nBuf : Space → Nat
  | .hbm => 6
  | .vmem => 13
  | .smem => 0
  | _ => 0

abbrev bufTy : (tb : Table) → Fin (tcTables nBuf tb) → BufTy
  | .hbm, ⟨0, _⟩ => ⟨S32x2048x1536, .bf16⟩
  | .hbm, ⟨1, _⟩ => ⟨S4x64, .f32⟩
  | .hbm, ⟨2, _⟩ => ⟨S128, .f32⟩
  | .hbm, ⟨3, _⟩ => ⟨S4x1x128, .f32⟩
  | .hbm, ⟨4, _⟩ => ⟨S1x128, .f32⟩
  | .hbm, ⟨5, _⟩ => ⟨S32x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x128, .f32⟩
  | .local _ .vmem, ⟨7, _⟩ => ⟨S1x1x128, .f32⟩
  | .local _ .vmem, ⟨8, _⟩ => ⟨S4x64, .f32⟩
  | .local _ .vmem, ⟨9, _⟩ => ⟨S1x128, .f32⟩
  | .local _ .vmem, ⟨10, _⟩ => ⟨S1x256x128, .bf16⟩
  | .local _ .vmem, ⟨11, _⟩ => ⟨S1x256x128, .bf16⟩
  | .local _ .vmem, ⟨12, _⟩ => ⟨S256x2048, .f32⟩
  | _, _ => ⟨S32x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg2.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg2.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnSecondRefIdeal.lean ====
abbrev S32x2048x1536 : Shape := ⟨3, ![32, 2048, 1536]⟩
abbrev S4x64 : Shape := ⟨2, ![4, 64]⟩
abbrev S128 : Shape := ⟨1, ![128]⟩
abbrev S4 : Shape := ⟨1, ![4]⟩
abbrev S32x2048x512 : Shape := ⟨3, ![32, 2048, 512]⟩
abbrev S32x2048x4x2x64 : Shape := ⟨5, ![32, 2048, 4, 2, 64]⟩
abbrev S32x4x2x2048x64 : Shape := ⟨5, ![32, 4, 2, 2048, 64]⟩
abbrev S32x2048x4x128 : Shape := ⟨4, ![32, 2048, 4, 128]⟩
abbrev S32x4x2048x128 : Shape := ⟨4, ![32, 4, 2048, 128]⟩
abbrev S1x64 : Shape := ⟨2, ![1, 64]⟩
abbrev S64 : Shape := ⟨1, ![64]⟩
abbrev S_ : Shape := ⟨0, ![]⟩
abbrev S32x4x2x2048x2048 : Shape := ⟨5, ![32, 4, 2, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x1x1x1 : Shape := ⟨4, ![4, 1, 1, 1]⟩
abbrev S1x1x2048x2048 : Shape := ⟨4, ![1, 1, 2048, 2048]⟩
abbrev S4x1x2048x2048 : Shape := ⟨4, ![4, 1, 2048, 2048]⟩
abbrev S1x4x1x2048x2048 : Shape := ⟨5, ![1, 4, 1, 2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x2048 : Shape := ⟨3, ![32, 4, 2048]⟩
abbrev S32x4x2048x1 : Shape := ⟨4, ![32, 4, 2048, 1]⟩
abbrev S1x1x1x128 : Shape := ⟨4, ![1, 1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S32x2048x1536, .bf16⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S32x2048x1536, .f32⟩
  | .hbm, ⟨5, _⟩ => ⟨S32x2048x512, .f32⟩
  | .hbm, ⟨6, _⟩ => ⟨S32x2048x512, .f32⟩
  | .hbm, ⟨7, _⟩ => ⟨S32x2048x512, .f32⟩
  | .hbm, ⟨8, _⟩ => ⟨S32x2048x4x2x64, .f32⟩
  | .hbm, ⟨9, _⟩ => ⟨S32x4x2x2048x64, .f32⟩
  | .hbm, ⟨10, _⟩ => ⟨S32x2048x4x2x64, .f32⟩
  | .hbm, ⟨11, _⟩ => ⟨S32x4x2x2048x64, .f32⟩
  | .hbm, ⟨12, _⟩ => ⟨S32x2048x4x128, .f32⟩
  | .hbm, ⟨13, _⟩ => ⟨S32x4x2048x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32x4x2x2048x2048, .f32⟩
  | .hbm, ⟨34, _⟩ => ⟨S_, .f32⟩
  | .hbm, ⟨35, _⟩ => ⟨S32x4x2x2048x2048, .f32⟩
  | .hbm, ⟨36, _⟩ => ⟨S32x4x2x2048x2048, .f32⟩
  | .hbm, ⟨37, _⟩ => ⟨S2048, .i32⟩
  | .hbm, ⟨38, _⟩ => ⟨S2048x1, .i32⟩
  | .hbm, ⟨39, _⟩ => ⟨S1x2048, .i32⟩
  | .hbm, ⟨40, _⟩ => ⟨S2048x2048, .i32⟩
  | .hbm, ⟨41, _⟩ => ⟨S2048x2048, .i32⟩
  | .hbm, ⟨42, _⟩ => ⟨S2048x2048, .i32⟩
  | .hbm, ⟨43, _⟩ => ⟨S2048x2048, .i32⟩
  | .hbm, ⟨44, _⟩ => ⟨S2048x2048, .f32⟩
  | .hbm, ⟨45, _⟩ => ⟨S4x1x1x1, .f32⟩
  | .hbm, ⟨46, _⟩ => ⟨S1x1x2048x2048, .f32⟩
  | .hbm, ⟨47, _⟩ => ⟨S4x1x2048x2048, .f32⟩
  | .hbm, ⟨48, _⟩ => ⟨S4x1x2048x2048, .f32⟩
  | .hbm, ⟨49, _⟩ => ⟨S4x1x2048x2048, .f32⟩
  | .hbm, ⟨50, _⟩ => ⟨S1x4x1x2048x2048, .f32⟩
  | .hbm, ⟨51, _⟩ => ⟨S32x4x2x2048x2048, .f32⟩
  | .hbm, ⟨52, _⟩ => ⟨S32x4x2x2048x2048, .f32⟩
  | .hbm, ⟨53, _⟩ => ⟨S_, .f32⟩
  | .hbm, ⟨54, _⟩ => ⟨S32x4x2x2048, .f32⟩
  | .hbm, ⟨55, _⟩ => ⟨S32x4x2x2048x1, .f32⟩
  | .hbm, ⟨56, _⟩ => ⟨S32x4x2x2048x2048, .f32⟩
  | .hbm, ⟨57, _⟩ => ⟨S32x4x2x2048x2048, .f32⟩
  | .hbm, ⟨58, _⟩ => ⟨S32x4x2x2048x2048, .f32⟩
  | .hbm, ⟨59, _⟩ => ⟨S_, .f32⟩
  | .hbm, ⟨60, _⟩ => ⟨S32x4x2x2048, .f32⟩
  | .hbm, ⟨61, _⟩ => ⟨S32x4x2x2048x1, .f32⟩
  | .hbm, ⟨62, _⟩ => ⟨S32x4x2x2048x2048, .f32⟩
  | .hbm, ⟨63, _⟩ => ⟨S32x4x2x2048x2048, .f32⟩
  | .hbm, ⟨64, _⟩ => ⟨S32x4x1x2048x2048, .f32⟩
  | .hbm, ⟨65, _⟩ => ⟨S32x4x2048x2048, .f32⟩
  | .hbm, ⟨66, _⟩ => ⟨S32x4x1x2048x2048, .f32⟩
  | .hbm, ⟨67, _⟩ => ⟨S32x4x2048x2048, .f32⟩
  | .hbm, ⟨68, _⟩ => ⟨S32x4x2048x2048, .f32⟩
  | .hbm, ⟨69, _⟩ => ⟨S32x4x2048x2048, .f32⟩
  | .hbm, ⟨70, _⟩ => ⟨S32x4x2048x2048, .f32⟩
  | .hbm, ⟨71, _⟩ => ⟨S32x4x2048x128, .f32⟩
  | .hbm, ⟨72, _⟩ => ⟨S32x4x2048x128, .f32⟩
  | .hbm, ⟨73, _⟩ => ⟨S_, .f32⟩
  | .hbm, ⟨74, _⟩ => ⟨S32x4x2048, .f32⟩
  | .hbm, ⟨75, _⟩ => ⟨S32x4x2048x1, .f32⟩
  | .hbm, ⟨76, _⟩ => ⟨S_, .f32⟩
  | .hbm, ⟨77, _⟩ => ⟨S32x4x2048x1, .f32⟩
  | .hbm, ⟨78, _⟩ => ⟨S32x4x2048x1, .f32⟩
  | .hbm, ⟨79, _⟩ => ⟨S_, .f32⟩
  | .hbm, ⟨80, _⟩ => ⟨S32x4x2048x1, .f32⟩
  | .hbm, ⟨81, _⟩ => ⟨S32x4x2048x1, .f32⟩
  | .hbm, ⟨82, _⟩ => ⟨S32x4x2048x1, .f32⟩
  | .hbm, ⟨83, _⟩ => ⟨S32x4x2048x128, .f32⟩
  | .hbm, ⟨84, _⟩ => ⟨S32x4x2048x128, .f32⟩
  | .hbm, ⟨85, _⟩ => ⟨S1x1x1x128, .f32⟩
  | .hbm, ⟨86, _⟩ => ⟨S32x4x2048x128, .f32⟩
  | .hbm, ⟨87, _⟩ => ⟨S32x4x2048x128, .f32⟩
  | .hbm, ⟨88, _⟩ => ⟨S_, .f32⟩
  | .hbm, ⟨89, _⟩ => ⟨S32x4x2048x128, .f32⟩
  | .hbm, ⟨90, _⟩ => ⟨S32x4x2048x128, .f32⟩
  | .hbm, ⟨91, _⟩ => ⟨S32x2048x4x128, .f32⟩
  | .hbm, ⟨92, _⟩ => ⟨S32x2048x512, .f32⟩
  | .hbm, ⟨93, _⟩ => ⟨S32x2048x512, .bf16⟩
  | _, _ => ⟨S32x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_cst_8 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_9 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩

abbrev nD : Nat := 1
abbrev τ : Topo := Topo.v7x

variable {F : FTy → Type} [FloatOps F]
-- ==== AttnThird.lean ====
abbrev S32x2048x1536 : Shape := ⟨3, ![32, 2048, 1536]⟩
abbrev S4x64 : Shape := ⟨2, ![4, 64]⟩
abbrev S128 : Shape := ⟨1, ![128]⟩
abbrev S4x1x128 : Shape := ⟨3, ![4, 1, 128]⟩
abbrev S1x128 : Shape := ⟨2, ![1, 128]⟩
abbrev S32x2048x512 : Shape := ⟨3, ![32, 2048, 512]⟩
abbrev S1x256x128 : Shape := ⟨3, ![1, 256, 128]⟩
abbrev S1x2048x128 : Shape := ⟨3, ![1, 2048, 128]⟩
abbrev S1x1x128 : Shape := ⟨3, ![1, 1, 128]⟩
abbrev S256x2048 : Shape := ⟨2, ![256, 2048]⟩
abbrev S1x1 : Shape := ⟨2, ![1, 1]⟩
abbrev S256x128 : Shape := ⟨2, ![256, 128]⟩
abbrev S2048x128 : Shape := ⟨2, ![2048, 128]⟩
abbrev S1x64 : Shape := ⟨2, ![1, 64]⟩
abbrev S1 : Shape := ⟨1, ![1]⟩
abbrev S256 : Shape := ⟨1, ![256]⟩
abbrev S256x1 : Shape := ⟨2, ![256, 1]⟩

abbrev nBuf : Space → Nat
  | .hbm => 6
  | .vmem => 13
  | .smem => 0
  | _ => 0

abbrev bufTy : (tb : Table) → Fin (tcTables nBuf tb) → BufTy
  | .hbm, ⟨0, _⟩ => ⟨S32x2048x1536, .bf16⟩
  | .hbm, ⟨1, _⟩ => ⟨S4x64, .f32⟩
  | .hbm, ⟨2, _⟩ => ⟨S128, .f32⟩
  | .hbm, ⟨3, _⟩ => ⟨S4x1x128, .f32⟩
  | .hbm, ⟨4, _⟩ => ⟨S1x128, .f32⟩
  | .hbm, ⟨5, _⟩ => ⟨S32x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x128, .f32⟩
  | .local _ .vmem, ⟨7, _⟩ => ⟨S1x1x128, .f32⟩
  | .local _ .vmem, ⟨8, _⟩ => ⟨S4x64, .f32⟩
  | .local _ .vmem, ⟨9, _⟩ => ⟨S1x128, .f32⟩
  | .local _ .vmem, ⟨10, _⟩ => ⟨S1x256x128, .bf16⟩
  | .local _ .vmem, ⟨11, _⟩ => ⟨S1x256x128, .bf16⟩
  | .local _ .vmem, ⟨12, _⟩ => ⟨S256x2048, .f32⟩
  | _, _ => ⟨S32x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg2.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg2.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnThirdRefIdeal.lean ====
abbrev S32x2048x1536 : Shape := ⟨3, ![32, 2048, 1536]⟩
abbrev S4x64 : Shape := ⟨2, ![4, 64]⟩
abbrev S128 : Shape := ⟨1, ![128]⟩
abbrev S4 : Shape := ⟨1, ![4]⟩
abbrev S32x2048x512 : Shape := ⟨3, ![32, 2048, 512]⟩
abbrev S32x2048x4x2x64 : Shape := ⟨5, ![32, 2048, 4, 2, 64]⟩
abbrev S32x4x2x2048x64 : Shape := ⟨5, ![32, 4, 2, 2048, 64]⟩
abbrev S32x2048x4x128 : Shape := ⟨4, ![32, 2048, 4, 128]⟩
abbrev S32x4x2048x128 : Shape := ⟨4, ![32, 4, 2048, 128]⟩
abbrev S1x64 : Shape := ⟨2, ![1, 64]⟩
abbrev S64 : Shape := ⟨1, ![64]⟩
abbrev S_ : Shape := ⟨0, ![]⟩
abbrev S32x4x2x2048x2048 : Shape := ⟨5, ![32, 4, 2, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x1x1x1 : Shape := ⟨4, ![4, 1, 1, 1]⟩
abbrev S1x1x2048x2048 : Shape := ⟨4, ![1, 1, 2048, 2048]⟩
abbrev S4x1x2048x2048 : Shape := ⟨4, ![4, 1, 2048, 2048]⟩
abbrev S1x4x1x2048x2048 : Shape := ⟨5, ![1, 4, 1, 2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x2048 : Shape := ⟨3, ![32, 4, 2048]⟩
abbrev S32x4x2048x1 : Shape := ⟨4, ![32, 4, 2048, 1]⟩
abbrev S1x1x1x128 : Shape := ⟨4, ![1, 1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S32x2048x1536, .bf16⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S32x2048x1536, .f32⟩
  | .hbm, ⟨5, _⟩ => ⟨S32x2048x512, .f32⟩
  | .hbm, ⟨6, _⟩ => ⟨S32x2048x512, .f32⟩
  | .hbm, ⟨7, _⟩ => ⟨S32x2048x512, .f32⟩
  | .hbm, ⟨8, _⟩ => ⟨S32x2048x4x2x64, .f32⟩
  | .hbm, ⟨9, _⟩ => ⟨S32x4x2x2048x64, .f32⟩
  | .hbm, ⟨10, _⟩ => ⟨S32x2048x4x2x64, .f32⟩
  | .hbm, ⟨11, _⟩ => ⟨S32x4x2x2048x64, .f32⟩
  | .hbm, ⟨12, _⟩ => ⟨S32x2048x4x128, .f32⟩
  | .hbm, ⟨13, _⟩ => ⟨S32x4x2048x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32x4x2x2048x2048, .f32⟩
  | .hbm, ⟨34, _⟩ => ⟨S_, .f32⟩
  | .hbm, ⟨35, _⟩ => ⟨S32x4x2x2048x2048, .f32⟩
  | .hbm, ⟨36, _⟩ => ⟨S32x4x2x2048x2048, .f32⟩
  | .hbm, ⟨37, _⟩ => ⟨S2048, .i32⟩
  | .hbm, ⟨38, _⟩ => ⟨S2048x1, .i32⟩
  | .hbm, ⟨39, _⟩ => ⟨S1x2048, .i32⟩
  | .hbm, ⟨40, _⟩ => ⟨S2048x2048, .i32⟩
  | .hbm, ⟨41, _⟩ => ⟨S2048x2048, .i32⟩
  | .hbm, ⟨42, _⟩ => ⟨S2048x2048, .i32⟩
  | .hbm, ⟨43, _⟩ => ⟨S2048x2048, .i32⟩
  | .hbm, ⟨44, _⟩ => ⟨S2048x2048, .f32⟩
  | .hbm, ⟨45, _⟩ => ⟨S4x1x1x1, .f32⟩
  | .hbm, ⟨46, _⟩ => ⟨S1x1x2048x2048, .f32⟩
  | .hbm, ⟨47, _⟩ => ⟨S4x1x2048x2048, .f32⟩
  | .hbm, ⟨48, _⟩ => ⟨S4x1x2048x2048, .f32⟩
  | .hbm, ⟨49, _⟩ => ⟨S4x1x2048x2048, .f32⟩
  | .hbm, ⟨50, _⟩ => ⟨S1x4x1x2048x2048, .f32⟩
  | .hbm, ⟨51, _⟩ => ⟨S32x4x2x2048x2048, .f32⟩
  | .hbm, ⟨52, _⟩ => ⟨S32x4x2x2048x2048, .f32⟩
  | .hbm, ⟨53, _⟩ => ⟨S_, .f32⟩
  | .hbm, ⟨54, _⟩ => ⟨S32x4x2x2048, .f32⟩
  | .hbm, ⟨55, _⟩ => ⟨S32x4x2x2048x1, .f32⟩
  | .hbm, ⟨56, _⟩ => ⟨S32x4x2x2048x2048, .f32⟩
  | .hbm, ⟨57, _⟩ => ⟨S32x4x2x2048x2048, .f32⟩
  | .hbm, ⟨58, _⟩ => ⟨S32x4x2x2048x2048, .f32⟩
  | .hbm, ⟨59, _⟩ => ⟨S_, .f32⟩
  | .hbm, ⟨60, _⟩ => ⟨S32x4x2x2048, .f32⟩
  | .hbm, ⟨61, _⟩ => ⟨S32x4x2x2048x1, .f32⟩
  | .hbm, ⟨62, _⟩ => ⟨S32x4x2x2048x2048, .f32⟩
  | .hbm, ⟨63, _⟩ => ⟨S32x4x2x2048x2048, .f32⟩
  | .hbm, ⟨64, _⟩ => ⟨S32x4x1x2048x2048, .f32⟩
  | .hbm, ⟨65, _⟩ => ⟨S32x4x2048x2048, .f32⟩
  | .hbm, ⟨66, _⟩ => ⟨S32x4x1x2048x2048, .f32⟩
  | .hbm, ⟨67, _⟩ => ⟨S32x4x2048x2048, .f32⟩
  | .hbm, ⟨68, _⟩ => ⟨S32x4x2048x2048, .f32⟩
  | .hbm, ⟨69, _⟩ => ⟨S32x4x2048x2048, .f32⟩
  | .hbm, ⟨70, _⟩ => ⟨S32x4x2048x2048, .f32⟩
  | .hbm, ⟨71, _⟩ => ⟨S32x4x2048x128, .f32⟩
  | .hbm, ⟨72, _⟩ => ⟨S32x4x2048x128, .f32⟩
  | .hbm, ⟨73, _⟩ => ⟨S_, .f32⟩
  | .hbm, ⟨74, _⟩ => ⟨S32x4x2048, .f32⟩
  | .hbm, ⟨75, _⟩ => ⟨S32x4x2048x1, .f32⟩
  | .hbm, ⟨76, _⟩ => ⟨S_, .f32⟩
  | .hbm, ⟨77, _⟩ => ⟨S32x4x2048x1, .f32⟩
  | .hbm, ⟨78, _⟩ => ⟨S32x4x2048x1, .f32⟩
  | .hbm, ⟨79, _⟩ => ⟨S_, .f32⟩
  | .hbm, ⟨80, _⟩ => ⟨S32x4x2048x1, .f32⟩
  | .hbm, ⟨81, _⟩ => ⟨S32x4x2048x1, .f32⟩
  | .hbm, ⟨82, _⟩ => ⟨S32x4x2048x1, .f32⟩
  | .hbm, ⟨83, _⟩ => ⟨S32x4x2048x128, .f32⟩
  | .hbm, ⟨84, _⟩ => ⟨S32x4x2048x128, .f32⟩
  | .hbm, ⟨85, _⟩ => ⟨S1x1x1x128, .f32⟩
  | .hbm, ⟨86, _⟩ => ⟨S32x4x2048x128, .f32⟩
  | .hbm, ⟨87, _⟩ => ⟨S32x4x2048x128, .f32⟩
  | .hbm, ⟨88, _⟩ => ⟨S_, .f32⟩
  | .hbm, ⟨89, _⟩ => ⟨S32x4x2048x128, .f32⟩
  | .hbm, ⟨90, _⟩ => ⟨S32x4x2048x128, .f32⟩
  | .hbm, ⟨91, _⟩ => ⟨S32x2048x4x128, .f32⟩
  | .hbm, ⟨92, _⟩ => ⟨S32x2048x512, .f32⟩
  | .hbm, ⟨93, _⟩ => ⟨S32x2048x512, .bf16⟩
  | _, _ => ⟨S32x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_cst_8 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_9 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩

abbrev nD : Nat := 1
abbrev τ : Topo := Topo.v7x

variable {F : FTy → Type} [FloatOps F]
-- ==== Post.lean ====
abbrev S32x2048x1024 : Shape := ⟨3, ![32, 2048, 1024]⟩
abbrev S32x2048x512 : Shape := ⟨3, ![32, 2048, 512]⟩
abbrev S32x2048x256 : Shape := ⟨3, ![32, 2048, 256]⟩
abbrev S32x2048x3072 : Shape := ⟨3, ![32, 2048, 3072]⟩
abbrev S32x1x1024 : Shape := ⟨3, ![32, 1, 1024]⟩
abbrev S1024 : Shape := ⟨1, ![1024]⟩
abbrev S512x1024 : Shape := ⟨2, ![512, 1024]⟩
abbrev S256x1024 : Shape := ⟨2, ![256, 1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x512 : Shape := ⟨3, ![1, 512, 512]⟩
abbrev S1x512x256 : Shape := ⟨3, ![1, 512, 256]⟩
abbrev S1x512x3072 : Shape := ⟨3, ![1, 512, 3072]⟩
abbrev S1x1x1024 : Shape := ⟨3, ![1, 1, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 26
  | .vmem => 28
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x256, .bf16⟩
  | .hbm, ⟨3, _⟩ => ⟨S32x2048x256, .bf16⟩
  | .hbm, ⟨4, _⟩ => ⟨S32x2048x3072, .bf16⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S1024, .f32⟩
  | .hbm, ⟨10, _⟩ => ⟨S512x1024, .f32⟩
  | .hbm, ⟨11, _⟩ => ⟨S256x1024, .f32⟩
  | .hbm, ⟨12, _⟩ => ⟨S256x1024, .f32⟩
  | .hbm, ⟨13, _⟩ => ⟨S1024x1024, .f32⟩
  | .hbm, ⟨14, _⟩ => ⟨S1024x4096, .f32⟩
  | .hbm, ⟨15, _⟩ => ⟨S4096x1024, .f32⟩
  | .hbm, ⟨16, _⟩ => ⟨S1024, .f32⟩
  | .hbm, ⟨17, _⟩ => ⟨S512x1024, .bf16⟩
  | .hbm, ⟨18, _⟩ => ⟨S256x1024, .bf16⟩
  | .hbm, ⟨19, _⟩ => ⟨S256x1024, .bf16⟩
  | .hbm, ⟨20, _⟩ => ⟨S1024x1024, .bf16⟩
  | .hbm, ⟨21, _⟩ => ⟨S1024x4096, .bf16⟩
  | .hbm, ⟨22, _⟩ => ⟨S4096x1024, .bf16⟩
  | .hbm, ⟨23, _⟩ => ⟨S1x1024, .f32⟩
  | .hbm, ⟨24, _⟩ => ⟨S1x1024, .f32⟩
  | .hbm, ⟨25, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x3072, .bf16⟩
  | .local _ .vmem, ⟨9, _⟩ => ⟨S1x512x3072, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S512x1024, .bf16⟩
  | .local _ .vmem, ⟨20, _⟩ => ⟨S256x1024, .bf16⟩
  | .local _ .vmem, ⟨21, _⟩ => ⟨S256x1024, .bf16⟩
  | .local _ .vmem, ⟨22, _⟩ => ⟨S1024x1024, .bf16⟩
  | .local _ .vmem, ⟨23, _⟩ => ⟨S1024x4096, .bf16⟩
  | .local _ .vmem, ⟨24, _⟩ => ⟨S4096x1024, .bf16⟩
  | .local _ .vmem, ⟨25, _⟩ => ⟨S1x1024, .f32⟩
  | .local _ .vmem, ⟨26, _⟩ => ⟨S1x512x1024, .f32⟩
  | .local _ .vmem, ⟨27, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== PostRefIdeal.lean ====
abbrev S32x2048x1024 : Shape := ⟨3, ![32, 2048, 1024]⟩
abbrev S32x2048x512 : Shape := ⟨3, ![32, 2048, 512]⟩
abbrev S32x2048x256 : Shape := ⟨3, ![32, 2048, 256]⟩
abbrev S32x2048x3072 : Shape := ⟨3, ![32, 2048, 3072]⟩
abbrev S32x1x1024 : Shape := ⟨3, ![32, 1, 1024]⟩
abbrev S1024 : Shape := ⟨1, ![1024]⟩
abbrev S512x1024 : Shape := ⟨2, ![512, 1024]⟩
abbrev S256x1024 : Shape := ⟨2, ![256, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩

abbrev nBuf : Space → Nat
  | .hbm => 92
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x256, .bf16⟩
  | .hbm, ⟨3, _⟩ => ⟨S32x2048x256, .bf16⟩
  | .hbm, ⟨4, _⟩ => ⟨S32x2048x3072, .bf16⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S1024, .f32⟩
  | .hbm, ⟨10, _⟩ => ⟨S512x1024, .f32⟩
  | .hbm, ⟨11, _⟩ => ⟨S256x1024, .f32⟩
  | .hbm, ⟨12, _⟩ => ⟨S256x1024, .f32⟩
  | .hbm, ⟨13, _⟩ => ⟨S1024x1024, .f32⟩
  | .hbm, ⟨14, _⟩ => ⟨S1024x4096, .f32⟩
  | .hbm, ⟨15, _⟩ => ⟨S4096x1024, .f32⟩
  | .hbm, ⟨16, _⟩ => ⟨S1024, .f32⟩
  | .hbm, ⟨17, _⟩ => ⟨S32x2048x512, .f32⟩
  | .hbm, ⟨18, _⟩ => ⟨S32x2048x256, .f32⟩
  | .hbm, ⟨19, _⟩ => ⟨S32x2048x256, .f32⟩
  | .hbm, ⟨20, _⟩ => ⟨S32x2048x3072, .f32⟩
  | .hbm, ⟨21, _⟩ => ⟨S32x2048x3072, .f32⟩
  | .hbm, ⟨22, _⟩ => ⟨S32x2048x3072, .f32⟩
  | .hbm, ⟨23, _⟩ => ⟨S_, .f32⟩
  | .hbm, ⟨24, _⟩ => ⟨S32x2048x3072, .f32⟩
  | .hbm, ⟨25, _⟩ => ⟨S32x2048x3072, .f32⟩
  | .hbm, ⟨26, _⟩ => ⟨S_, .f32⟩
  | .hbm, ⟨27, _⟩ => ⟨S32x2048x3072, .f32⟩
  | .hbm, ⟨28, _⟩ => ⟨S32x2048x3072, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S_, .f32⟩
  | .hbm, ⟨46, _⟩ => ⟨S32x2048, .f32⟩
  | .hbm, ⟨47, _⟩ => ⟨S32x2048x1, .f32⟩
  | .hbm, ⟨48, _⟩ => ⟨S_, .f32⟩
  | .hbm, ⟨49, _⟩ => ⟨S32x2048x1, .f32⟩
  | .hbm, ⟨50, _⟩ => ⟨S32x2048x1, .f32⟩
  | .hbm, ⟨51, _⟩ => ⟨S_, .f32⟩
  | .hbm, ⟨52, _⟩ => ⟨S32x2048x1, .f32⟩
  | .hbm, ⟨53, _⟩ => ⟨S32x2048x1, .f32⟩
  | .hbm, ⟨54, _⟩ => ⟨S32x2048x1, .f32⟩
  | .hbm, ⟨55, _⟩ => ⟨S32x2048x1024, .f32⟩
  | .hbm, ⟨56, _⟩ => ⟨S32x2048x1024, .f32⟩
  | .hbm, ⟨57, _⟩ => ⟨S1x1x1024, .f32⟩
  | .hbm, ⟨58, _⟩ => ⟨S32x2048x1024, .f32⟩
  | .hbm, ⟨59, _⟩ => ⟨S32x2048x1024, .f32⟩
  | .hbm, ⟨60, _⟩ => ⟨S_, .f32⟩
  | .hbm, ⟨61, _⟩ => ⟨S32x1x1024, .f32⟩
  | .hbm, ⟨62, _⟩ => ⟨S32x1x1024, .f32⟩
  | .hbm, ⟨63, _⟩ => ⟨S32x2048x1024, .f32⟩
  | .hbm, ⟨64, _⟩ => ⟨S32x2048x1024, .f32⟩
  | .hbm, ⟨65, _⟩ => ⟨S32x2048x1024, .f32⟩
  | .hbm, ⟨66, _⟩ => ⟨S32x2048x1024, .f32⟩
  | .hbm, ⟨67, _⟩ => ⟨S32x2048x4096, .f32⟩
  | .hbm, ⟨68, _⟩ => ⟨S_, .f32⟩
  | .hbm, ⟨69, _⟩ => ⟨S32x2048x4096, .f32⟩
  | .hbm, ⟨70, _⟩ => ⟨S32x2048x4096, .f32⟩
  | .hbm, ⟨71, _⟩ => ⟨S32x2048x4096, .f32⟩
  | .hbm, ⟨72, _⟩ => ⟨S32x2048x1024, .f32⟩
  | .hbm, ⟨73, _⟩ => ⟨S32x2048x1024, .f32⟩
  | .hbm, ⟨74, _⟩ => ⟨S32x2048x1024, .f32⟩
  | .hbm, ⟨75, _⟩ => ⟨S32x2048x1024, .f32⟩
  | .hbm, ⟨76, _⟩ => ⟨S32x2048x1024, .f32⟩
  | .hbm, ⟨77, _⟩ => ⟨S_, .f32⟩
  | .hbm, ⟨78, _⟩ => ⟨S32x2048, .f32⟩
  | .hbm, ⟨79, _⟩ => ⟨S32x2048x1, .f32⟩
  | .hbm, ⟨80, _⟩ => ⟨S_, .f32⟩
  | .hbm, ⟨81, _⟩ => ⟨S32x2048x1, .f32⟩
  | .hbm, ⟨82, _⟩ => ⟨S32x2048x1, .f32⟩
  | .hbm, ⟨83, _⟩ => ⟨S_, .f32⟩
  | .hbm, ⟨84, _⟩ => ⟨S32x2048x1, .f32⟩
  | .hbm, ⟨85, _⟩ => ⟨S32x2048x1, .f32⟩
  | .hbm, ⟨86, _⟩ => ⟨S32x2048x1, .f32⟩
  | .hbm, ⟨87, _⟩ => ⟨S32x2048x1024, .f32⟩
  | .hbm, ⟨88, _⟩ => ⟨S32x2048x1024, .f32⟩
  | .hbm, ⟨89, _⟩ => ⟨S1x1x1024, .f32⟩
  | .hbm, ⟨90, _⟩ => ⟨S32x2048x1024, .f32⟩
  | .hbm, ⟨91, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call0_cst : Ref sig .tc := ⟨.hbm, 68, rfl⟩
abbrev main_call0_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_5 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]
-- ==== Mid.lean ====
abbrev S32x2048x1024 : Shape := ⟨3, ![32, 2048, 1024]⟩
abbrev S32x2048x512 : Shape := ⟨3, ![32, 2048, 512]⟩
abbrev S32x2048x256 : Shape := ⟨3, ![32, 2048, 256]⟩
abbrev S32x2048x3072 : Shape := ⟨3, ![32, 2048, 3072]⟩
abbrev S32x1x1024 : Shape := ⟨3, ![32, 1, 1024]⟩
abbrev S1024 : Shape := ⟨1, ![1024]⟩
abbrev S512x1024 : Shape := ⟨2, ![512, 1024]⟩
abbrev S256x1024 : Shape := ⟨2, ![256, 1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x512 : Shape := ⟨3, ![1, 512, 512]⟩
abbrev S1x512x256 : Shape := ⟨3, ![1, 512, 256]⟩
abbrev S1x512x3072 : Shape := ⟨3, ![1, 512, 3072]⟩
abbrev S1x1x1024 : Shape := ⟨3, ![1, 1, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 26
  | .vmem => 28
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x256, .bf16⟩
  | .hbm, ⟨3, _⟩ => ⟨S32x2048x256, .bf16⟩
  | .hbm, ⟨4, _⟩ => ⟨S32x2048x3072, .bf16⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S1024, .f32⟩
  | .hbm, ⟨10, _⟩ => ⟨S512x1024, .f32⟩
  | .hbm, ⟨11, _⟩ => ⟨S256x1024, .f32⟩
  | .hbm, ⟨12, _⟩ => ⟨S256x1024, .f32⟩
  | .hbm, ⟨13, _⟩ => ⟨S1024x1024, .f32⟩
  | .hbm, ⟨14, _⟩ => ⟨S1024x4096, .f32⟩
  | .hbm, ⟨15, _⟩ => ⟨S4096x1024, .f32⟩
  | .hbm, ⟨16, _⟩ => ⟨S1024, .f32⟩
  | .hbm, ⟨17, _⟩ => ⟨S512x1024, .bf16⟩
  | .hbm, ⟨18, _⟩ => ⟨S256x1024, .bf16⟩
  | .hbm, ⟨19, _⟩ => ⟨S256x1024, .bf16⟩
  | .hbm, ⟨20, _⟩ => ⟨S1024x1024, .bf16⟩
  | .hbm, ⟨21, _⟩ => ⟨S1024x4096, .bf16⟩
  | .hbm, ⟨22, _⟩ => ⟨S4096x1024, .bf16⟩
  | .hbm, ⟨23, _⟩ => ⟨S1x1024, .f32⟩
  | .hbm, ⟨24, _⟩ => ⟨S1x1024, .f32⟩
  | .hbm, ⟨25, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x3072, .bf16⟩
  | .local _ .vmem, ⟨9, _⟩ => ⟨S1x512x3072, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S512x1024, .bf16⟩
  | .local _ .vmem, ⟨20, _⟩ => ⟨S256x1024, .bf16⟩
  | .local _ .vmem, ⟨21, _⟩ => ⟨S256x1024, .bf16⟩
  | .local _ .vmem, ⟨22, _⟩ => ⟨S1024x1024, .bf16⟩
  | .local _ .vmem, ⟨23, _⟩ => ⟨S1024x4096, .bf16⟩
  | .local _ .vmem, ⟨24, _⟩ => ⟨S4096x1024, .bf16⟩
  | .local _ .vmem, ⟨25, _⟩ => ⟨S1x1024, .f32⟩
  | .local _ .vmem, ⟨26, _⟩ => ⟨S1x512x1024, .f32⟩
  | .local _ .vmem, ⟨27, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MidRefIdeal.lean ====
abbrev S32x2048x1024 : Shape := ⟨3, ![32, 2048, 1024]⟩
abbrev S32x2048x512 : Shape := ⟨3, ![32, 2048, 512]⟩
abbrev S32x2048x256 : Shape := ⟨3, ![32, 2048, 256]⟩
abbrev S32x2048x3072 : Shape := ⟨3, ![32, 2048, 3072]⟩
abbrev S32x1x1024 : Shape := ⟨3, ![32, 1, 1024]⟩
abbrev S1024 : Shape := ⟨1, ![1024]⟩
abbrev S512x1024 : Shape := ⟨2, ![512, 1024]⟩
abbrev S256x1024 : Shape := ⟨2, ![256, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩

abbrev nBuf : Space → Nat
  | .hbm => 76
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x256, .bf16⟩
  | .hbm, ⟨3, _⟩ => ⟨S32x2048x256, .bf16⟩
  | .hbm, ⟨4, _⟩ => ⟨S32x2048x3072, .bf16⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S1024, .f32⟩
  | .hbm, ⟨10, _⟩ => ⟨S512x1024, .f32⟩
  | .hbm, ⟨11, _⟩ => ⟨S256x1024, .f32⟩
  | .hbm, ⟨12, _⟩ => ⟨S256x1024, .f32⟩
  | .hbm, ⟨13, _⟩ => ⟨S1024x1024, .f32⟩
  | .hbm, ⟨14, _⟩ => ⟨S1024x4096, .f32⟩
  | .hbm, ⟨15, _⟩ => ⟨S4096x1024, .f32⟩
  | .hbm, ⟨16, _⟩ => ⟨S1024, .f32⟩
  | .hbm, ⟨17, _⟩ => ⟨S32x2048x512, .f32⟩
  | .hbm, ⟨18, _⟩ => ⟨S32x2048x256, .f32⟩
  | .hbm, ⟨19, _⟩ => ⟨S32x2048x256, .f32⟩
  | .hbm, ⟨20, _⟩ => ⟨S32x2048x3072, .f32⟩
  | .hbm, ⟨21, _⟩ => ⟨S32x2048x3072, .f32⟩
  | .hbm, ⟨22, _⟩ => ⟨S32x2048x3072, .f32⟩
  | .hbm, ⟨23, _⟩ => ⟨S_, .f32⟩
  | .hbm, ⟨24, _⟩ => ⟨S32x2048x3072, .f32⟩
  | .hbm, ⟨25, _⟩ => ⟨S32x2048x3072, .f32⟩
  | .hbm, ⟨26, _⟩ => ⟨S_, .f32⟩
  | .hbm, ⟨27, _⟩ => ⟨S32x2048x3072, .f32⟩
  | .hbm, ⟨28, _⟩ => ⟨S32x2048x3072, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S_, .f32⟩
  | .hbm, ⟨46, _⟩ => ⟨S32x2048, .f32⟩
  | .hbm, ⟨47, _⟩ => ⟨S32x2048x1, .f32⟩
  | .hbm, ⟨48, _⟩ => ⟨S_, .f32⟩
  | .hbm, ⟨49, _⟩ => ⟨S32x2048x1, .f32⟩
  | .hbm, ⟨50, _⟩ => ⟨S32x2048x1, .f32⟩
  | .hbm, ⟨51, _⟩ => ⟨S_, .f32⟩
  | .hbm, ⟨52, _⟩ => ⟨S32x2048x1, .f32⟩
  | .hbm, ⟨53, _⟩ => ⟨S32x2048x1, .f32⟩
  | .hbm, ⟨54, _⟩ => ⟨S32x2048x1, .f32⟩
  | .hbm, ⟨55, _⟩ => ⟨S32x2048x1024, .f32⟩
  | .hbm, ⟨56, _⟩ => ⟨S32x2048x1024, .f32⟩
  | .hbm, ⟨57, _⟩ => ⟨S1x1x1024, .f32⟩
  | .hbm, ⟨58, _⟩ => ⟨S32x2048x1024, .f32⟩
  | .hbm, ⟨59, _⟩ => ⟨S32x2048x1024, .f32⟩
  | .hbm, ⟨60, _⟩ => ⟨S_, .f32⟩
  | .hbm, ⟨61, _⟩ => ⟨S32x1x1024, .f32⟩
  | .hbm, ⟨62, _⟩ => ⟨S32x1x1024, .f32⟩
  | .hbm, ⟨63, _⟩ => ⟨S32x2048x1024, .f32⟩
  | .hbm, ⟨64, _⟩ => ⟨S32x2048x1024, .f32⟩
  | .hbm, ⟨65, _⟩ => ⟨S32x2048x1024, .f32⟩
  | .hbm, ⟨66, _⟩ => ⟨S32x2048x1024, .f32⟩
  | .hbm, ⟨67, _⟩ => ⟨S32x2048x4096, .f32⟩
  | .hbm, ⟨68, _⟩ => ⟨S_, .f32⟩
  | .hbm, ⟨69, _⟩ => ⟨S32x2048x4096, .f32⟩
  | .hbm, ⟨70, _⟩ => ⟨S32x2048x4096, .f32⟩
  | .hbm, ⟨71, _⟩ => ⟨S32x2048x4096, .f32⟩
  | .hbm, ⟨72, _⟩ => ⟨S32x2048x1024, .f32⟩
  | .hbm, ⟨73, _⟩ => ⟨S32x2048x1024, .f32⟩
  | .hbm, ⟨74, _⟩ => ⟨S32x2048x1024, .f32⟩
  | .hbm, ⟨75, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call0_cst : Ref sig .tc := ⟨.hbm, 68, rfl⟩
abbrev main_call0_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]
-- ==== Pre.lean ====
abbrev S32x2048x1024 : Shape := ⟨3, ![32, 2048, 1024]⟩
abbrev S32x1x1024 : Shape := ⟨3, ![32, 1, 1024]⟩
abbrev S1024 : Shape := ⟨1, ![1024]⟩
abbrev S1024x6688 : Shape := ⟨2, ![1024, 6688]⟩
abbrev S1024x1536 : Shape := ⟨2, ![1024, 1536]⟩
abbrev S1024x256 : Shape := ⟨2, ![1024, 256]⟩
abbrev S1024x512 : Shape := ⟨2, ![1024, 512]⟩
abbrev S1024x768 : Shape := ⟨2, ![1024, 768]⟩
abbrev S1024x32 : Shape := ⟨2, ![1024, 32]⟩
abbrev S_ : Shape := ⟨0, ![]⟩
abbrev S1024x128 : Shape := ⟨2, ![1024, 128]⟩
abbrev S1024x3072 : Shape := ⟨2, ![1024, 3072]⟩
abbrev S1x1024 : Shape := ⟨2, ![1, 1024]⟩
abbrev S32x2048x1536 : Shape := ⟨3, ![32, 2048, 1536]⟩
abbrev S32x2048x768 : Shape := ⟨3, ![32, 2048, 768]⟩
abbrev S32x2048x512 : Shape := ⟨3, ![32, 2048, 512]⟩
abbrev S32x2048x128 : Shape := ⟨3, ![32, 2048, 128]⟩
abbrev S32x2048x3072 : Shape := ⟨3, ![32, 2048, 3072]⟩
abbrev S1x512x1024 : Shape := ⟨3, ![1, 512, 1024]⟩
abbrev S1x1x1024 : Shape := ⟨3, ![1, 1, 1024]⟩
abbrev S1x512x1536 : Shape := ⟨3, ![1, 512, 1536]⟩
abbrev S1x512x768 : Shape := ⟨3, ![1, 512, 768]⟩
abbrev S1x512x512 : Shape := ⟨3, ![1, 512, 512]⟩
abbrev S1x512x128 : Shape := ⟨3, ![1, 512, 128]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S1x512x256 : Shape := ⟨3, ![1, 512, 256]⟩
abbrev S512x128 : Shape := ⟨2, ![512, 128]⟩

abbrev nBuf : Space → Nat
  | .hbm => 29
  | .vmem => 25
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x6688, .f32⟩
  | .hbm, ⟨5, _⟩ => ⟨S1024x1536, .f32⟩
  | .hbm, ⟨6, _⟩ => ⟨S1024x256, .f32⟩
  | .hbm, ⟨7, _⟩ => ⟨S1024x512, .f32⟩
  | .hbm, ⟨8, _⟩ => ⟨S1024x768, .f32⟩
  | .hbm, ⟨9, _⟩ => ⟨S1024x512, .f32⟩
  | .hbm, ⟨10, _⟩ => ⟨S1024x768, .f32⟩
  | .hbm, ⟨11, _⟩ => ⟨S1024x32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x3072, .f32⟩
  | .hbm, ⟨16, _⟩ => ⟨S1024x1536, .bf16⟩
  | .hbm, ⟨17, _⟩ => ⟨S1024x768, .bf16⟩
  | .hbm, ⟨18, _⟩ => ⟨S1024x512, .bf16⟩
  | .hbm, ⟨19, _⟩ => ⟨S1024x768, .bf16⟩
  | .hbm, ⟨20, _⟩ => ⟨S1024x128, .bf16⟩
  | .hbm, ⟨21, _⟩ => ⟨S1024x3072, .bf16⟩
  | .hbm, ⟨22, _⟩ => ⟨S1x1024, .f32⟩
  | .hbm, ⟨23, _⟩ => ⟨S32x2048x1536, .bf16⟩
  | .hbm, ⟨24, _⟩ => ⟨S32x2048x768, .bf16⟩
  | .hbm, ⟨25, _⟩ => ⟨S32x2048x512, .f32⟩
  | .hbm, ⟨26, _⟩ => ⟨S32x2048x768, .bf16⟩
  | .hbm, ⟨27, _⟩ => ⟨S32x2048x128, .f32⟩
  | .hbm, ⟨28, _⟩ => ⟨S32x2048x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x768, .bf16⟩
  | .local _ .vmem, ⟨9, _⟩ => ⟨S1024x512, .bf16⟩
  | .local _ .vmem, ⟨10, _⟩ => ⟨S1024x768, .bf16⟩
  | .local _ .vmem, ⟨11, _⟩ => ⟨S1024x128, .bf16⟩
  | .local _ .vmem, ⟨12, _⟩ => ⟨S1024x3072, .bf16⟩
  | .local _ .vmem, ⟨13, _⟩ => ⟨S1x512x1536, .bf16⟩
  | .local _ .vmem, ⟨14, _⟩ => ⟨S1x512x1536, .bf16⟩
  | .local _ .vmem, ⟨15, _⟩ => ⟨S1x512x768, .bf16⟩
  | .local _ .vmem, ⟨16, _⟩ => ⟨S1x512x768, .bf16⟩
  | .local _ .vmem, ⟨17, _⟩ => ⟨S1x512x512, .f32⟩
  | .local _ .vmem, ⟨18, _⟩ => ⟨S1x512x512, .f32⟩
  | .local _ .vmem, ⟨19, _⟩ => ⟨S1x512x768, .bf16⟩
  | .local _ .vmem, ⟨20, _⟩ => ⟨S1x512x768, .bf16⟩
  | .local _ .vmem, ⟨21, _⟩ => ⟨S1x512x128, .f32⟩
  | .local _ .vmem, ⟨22, _⟩ => ⟨S1x512x128, .f32⟩
  | .local _ .vmem, ⟨23, _⟩ => ⟨S1x512x3072, .bf16⟩
  | .local _ .vmem, ⟨24, _⟩ => ⟨S1x512x3072, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PreRefIdeal.lean ====
abbrev S32x2048x1024 : Shape := ⟨3, ![32, 2048, 1024]⟩
abbrev S32x1x1024 : Shape := ⟨3, ![32, 1, 1024]⟩
abbrev S1024 : Shape := ⟨1, ![1024]⟩
abbrev S1024x6688 : Shape := ⟨2, ![1024, 6688]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x6688 : Shape := ⟨3, ![32, 2048, 6688]⟩
abbrev S32x2048x1536 : Shape := ⟨3, ![32, 2048, 1536]⟩
abbrev S32x2048x256 : Shape := ⟨3, ![32, 2048, 256]⟩
abbrev S32x2048x512 : Shape := ⟨3, ![32, 2048, 512]⟩
abbrev S32x2048x768 : Shape := ⟨3, ![32, 2048, 768]⟩
abbrev S32x2048x32 : Shape := ⟨3, ![32, 2048, 32]⟩
abbrev S32x2048x3072 : Shape := ⟨3, ![32, 2048, 3072]⟩
abbrev S32x2048x128 : Shape := ⟨3, ![32, 2048, 128]⟩

abbrev nBuf : Space → Nat
  | .hbm => 44
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x6688, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x1x1024, .f32⟩
  | .hbm, ⟨23, _⟩ => ⟨S32x1x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x6688, .f32⟩
  | .hbm, ⟨29, _⟩ => ⟨S32x2048x1536, .f32⟩
  | .hbm, ⟨30, _⟩ => ⟨S32x2048x256, .f32⟩
  | .hbm, ⟨31, _⟩ => ⟨S32x2048x512, .f32⟩
  | .hbm, ⟨32, _⟩ => ⟨S32x2048x512, .f32⟩
  | .hbm, ⟨33, _⟩ => ⟨S32x2048x768, .f32⟩
  | .hbm, ⟨34, _⟩ => ⟨S32x2048x32, .f32⟩
  | .hbm, ⟨35, _⟩ => ⟨S32x2048x3072, .f32⟩
  | .hbm, ⟨36, _⟩ => ⟨S_, .i32⟩
  | .hbm, ⟨37, _⟩ => ⟨S_, .f32⟩
  | .hbm, ⟨38, _⟩ => ⟨S32x2048x128, .f32⟩
  | .hbm, ⟨39, _⟩ => ⟨S32x2048x1536, .bf16⟩
  | .hbm, ⟨40, _⟩ => ⟨S32x2048x768, .f32⟩
  | .hbm, ⟨41, _⟩ => ⟨S32x2048x768, .bf16⟩
  | .hbm, ⟨42, _⟩ => ⟨S32x2048x768, .bf16⟩
  | .hbm, ⟨43, _⟩ => ⟨S32x2048x3072, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Mod.lean ====
abbrev S32x1024 : Shape := ⟨2, ![32, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x32x6144 : Shape := ⟨3, ![4, 32, 6144]⟩
abbrev S1x1024x1536 : Shape := ⟨3, ![1, 1024, 1536]⟩
abbrev S1x1x1536 : Shape := ⟨3, ![1, 1, 1536]⟩
abbrev S1x32x1536 : Shape := ⟨3, ![1, 32, 1536]⟩
abbrev S1024x1536 : Shape := ⟨2, ![1024, 1536]⟩
abbrev S32x1536 : Shape := ⟨2, ![32, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x32x6144, .f32⟩
  | .local _ .vmem, ⟨0, _⟩ => ⟨S32x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x32x1536, .f32⟩
  | .local _ .vmem, ⟨6, _⟩ => ⟨S1x32x1536, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S32x1024 : Shape := ⟨2, ![32, 1024]⟩
abbrev S4x1024x6144 : Shape := ⟨3, ![4, 1024, 6144]⟩
abbrev S4x6144 : Shape := ⟨2, ![4, 6144]⟩
abbrev S_ : Shape := ⟨0, ![]⟩
abbrev S4x6144x32 : Shape := ⟨3, ![4, 6144, 32]⟩
abbrev S4x32x6144 : Shape := ⟨3, ![4, 32, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S4x1024x6144, .f32⟩
  | .hbm, ⟨2, _⟩ => ⟨S4x6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S4x6144x32, .f32⟩
  | .hbm, ⟨13, _⟩ => ⟨S4x32x6144, .f32⟩
  | .hbm, ⟨14, _⟩ => ⟨S4x1x6144, .f32⟩
  | .hbm, ⟨15, _⟩ => ⟨S4x32x6144, .f32⟩
  | .hbm, ⟨16, _⟩ => ⟨S4x32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Bounds.lean ====
abbrev S4x2x256 : Shape := ⟨3, ![4, 2, 256]⟩
abbrev S4x512 : Shape := ⟨2, ![4, 512]⟩
abbrev S512 : Shape := ⟨1, ![512]⟩
abbrev S1x512 : Shape := ⟨2, ![1, 512]⟩

abbrev nBuf : Space → Nat
  | .hbm => 3
  | .vmem => 2
  | .smem => 0
  | _ => 0

abbrev bufTy : (tb : Table) → Fin (tcTables nBuf tb) → BufTy
  | .hbm, ⟨0, _⟩ => ⟨S4x2x256, .f32⟩
  | .hbm, ⟨1, _⟩ => ⟨S4x512, .f32⟩
  | .hbm, ⟨2, _⟩ => ⟨S4x512, .f32⟩
  | .local _ .vmem, ⟨0, _⟩ => ⟨S4x512, .f32⟩
  | .local _ .vmem, ⟨1, _⟩ => ⟨S4x512, .f32⟩
  | _, _ => ⟨S4x2x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BoundsRefIdeal.lean ====
abbrev S4x2x256 : Shape := ⟨3, ![4, 2, 256]⟩
abbrev S_ : Shape := ⟨0, ![]⟩
abbrev S2x256 : Shape := ⟨2, ![2, 256]⟩
abbrev S1x2x256 : Shape := ⟨3, ![1, 2, 256]⟩
abbrev S4x512 : Shape := ⟨2, ![4, 512]⟩

abbrev nBuf : Space → Nat
  | .hbm => 19
  | .vmem => 0
  | .smem => 0
  | _ => 0

abbrev bufTy : (tb : Table) → Fin (tcTables nBuf tb) → BufTy
  | .hbm, ⟨0, _⟩ => ⟨S4x2x256, .f32⟩
  | .hbm, ⟨1, _⟩ => ⟨S_, .f32⟩
  | .hbm, ⟨2, _⟩ => ⟨S2x256, .f32⟩
  | .hbm, ⟨3, _⟩ => ⟨S1x2x256, .f32⟩
  | .hbm, ⟨4, _⟩ => ⟨S4x2x256, .f32⟩
  | .hbm, ⟨5, _⟩ => ⟨S4x2x256, .f32⟩
  | .hbm, ⟨6, _⟩ => ⟨S4x2x256, .f32⟩
  | .hbm, ⟨7, _⟩ => ⟨S_, .f32⟩
  | .hbm, ⟨8, _⟩ => ⟨S2x256, .f32⟩
  | .hbm, ⟨9, _⟩ => ⟨S1x2x256, .f32⟩
  | .hbm, ⟨10, _⟩ => ⟨S4x2x256, .f32⟩
  | .hbm, ⟨11, _⟩ => ⟨S4x2x256, .f32⟩
  | .hbm, ⟨12, _⟩ => ⟨S_, .f32⟩
  | .hbm, ⟨13, _⟩ => ⟨S_, .f32⟩
  | .hbm, ⟨14, _⟩ => ⟨S4x2x256, .f32⟩
  | .hbm, ⟨15, _⟩ => ⟨S1x2x256, .f32⟩
  | .hbm, ⟨16, _⟩ => ⟨S4x2x256, .f32⟩
  | .hbm, ⟨17, _⟩ => ⟨S4x2x256, .f32⟩
  | .hbm, ⟨18, _⟩ => ⟨S4x512, .f32⟩
  | _, _ => ⟨S4x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_call0_cst : Ref sig .tc := ⟨.hbm, 12, rfl⟩
abbrev main_call0_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.AttnRow.lean ====
module

public import Idealize.ShloMosaic.Lib.Pipeline.ValueKit

@[expose] public section

set_option maxRecDepth 16384

noncomputable section

/-! The arithmetic of one row of differential attention, over the extended reals. A head's row is a difference of two
softmaxes applied to the values, divided by its root mean square and scaled. The kernel divides the weighted sums of the
values, the reference divides the weights: on finite arguments the two agree. -/

namespace Cert.AttnRow
open Idealize.ShloMosaic

/-- The weight of the second softmax, from the four rows of its parameters and the layer's constant. -/
def lamOf (init : EReal) (lp : Fin 4 → Fin 64 → EReal) : EReal :=
  Ideal.exp (∑ k, lp 0 k * lp 1 k) - Ideal.exp (∑ k, lp 2 k * lp 3 k) + init

/-- A query's score at a key: an eighth of their product, less the distance's penalty. -/
def score (q : Fin 64 → EReal) (k : Fin 2048 → Fin 64 → EReal) (pen : Fin 2048 → EReal) (j : Fin 2048) : EReal :=
  (∑ d, q d * k j d) * Ideal.ofBits FTy.f32 0x3E000000#32 - pen j

/-- The greatest score. -/
def top (s : Fin 2048 → EReal) : EReal := Finset.univ.fold max (Ideal.ofBits FTy.f32 0xFF800000#32) s

/-- The exponential of a score's distance from the greatest. -/
def ex (s : Fin 2048 → EReal) (j : Fin 2048) : EReal := Ideal.exp (s j - top s)

/-- A softmax weight. -/
def prob (s : Fin 2048 → EReal) (j : Fin 2048) : EReal := Ideal.div (ex s j) (∑ i, ex s i)

/-- The values weighted by the difference of two softmaxes. -/
def diffOut (s1 s2 : Fin 2048 → EReal) (lam : EReal) (v : Fin 2048 → EReal) : EReal :=
  ∑ j, (prob s1 j - lam * prob s2 j) * v j

/-- One softmax applied to the values, divided last. -/
def branch (s v : Fin 2048 → EReal) : EReal := Ideal.div (∑ j, ex s j * v j) (∑ j, ex s j)

/-- A head's row divided by its root mean square and scaled twice. -/
def headNorm (o g : Fin 128 → EReal) (c : EReal) (e : Fin 128) : EReal :=
  o e * Ideal.rsqrt (Ideal.div (∑ k, o k * o k) (Ideal.ofBits FTy.f32 0x43000000#32) + Ideal.ofBits FTy.f32 0x358637BD#32)
    * g e * c

/-- The head's row of the layer's attention: the queries, keys and values of one head, a penalty for each distance. -/
def headRow (init c : EReal) (q : Fin 128 → EReal) (k v : Fin 2048 → Fin 128 → EReal) (pen : Fin 2048 → EReal)
    (lp : Fin 4 → Fin 64 → EReal) (g : Fin 128 → EReal) : Fin 128 → EReal :=
  headNorm (fun e => diffOut
      (score (fun d => q ⟨d.val, by omega⟩) (fun j d => k j ⟨d.val, by omega⟩) pen)
      (score (fun d => q ⟨64 + d.val, by omega⟩) (fun j d => k j ⟨64 + d.val, by omega⟩) pen)
      (lamOf init lp) (fun j => v j e)) g c

/-- A sum of reals, as extended reals. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- The value of the constant that scales the scores. -/
theorem eighth : Ideal.ofBits FTy.f32 0x3E000000#32 = ((1 / 8 : ℝ) : EReal) := by
  simp [Ideal.ofBits, Ideal.ieee]
  norm_num
  rw [← EReal.coe_mul]
  norm_num

/-- The value of the same constant in half width. -/
theorem eighth_half : Ideal.ofBits FTy.bf16 0x3E00#16 = ((1 / 8 : ℝ) : EReal) := by
  simp [Ideal.ofBits, Ideal.ieee]
  norm_num
  rw [← EReal.coe_mul]
  norm_num

/-- The value that a maximum starts from. -/
theorem bottom : Ideal.ofBits FTy.f32 0xFF800000#32 = ⊥ := by
  simp [Ideal.ofBits, Ideal.ieee]

/-- The greatest of finitely many real scores is real. -/
theorem top_real (s : Fin 2048 → ℝ) : ∃ M : ℝ, top (fun j => (s j : EReal)) = M := by
  have h1 : top (fun j => (s j : EReal)) ≠ ⊤ := by
    unfold top
    rw [bottom]
    refine ne_of_lt ((Finset.fold_max_lt _).mpr ⟨bot_lt_top, fun j _ => EReal.coe_lt_top _⟩)
  have h2 : top (fun j => (s j : EReal)) ≠ ⊥ := by
    unfold top
    rw [bottom]
    refine ne_of_gt (lt_of_lt_of_le (EReal.bot_lt_coe (s 0)) ?_)
    exact (Finset.le_fold_max _).mpr (Or.inr ⟨0, Finset.mem_univ _, le_refl _⟩)
  exact ⟨_, (EReal.coe_toReal h1 h2).symm⟩

/-- On real scores the exponentials are positive reals. -/
theorem ex_real (s : Fin 2048 → ℝ) : ∃ p : Fin 2048 → ℝ, (∀ j, 0 < p j) ∧ ex (fun j => (s j : EReal)) = fun j => (p j : EReal) := by
  obtain ⟨M, hM⟩ := top_real s
  refine ⟨fun j => Real.exp (s j - M), fun j => Real.exp_pos _, funext fun j => ?_⟩
  unfold ex
  rw [hM, ← EReal.coe_sub, Ideal.exp_coe]

/-- On finite scores, values and weight: the difference of the divided sums is the sum over the differences of the
divided exponentials. -/
theorem branch_sub (s1 s2 v : Fin 2048 → ℝ) (lam : ℝ) :
    branch (fun j => (s1 j : EReal)) (fun j => (v j : EReal))
        - (lam : EReal) * branch (fun j => (s2 j : EReal)) (fun j => (v j : EReal))
      = diffOut (fun j => (s1 j : EReal)) (fun j => (s2 j : EReal)) lam (fun j => (v j : EReal)) := by
  obtain ⟨p, hp, h1⟩ := ex_real s1
  obtain ⟨r, hr, h2⟩ := ex_real s2
  unfold branch diffOut prob
  rw [h1, h2]
  have hP : (∑ j, p j) ≠ 0 := ne_of_gt (Finset.sum_pos (fun j _ => hp j) Finset.univ_nonempty)
  have hR : (∑ j, r j) ≠ 0 := ne_of_gt (Finset.sum_pos (fun j _ => hr j) Finset.univ_nonempty)
  simp only [← EReal.coe_mul, ← coe_sum, Ideal.div_coe hP, Ideal.div_coe hR, ← EReal.coe_sub]
  refine congrArg _ ?_
  rw [Finset.sum_mul, Finset.sum_mul, Finset.mul_sum, ← Finset.sum_sub_distrib]
  exact Finset.sum_congr rfl fun j _ => by ring

/-- A sum over a head's 128 columns of terms that vanish in its second half. -/
theorem sum_lo (f : Fin 64 → EReal) (F : Fin 128 → EReal) (hlo : ∀ d : Fin 64, F ⟨d.val, by omega⟩ = f d)
    (hhi : ∀ d : Fin 64, F ⟨64 + d.val, by omega⟩ = 0) : ∑ d, F d = ∑ d, f d := by
  refine (Fin.sum_univ_add (a := 64) (b := 64) F).trans ?_
  refine (congrArg₂ (· + ·) (Finset.sum_congr rfl fun d _ => hlo d) (Finset.sum_congr rfl fun d _ => hhi d)).trans ?_
  rw [Finset.sum_const_zero, add_zero]

/-- A sum over a head's 128 columns of terms that vanish in its first half. -/
theorem sum_hi (f : Fin 64 → EReal) (F : Fin 128 → EReal) (hlo : ∀ d : Fin 64, F ⟨d.val, by omega⟩ = 0)
    (hhi : ∀ d : Fin 64, F ⟨64 + d.val, by omega⟩ = f d) : ∑ d, F d = ∑ d, f d := by
  refine (Fin.sum_univ_add (a := 64) (b := 64) F).trans ?_
  refine (congrArg₂ (· + ·) (Finset.sum_congr rfl fun d _ => hlo d) (Finset.sum_congr rfl fun d _ => hhi d)).trans ?_
  rw [Finset.sum_const_zero, zero_add]

/-- On finite queries, keys and penalties a score is real, and scaling the query or the product is the same. -/
theorem score_real (q : Fin 64 → ℝ) (k : Fin 2048 → Fin 64 → ℝ) (pen : Fin 2048 → ℝ) :
    ∃ s : Fin 2048 → ℝ,
      score (fun d => (q d : EReal)) (fun j d => (k j d : EReal)) (fun j => (pen j : EReal)) = (fun j => (s j : EReal))
      ∧ ∀ j, (∑ d, (q d : EReal) * Ideal.ofBits FTy.bf16 0x3E00#16 * (k j d : EReal)) + (0 - (pen j : EReal)) = s j := by
  refine ⟨fun j => (∑ d, q d * k j d) * (1 / 8) - pen j, funext fun j => ?_, fun j => ?_⟩
  · unfold score
    rw [eighth]
    simp only [← EReal.coe_mul, ← coe_sum, ← EReal.coe_sub]
  · rw [eighth_half, ← EReal.coe_zero]
    simp only [← EReal.coe_mul, ← coe_sum, ← EReal.coe_sub, ← EReal.coe_add]
    refine congrArg _ ?_
    rw [Finset.sum_mul, zero_sub, ← sub_eq_add_neg]
    exact congrArg (· - pen j) (Finset.sum_congr rfl fun d _ => by ring)

/-- On finite parameters the weight of the second softmax is real. -/
theorem lamOf_real (init : ℝ) (lp : Fin 4 → Fin 64 → ℝ) :
    ∃ r : ℝ, lamOf (init : EReal) (fun a d => (lp a d : EReal)) = r := by
  refine ⟨Real.exp (∑ k, lp 0 k * lp 1 k) - Real.exp (∑ k, lp 2 k * lp 3 k) + init, ?_⟩
  unfold lamOf
  simp only [← EReal.coe_mul, ← coe_sum, Ideal.exp_coe, ← EReal.coe_sub, ← EReal.coe_add]

end Cert.AttnRow

end
-- ==== Proof.AttnBody.lean ====
module

public import proofs.«01_k».proof.Proof.Gen.AttnIdeal.Skeleton
public import proofs.«01_k».proof.Proof.AttnRow

@[expose] public section

set_option maxRecDepth 16384

noncomputable section

/-! What one point of the attention's grid writes, entry by entry. -/

open Idealize.ShloMosaic Idealize.ShloMosaic.TcCoe Idealize.SL.Sem
namespace Cert.AttnIdeal.Body
open Cert.AttnIdeal Cert.AttnIdeal.Gen Cert.AttnRow

/-- The mask picks the first half of a head's columns. -/
theorem mask_at (d : Fin 128) : k0_pay4 (ix2 0 d) = if d.val < 64 then 1#1 else 0#1 := by
  pointwise [k0_pay4]
  revert d
  decide +kernel

/-- A scaled query. -/
theorem pay3_at (x : Vec Ideal S1x256x128 .bf16) (r : Fin 256) (d : Fin 128) :
    k0_pay3 (F := Ideal) x (ix2 r d) = x (ix3 0 r d) * Ideal.ofBits FTy.bf16 0x3E00#16 := by
  pointwise! [k0_pay3]

/-- The products of the first half of the queries and keys. -/
theorem pay9_at (x : Vec Ideal S1x256x128 .bf16) (y : Vec Ideal S1x2048x128 .bf16) (r : Fin 256) (j : Fin 2048) :
    k0_pay9 (F := Ideal) x y (ix2 r j)
      = ∑ d : Fin 64, x (ix3 0 r ⟨d.val, by omega⟩) * Ideal.ofBits FTy.bf16 0x3E00#16 * y (ix3 0 j ⟨d.val, by omega⟩) := by
  pointwise [k0_pay9, k0_pay6, k0_pay5]
  refine sum_lo _ _ (fun d => ?_) (fun d => ?_)
  · rw [mask_at, if_pos (show d.val < 64 from d.isLt), pay3_at]
    rfl
  · rw [mask_at, if_neg (show ¬(64 + d.val < 64) by omega)]
    rfl

/-- The products of the second half of the queries and keys. -/
theorem second_at (x : Vec Ideal S1x256x128 .bf16) (y : Vec Ideal S1x2048x128 .bf16) (r : Fin 256) (j : Fin 2048) :
    (∑ d : Fin 128, Scalar.select (k0_pay4 (ix2 0 d)) (k0_pay5 (F := Ideal) (ix2 r d)) (k0_pay3 (F := Ideal) x (ix2 r d))
        * k0_pay6 (F := Ideal) y (ix2 j d))
      = ∑ d : Fin 64, x (ix3 0 r ⟨64 + d.val, by omega⟩) * Ideal.ofBits FTy.bf16 0x3E00#16
          * y (ix3 0 j ⟨64 + d.val, by omega⟩) := by
  pointwise [k0_pay6, k0_pay5]
  refine sum_hi _ _ (fun d => ?_) (fun d => ?_)
  · rw [mask_at, if_pos (show d.val < 64 from d.isLt)]
    rfl
  · rw [mask_at, if_neg (show ¬(64 + d.val < 64) by omega), pay3_at]
    rfl

/-- What the kernel keeps of a head's penalties. -/
theorem pay2_at (i : grid0.Coords) (x : Vec Ideal S1x1x128 .f32) (r : Fin 256) (j : Fin 2048) :
    k0_pay2 (F := Ideal) i x (ix2 r j)
      = 0 - x (ix3 0 0 0) * (((IntOp.absi (BitVec.ofNat 32 ((i 0).val * 256 + r.val) - BitVec.ofNat 32 j.val)).toInt : ℝ) : EReal) := by
  have e : BitVec.ofNat 32 ((i 0).val * 256 + r.val) = BitVec.ofNat 32 r.val + BitVec.ofNat 32 (i 0).val * 256#32 := by
    rw [Nat.add_comm, BitVec.ofNat_add, BitVec.ofNat_mul]
  rw [e]
  pointwise [k0_pay2]
  rfl

/-- A row of the difference of the two halves' softmaxes applied to the values, divided by its root mean square. -/
theorem pay10_at (x : FVec Ideal S256x128 .bf16) (mk : IVec S1x128 1) (z : FVec Ideal S256x128 .bf16)
    (k v : FVec Ideal S2048x128 .bf16) (lam : FVec Ideal S1x1 .f32) (qk : FVec Ideal S256x2048 .f32)
    (b1 b2 : Vec Ideal S256x2048 .f32) (r : Fin 256) (s1 s2 : Fin 2048 → EReal) (o : Fin 128 → EReal)
    (h1 : ∀ j, qk (ix2 r j) + b1 (ix2 r j) = s1 j)
    (h2 : ∀ j, (∑ d : Fin 128, Scalar.select (mk (ix2 0 d)) (z (ix2 r d)) (x (ix2 r d)) * k (ix2 j d)) + b2 (ix2 r j) = s2 j)
    (ho : ∀ e, branch s1 (fun j => v (ix2 j e)) - lam (ix2 0 0) * branch s2 (fun j => v (ix2 j e)) = o e) (e : Fin 128) :
    k0_pay10 (F := Ideal) x mk z k v lam qk b1 b2 (ix2 r e)
      = o e * Ideal.rsqrt (Ideal.div (∑ k, o k * o k) (Ideal.ofBits FTy.f32 0x43000000#32)
          + Ideal.ofBits FTy.f32 0x358637BD#32) := by
  obtain rfl : s1 = fun j => qk (ix2 r j) + b1 (ix2 r j) := funext fun j => (h1 j).symm
  obtain rfl : s2 = fun j => (∑ d : Fin 128, Scalar.select (mk (ix2 0 d)) (z (ix2 r d)) (x (ix2 r d)) * k (ix2 j d))
      + b2 (ix2 r j) := funext fun j => (h2 j).symm
  obtain rfl : o = _ := funext fun e => (ho e).symm
  unfold branch ex top
  pointwise! [k0_pay10]

/-- A row of the head before the last scaling, where the queries, keys, values and parameters are finite. -/
theorem row_at (init : ℝ) (c : EReal) (q : Vec Ideal S1x256x128 .bf16) (k v : Vec Ideal S1x2048x128 .bf16)
    (lp : Vec Ideal S4x64 .f32) (lamv : FVec Ideal S1x1 .f32) (g : Fin 128 → EReal) (b : Vec Ideal S256x2048 .f32)
    (r : Fin 256) (e : Fin 128) (pen : Fin 2048 → ℝ) (h8 : lamv (ix2 0 0) = lamOf (init : EReal) (fun a d => lp (ix2 a d)))
    (hb : ∀ j, b (ix2 r j) = 0 - (pen j : EReal))
    (hq : ∀ d, ∃ a : ℝ, q (ix3 0 r d) = (a : EReal)) (hk : ∀ j d, ∃ a : ℝ, k (ix3 0 j d) = (a : EReal))
    (hv : ∀ j d, ∃ a : ℝ, v (ix3 0 j d) = (a : EReal)) (hl : ∀ i d, ∃ a : ℝ, lp (ix2 i d) = (a : EReal)) :
    k0_pay10 (F := Ideal) (k0_pay3 q) k0_pay4 k0_pay5 (k0_pay6 k) (k0_pay7 v) lamv (k0_pay9 q k) b b (ix2 r e) * g e * c
      = headRow (init : EReal) c (fun d => q (ix3 0 r d))
          (fun j d => k (ix3 0 j d)) (fun j d => v (ix3 0 j d)) (fun j => (pen j : EReal)) (fun i d => lp (ix2 i d)) g e := by
  choose q' hq using hq
  choose k' hk using hk
  choose v' hv using hv
  choose l' hl using hl
  obtain ⟨lam, hlam⟩ := lamOf_real init l'
  obtain ⟨s1, e1, f1⟩ := score_real (fun d => q' ⟨d.val, by omega⟩) (fun j d => k' j ⟨d.val, by omega⟩) pen
  obtain ⟨s2, e2, f2⟩ := score_real (fun d => q' ⟨64 + d.val, by omega⟩) (fun j d => k' j ⟨64 + d.val, by omega⟩) pen
  have h7 : ∀ j d, k0_pay7 (F := Ideal) v (ix2 j d) = (v' j d : EReal) := fun j d => by
    rw [← hv]
    pointwise! [k0_pay7]
  have h8 : lamv (ix2 0 0) = (lam : EReal) := by
    rw [h8, ← hlam]
    exact congrArg _ (funext fun i => funext fun d => hl i d)
  rw [pay10_at _ _ _ _ _ _ _ _ _ r (fun j => (s1 j : EReal)) (fun j => (s2 j : EReal))
    (fun e => diffOut (fun j => (s1 j : EReal)) (fun j => (s2 j : EReal)) lam (fun j => (v' j e : EReal)))
    (fun j => ?_) (fun j => ?_) (fun e => ?_)]
  · unfold headRow headNorm
    simp only [hq, hk, hv, hl, hlam, e1, e2]
  · rw [pay9_at, hb]
    simp only [hq, hk]
    exact f1 j
  · rw [second_at, hb]
    simp only [hq, hk]
    exact f2 j
  · simp only [h7, h8]
    exact branch_sub s1 s2 (fun j => v' j e) lam

end Cert.AttnIdeal.Body

end
-- ==== Proof.AttnRef.lean ====
module

public import proofs.«01_k».proof.Proof.Gen.AttnRefIdeal
public import proofs.«01_k».proof.Proof.AttnRow

@[expose] public section

set_option maxRecDepth 16384

noncomputable section

/-! What the attention's reference computes, stage by stage, down to one head's row. -/

open Idealize.ShloMosaic Idealize.ShloMosaic.TcCoe Idealize.SL.Sem
namespace Cert.AttnRefIdeal.Rows
open Cert.AttnRefIdeal Cert.AttnRefIdeal.Gen Cert.AttnRow

/-- The queries, by head and half. -/
def qArr (pa : FVec Ideal S32x2048x1536 .bf16) : FVec Ideal S32x4x2x2048x64 .f32 :=
  transpose S32x4x2x2048x64 [0, 2, 3, 1, 4] (shapeCast S32x2048x4x2x64 (extractStridedSlice S32x2048x512 ![0, 0, 0]
    (extf .f32 pa bitsLt_bf16_f32) slices_S32x2048x1536_S32x2048x512_0_0_0) shapeCasts_S32x2048x512_S32x2048x4x2x64)
    transposes_S32x2048x4x2x64_S32x4x2x2048x64_0_2_3_1_4

/-- The keys, by head and half. -/
def kArr (pa : FVec Ideal S32x2048x1536 .bf16) : FVec Ideal S32x4x2x2048x64 .f32 :=
  transpose S32x4x2x2048x64 [0, 2, 3, 1, 4] (shapeCast S32x2048x4x2x64 (extractStridedSlice S32x2048x512 ![0, 0, 512]
    (extf .f32 pa bitsLt_bf16_f32) slices_S32x2048x1536_S32x2048x512_0_0_512) shapeCasts_S32x2048x512_S32x2048x4x2x64)
    transposes_S32x2048x4x2x64_S32x4x2x2048x64_0_2_3_1_4

/-- The values, by head. -/
def vArr (pa : FVec Ideal S32x2048x1536 .bf16) : FVec Ideal S32x4x2048x128 .f32 :=
  transpose S32x4x2048x128 [0, 2, 1, 3] (shapeCast S32x2048x4x128 (extractStridedSlice S32x2048x512 ![0, 0, 1024]
    (extf .f32 pa bitsLt_bf16_f32) slices_S32x2048x1536_S32x2048x512_0_0_1024) shapeCasts_S32x2048x512_S32x2048x4x128)
    transposes_S32x2048x4x128_S32x4x2048x128_0_2_1_3

/-- The weight of the second softmax, with the layer's constant. -/
def lamArr (init : BitVec 32) (lp : FVec Ideal S4x64 .f32) : FVec Ideal S_ .f32 :=
  addf (subf
      (Host.exp (Host.reduceAdd (mulf
        (shapeCast S64 (extractStridedSlice S1x64 ![0, 0] lp slices_S4x64_S1x64_0_0) shapeCasts_S1x64_S64)
        (shapeCast S64 (extractStridedSlice S1x64 ![1, 0] lp slices_S4x64_S1x64_1_0) shapeCasts_S1x64_S64))
        (constant S_ .f32 0x00000000#32) reducesTo_S64_S_d0 h_S_))
      (Host.exp (Host.reduceAdd (mulf
        (shapeCast S64 (extractStridedSlice S1x64 ![2, 0] lp slices_S4x64_S1x64_2_0) shapeCasts_S1x64_S64)
        (shapeCast S64 (extractStridedSlice S1x64 ![3, 0] lp slices_S4x64_S1x64_3_0) shapeCasts_S1x64_S64))
        (constant S_ .f32 0x00000000#32) reducesTo_S64_S_d0 h_S_)))
    (constant S_ .f32 init)

/-- Every head's penalty for every pair of positions. -/
def penArr : FVec Ideal S32x4x2x2048x2048 .f32 :=
  broadcastInDim S32x4x2x2048x2048 ![0, 1, 2, 3, 4] bcast_S1x4x1x2048x2048_S32x4x2x2048x2048_0_1_2_3_4
    (broadcastInDim S1x4x1x2048x2048 ![1, 2, 3, 4] bcast_S4x1x2048x2048_S1x4x1x2048x2048_1_2_3_4
      (mulf
        (broadcastInDim S4x1x2048x2048 ![0, 1, 2, 3] bcast_S4x1x1x1_S4x1x2048x2048_0_1_2_3
          (broadcastInDim S4x1x1x1 ![0] bcast_S4_S4x1x1x1_0 (fun i => FloatOps.ofBits .f32 (lit0 (S4.rowMajor i)))))
        (broadcastInDim S4x1x2048x2048 ![0, 1, 2, 3] bcast_S1x1x2048x2048_S4x1x2048x2048_0_1_2_3
          (broadcastInDim S1x1x2048x2048 ![2, 3] bcast_S2048x2048_S1x1x2048x2048_2_3
            (sitofp .f32 (absi (subi
              (broadcastInDim S2048x2048 ![0, 1] bcast_S2048x1_S2048x2048_0_1
                (broadcastInDim S2048x1 ![0] bcast_S2048_S2048x1_0 (iotaInDim S2048 32 0)))
              (broadcastInDim S2048x2048 ![0, 1] bcast_S1x2048_S2048x2048_0_1
                (broadcastInDim S1x2048 ![1] bcast_S2048_S1x2048_1 (iotaInDim S2048 32 0))))))))))

/-- The scores. -/
def scoreArr (q k : FVec Ideal S32x4x2x2048x64 .f32) (pen : FVec Ideal S32x4x2x2048x2048 .f32) :
    FVec Ideal S32x4x2x2048x2048 .f32 :=
  subf (mulf (Host.dotGeneral dot_S32x4x2x2048x64_S32x4x2x2048x64_S32x4x2x2048x2048_4_4_3_3_012_012 none q k)
    (broadcastInDim S32x4x2x2048x2048 ![] bcast_S_S32x4x2x2048x2048 (constant S_ .f32 0x3E000000#32))) pen

/-- The exponentials of the scores' distances from each row's greatest. -/
def exArr (s : FVec Ideal S32x4x2x2048x2048 .f32) : FVec Ideal S32x4x2x2048x2048 .f32 :=
  Host.exp (subf s (broadcastInDim S32x4x2x2048x2048 ![0, 1, 2, 3, 4] bcast_S32x4x2x2048x1_S32x4x2x2048x2048_0_1_2_3_4
    (broadcastInDim S32x4x2x2048x1 ![0, 1, 2, 3] bcast_S32x4x2x2048_S32x4x2x2048x1_0_1_2_3
      (Host.reduce FloatOps.maximumf s (constant S_ .f32 0xFF800000#32) reducesTo_S32x4x2x2048x2048_S32x4x2x2048_d4 h_S_))))

/-- The softmax weights. -/
def probArr (e : FVec Ideal S32x4x2x2048x2048 .f32) : FVec Ideal S32x4x2x2048x2048 .f32 :=
  Host.divf e (broadcastInDim S32x4x2x2048x2048 ![0, 1, 2, 3, 4] bcast_S32x4x2x2048x1_S32x4x2x2048x2048_0_1_2_3_4
    (broadcastInDim S32x4x2x2048x1 ![0, 1, 2, 3] bcast_S32x4x2x2048_S32x4x2x2048x1_0_1_2_3
      (Host.reduceAdd e (constant S_ .f32 0x00000000#32) reducesTo_S32x4x2x2048x2048_S32x4x2x2048_d4 h_S_)))

/-- The values weighted by the difference of the two halves' softmaxes. -/
def oArr (p : FVec Ideal S32x4x2x2048x2048 .f32) (lam : FVec Ideal S_ .f32) (v : FVec Ideal S32x4x2048x128 .f32) :
    FVec Ideal S32x4x2048x128 .f32 :=
  Host.dotGeneral dot_S32x4x2048x2048_S32x4x2048x128_S32x4x2048x128_3_2_2_3_01_01 none
    (subf
      (shapeCast S32x4x2048x2048 (extractStridedSlice S32x4x1x2048x2048 ![0, 0, 0, 0, 0] p
        slices_S32x4x2x2048x2048_S32x4x1x2048x2048_0_0_0_0_0) shapeCasts_S32x4x1x2048x2048_S32x4x2048x2048)
      (mulf (broadcastInDim S32x4x2048x2048 ![] bcast_S_S32x4x2048x2048 lam)
        (shapeCast S32x4x2048x2048 (extractStridedSlice S32x4x1x2048x2048 ![0, 0, 1, 0, 0] p
          slices_S32x4x2x2048x2048_S32x4x1x2048x2048_0_0_1_0_0) shapeCasts_S32x4x1x2048x2048_S32x4x2048x2048)))
    v

/-- The heads' rows, each divided by its root mean square and scaled, side by side. -/
def outArr (c : BitVec 32) (o : FVec Ideal S32x4x2048x128 .f32) (g : FVec Ideal S128 .f32) : FVec Ideal S32x2048x512 .bf16 :=
  truncf .bf16 (shapeCast S32x2048x512 (transpose S32x2048x4x128 [0, 2, 1, 3]
    (mulf (mulf (mulf o
        (broadcastInDim S32x4x2048x128 ![0, 1, 2, 3] bcast_S32x4x2048x1_S32x4x2048x128_0_1_2_3
          (Host.rsqrt (addf
            (Host.divf (broadcastInDim S32x4x2048x1 ![0, 1, 2] bcast_S32x4x2048_S32x4x2048x1_0_1_2
                (Host.reduceAdd (mulf o o) (constant S_ .f32 0x00000000#32) reducesTo_S32x4x2048x128_S32x4x2048_d3 h_S_))
              (broadcastInDim S32x4x2048x1 ![] bcast_S_S32x4x2048x1 (constant S_ .f32 0x43000000#32)))
            (broadcastInDim S32x4x2048x1 ![] bcast_S_S32x4x2048x1 (constant S_ .f32 0x358637BD#32))))))
      (broadcastInDim S32x4x2048x128 ![0, 1, 2, 3] bcast_S1x1x1x128_S32x4x2048x128_0_1_2_3
        (broadcastInDim S1x1x1x128 ![3] bcast_S128_S1x1x1x128_3 g)))
      (broadcastInDim S32x4x2048x128 ![] bcast_S_S32x4x2048x128 (constant S_ .f32 c)))
    transposes_S32x4x2048x128_S32x2048x4x128_0_2_1_3) shapeCasts_S32x2048x4x128_S32x2048x512) bitsLt_bf16_f32

/-- The result, of the three arguments and the layer's two constants. -/
def attnOut (init c : BitVec 32) (pa : FVec Ideal S32x2048x1536 .bf16) (lp : FVec Ideal S4x64 .f32) (g : FVec Ideal S128 .f32) :
    FVec Ideal S32x2048x512 .bf16 :=
  outArr c (oArr (probArr (exArr (scoreArr (qArr pa) (kArr pa) penArr))) (lamArr init lp) (vArr pa)) g

/-- A query entry lies in the argument's first 512 columns. -/
theorem qArr_at (pa : FVec Ideal S32x2048x1536 .bf16) (b : Fin 32) (h : Fin 4) (i : Fin 2) (s : Fin 2048) (d : Fin 64) :
    qArr pa (ix5 b h i s d) = pa (ix3 b s ⟨h.val * 128 + i.val * 64 + d.val, by omega⟩) := by
  pointwise! [qArr]

/-- A key entry lies in the argument's next 512 columns. -/
theorem kArr_at (pa : FVec Ideal S32x2048x1536 .bf16) (b : Fin 32) (h : Fin 4) (i : Fin 2) (s : Fin 2048) (d : Fin 64) :
    kArr pa (ix5 b h i s d) = pa (ix3 b s ⟨512 + (h.val * 128 + i.val * 64 + d.val), by omega⟩) := by
  pointwise! [kArr]

/-- A value entry lies in the argument's last 512 columns. -/
theorem vArr_at (pa : FVec Ideal S32x2048x1536 .bf16) (b : Fin 32) (h : Fin 4) (s : Fin 2048) (e : Fin 128) :
    vArr pa (ix4 b h s e) = pa (ix3 b s ⟨1024 + (h.val * 128 + e.val), by omega⟩) := by
  pointwise! [vArr]

/-- The weight of the second softmax is the one of AttnRow. -/
theorem lamArr_at (init : BitVec 32) (lp : FVec Ideal S4x64 .f32) :
    lamArr init lp ix0 = lamOf (Ideal.ofBits FTy.f32 init) (fun a d => lp (ix2 a d)) := by
  unfold lamOf
  pointwise! [lamArr]

/-- The penalty of a head for a pair of positions: its slope times their distance. -/
def pen (h : Fin 4) (s j : Fin 2048) : EReal :=
  Ideal.ofBits FTy.f32 (lit0 h) * (((IntOp.absi (BitVec.ofNat 32 s.val - BitVec.ofNat 32 j.val)).toInt : ℝ) : EReal)

/-- An entry of the penalties. -/
theorem penArr_at (b : Fin 32) (h : Fin 4) (i : Fin 2) (s j : Fin 2048) :
    penArr (ix5 b h i s j) = pen h s j := by
  have e : lit0 (S4.rowMajor (ix1 h)) = lit0 h := by
    fin_cases h <;> rfl
  unfold pen
  pointwise! [penArr]
  rw [e]
  rfl

/-- An entry of the scores is the score of AttnRow. -/
theorem scoreArr_at (q k : FVec Ideal S32x4x2x2048x64 .f32) (pn : FVec Ideal S32x4x2x2048x2048 .f32)
    (b : Fin 32) (h : Fin 4) (i : Fin 2) (s j : Fin 2048) :
    scoreArr q k pn (ix5 b h i s j)
      = score (fun d => q (ix5 b h i s d)) (fun j d => k (ix5 b h i j d)) (fun j => pn (ix5 b h i s j)) j := by
  unfold score
  pointwise! [scoreArr]

/-- An entry of the exponentials. -/
theorem exArr_at (sc : FVec Ideal S32x4x2x2048x2048 .f32) (b : Fin 32) (h : Fin 4) (i : Fin 2) (s j : Fin 2048) :
    exArr sc (ix5 b h i s j) = ex (fun j => sc (ix5 b h i s j)) j := by
  unfold ex top
  pointwise! [exArr]

/-- An entry of the softmax weights. -/
theorem probArr_at (e : FVec Ideal S32x4x2x2048x2048 .f32) (b : Fin 32) (h : Fin 4) (i : Fin 2) (s j : Fin 2048) :
    probArr e (ix5 b h i s j) = Ideal.div (e (ix5 b h i s j)) (∑ k : Fin 2048, e (ix5 b h i s k)) := by
  pointwise! [probArr]

/-- An entry of the weighted values. -/
theorem oArr_at (p : FVec Ideal S32x4x2x2048x2048 .f32) (lam : FVec Ideal S_ .f32) (v : FVec Ideal S32x4x2048x128 .f32)
    (b : Fin 32) (h : Fin 4) (s : Fin 2048) (e : Fin 128) :
    oArr p lam v (ix4 b h s e)
      = ∑ j : Fin 2048, (p (ix5 b h 0 s j) - lam ix0 * p (ix5 b h 1 s j)) * v (ix4 b h j e) := by
  pointwise! [oArr]

/-- An entry of the result is its head's row, divided by its root mean square and scaled. -/
theorem outArr_at (c : BitVec 32) (o : FVec Ideal S32x4x2048x128 .f32) (g : FVec Ideal S128 .f32) (b : Fin 32) (h : Fin 4) (s : Fin 2048)
    (e : Fin 128) :
    outArr c o g (ix3 b s ⟨h.val * 128 + e.val, by omega⟩)
      = headNorm (fun e => o (ix4 b h s e)) (fun e => g (ix1 e)) (Ideal.ofBits FTy.f32 c) e := by
  unfold headNorm
  pointwise! [outArr]

/-- An entry of the result is the attention's row of its head. -/
theorem attnOut_at (init c : BitVec 32) (pa : FVec Ideal S32x2048x1536 .bf16) (lp : FVec Ideal S4x64 .f32) (g : FVec Ideal S128 .f32)
    (b : Fin 32) (h : Fin 4) (s : Fin 2048) (e : Fin 128) :
    attnOut init c pa lp g (ix3 b s ⟨h.val * 128 + e.val, by omega⟩)
      = headRow (Ideal.ofBits FTy.f32 init) (Ideal.ofBits FTy.f32 c)
          (fun d => pa (ix3 b s ⟨h.val * 128 + d.val, by omega⟩))
          (fun j d => pa (ix3 b j ⟨512 + (h.val * 128 + d.val), by omega⟩))
          (fun j d => pa (ix3 b j ⟨1024 + (h.val * 128 + d.val), by omega⟩))
          (fun j => pen h s j) (fun a d => lp (ix2 a d)) (fun e => g (ix1 e)) e := by
  unfold attnOut headRow
  rw [outArr_at]
  refine congrArg (fun o => headNorm o _ _ e) (funext fun e => ?_)
  rw [oArr_at, lamArr_at]
  unfold diffOut prob
  simp only [probArr_at, exArr_at, scoreArr_at, qArr_at, kArr_at, vArr_at, penArr_at]
  have e0 : ∀ d : Fin 64, h.val * 128 + (0 : Fin 2).val * 64 + d.val = h.val * 128 + d.val := fun d => by simp
  have e1 : ∀ d : Fin 64, h.val * 128 + (1 : Fin 2).val * 64 + d.val = h.val * 128 + (64 + d.val) := fun d => by
    simp
    omega
  simp only [e0, e1]

/-- Every penalty is real. -/
theorem pen_real (h : Fin 4) (s j : Fin 2048) : ∃ a : ℝ, pen h s j = a := by
  have e : ∃ a : ℝ, Ideal.ofBits FTy.f32 (lit0 h) = a := by
    fin_cases h <;> simp [lit0, Ideal.ofBits, Ideal.ieee] <;> exact ⟨_, (EReal.coe_mul _ _).symm⟩
  obtain ⟨a, ha⟩ := e
  unfold pen
  rw [ha]
  exact ⟨_, (EReal.coe_mul _ _).symm⟩

end Cert.AttnRefIdeal.Rows

end
-- ==== Proof.AttnShared.lean ====
module

public import proofs.«01_k».proof.Proof.Gen.Pre_finite
public import proofs.«01_k».proof.Proof.AttnBody
public import proofs.«01_k».proof.Proof.AttnRef

@[expose] public section

set_option maxRecDepth 16384

noncomputable section

/-! What the attention calls of all layers have in common: the precondition makes the arguments real, the penalties kept
between points are those of the point's head and queries, and a point writes the reference's rows. -/

open Idealize.ShloMosaic Idealize.ShloMosaic.TcCoe Idealize.SL.Sem
namespace Cert.AttnShared
open Cert.AttnIdeal Cert.AttnIdeal.Gen Cert.AttnRow
open Cert.AttnRefIdeal.Rows (pen pen_real attnOut attnOut_at)

/-- An extended real whose absolute value is less than infinity is real. -/
theorem real_of_abs (x : EReal) (h : max x (-x) < ⊤) : ∃ a : ℝ, x = a := by
  induction x with
  | bot => simp at h
  | top => simp at h
  | coe a => exact ⟨a, rfl⟩

/-- The precondition makes every entry of the first two arguments real. -/
theorem real_of_finite (pa : FVec Ideal S32x2048x1536 .bf16) (lp : FVec Ideal S4x64 .f32) (g : FVec Ideal S128 .f32)
    (h : (Cert.Pre_finite.fn (F := Ideal) pa lp g).1 = (fun _ => 1#1)
      ∧ (Cert.Pre_finite.fn (F := Ideal) pa lp g).2 = (fun _ => 1#1)) :
    (∀ i, ∃ a : ℝ, pa i = a) ∧ ∀ i, ∃ a : ℝ, lp i = a := by
  refine ⟨fun i => ?_, fun i => ?_⟩
  · have e := congrFun h.1 i
    idx_vars i
    revert e
    pointwise [Cert.Pre_finite.fn]
    intro e
    refine real_of_abs _ (lt_of_lt_of_eq (?_ : FloatOps.absf (F := Ideal) _ < _)
      (by simp [Ideal.ofBits, Ideal.ieee] : Ideal.ofBits FTy.bf16 0x7F80#16 = ⊤))
    by_contra hn
    rw [decide_eq_false hn] at e
    exact absurd e (by decide)
  · have e := congrFun h.2 i
    idx_vars i
    revert e
    pointwise [Cert.Pre_finite.fn]
    intro e
    refine real_of_abs _ (lt_of_lt_of_eq (?_ : FloatOps.absf (F := Ideal) _ < _)
      (by simp [Ideal.ofBits, Ideal.ieee] : Ideal.ofBits FTy.f32 0x7F800000#32 = ⊤))
    by_contra hn
    rw [decide_eq_false hn] at e
    exact absurd e (by decide)

/-- The negated penalties that point n works with: those of its head and its run of queries. -/
def kept (n : ℕ) (hn : n < 1024) (r : Fin 256) (j : Fin 2048) : EReal :=
  0 - pen (⟨n / 32 % 4, Nat.mod_lt _ (by omega)⟩ : Fin 4) (⟨n / 128 * 256 + r.val, by omega⟩ : Fin 2048) j

/-- If a point of batch entry 0 stores its penalties and every other point leaves what it finds, then every point leaves
its own penalties. -/
theorem kept_of (S : (n : ℕ) → n < 1024 → Vec Ideal S256x2048 .f32)
    (hA : ∀ (n : ℕ) (hn : n < 1024), n % 32 = 0 → ∀ r j, S n hn (ix2 r j) = kept n hn r j)
    (hB : ∀ (n : ℕ) (hn : n + 1 < 1024), ¬(n + 1) % 32 = 0 → S (n + 1) hn = S n (by omega)) :
    ∀ (n : ℕ) (hn : n < 1024) (r : Fin 256) (j : Fin 2048), S n hn (ix2 r j) = kept n hn r j := by
  intro n
  induction n with
  | zero => exact fun hn => hA 0 hn rfl
  | succ n ih =>
    intro hn r j
    by_cases h : (n + 1) % 32 = 0
    · exact hA _ hn h r j
    · have e1 : (n + 1) / 32 % 4 = n / 32 % 4 := by omega
      have e2 : (n + 1) / 128 = n / 128 := by omega
      rw [hB n hn h, ih (by omega) r j]
      unfold kept
      simp only [e1, e2]

/-- What point n writes at a row and column is the reference's entry at the place where its block lies: the blocks lie
in the arguments as stated, and the queries, keys, values and parameters are finite. -/
theorem written_at (init c : BitVec 32) (hc : ∃ a : ℝ, Ideal.ofBits FTy.f32 init = a)
    (pa : FVec Ideal S32x2048x1536 .bf16) (lp : FVec Ideal S4x64 .f32) (g : FVec Ideal S128 .f32)
    (h0 : ∀ i, ∃ a : ℝ, pa i = a) (h1 : ∀ i, ∃ a : ℝ, lp i = a) (n : ℕ) (hn : n < 1024)
    (q : Vec Ideal S1x256x128 .bf16) (k v : Vec Ideal S1x2048x128 .bf16) (lamv : FVec Ideal S1x1 .f32)
    (b : Vec Ideal S256x2048 .f32) (r : Fin 256) (e : Fin 128)
    (hq : ∀ d : Fin 128, q (ix3 0 r d) = pa (ix3 (⟨n % 32, Nat.mod_lt _ (by omega)⟩ : Fin 32)
      (⟨n / 128 * 256 + r.val, by omega⟩ : Fin 2048) (⟨n / 32 % 4 * 128 + d.val, by omega⟩ : Fin 1536)))
    (hk : ∀ (j : Fin 2048) (d : Fin 128), k (ix3 0 j d) = pa (ix3 (⟨n % 32, Nat.mod_lt _ (by omega)⟩ : Fin 32)
      j (⟨512 + (n / 32 % 4 * 128 + d.val), by omega⟩ : Fin 1536)))
    (hv : ∀ (j : Fin 2048) (d : Fin 128), v (ix3 0 j d) = pa (ix3 (⟨n % 32, Nat.mod_lt _ (by omega)⟩ : Fin 32)
      j (⟨1024 + (n / 32 % 4 * 128 + d.val), by omega⟩ : Fin 1536)))
    (hl : lamv (ix2 0 0) = lamOf (Ideal.ofBits FTy.f32 init) (fun a d => lp (ix2 a d)))
    (hb : ∀ j, b (ix2 r j) = kept n hn r j) :
    k0_pay10 (F := Ideal) (k0_pay3 q) k0_pay4 k0_pay5 (k0_pay6 k) (k0_pay7 v) lamv (k0_pay9 q k) b b (ix2 r e)
        * g (ix1 e) * Ideal.ofBits FTy.f32 c
      = attnOut init c pa lp g (ix3 (⟨n % 32, Nat.mod_lt _ (by omega)⟩ : Fin 32)
          (⟨n / 128 * 256 + r.val, by omega⟩ : Fin 2048) (⟨n / 32 % 4 * 128 + e.val, by omega⟩ : Fin 512)) := by
  obtain ⟨c0, hc⟩ := hc
  choose p hp using fun j => pen_real (⟨n / 32 % 4, Nat.mod_lt _ (by omega)⟩ : Fin 4)
    (⟨n / 128 * 256 + r.val, by omega⟩ : Fin 2048) j
  rw [attnOut_at init c pa lp g (⟨n % 32, Nat.mod_lt _ (by omega)⟩ : Fin 32)
      (⟨n / 32 % 4, Nat.mod_lt _ (by omega)⟩ : Fin 4) (⟨n / 128 * 256 + r.val, by omega⟩ : Fin 2048) e]
  refine (Body.row_at c0 (Ideal.ofBits FTy.f32 c) q k v lp lamv (fun e => g (ix1 e)) b r e p (hl.trans (by rw [hc]))
    (fun j => ?_) (fun d => ?_) (fun j d => ?_) (fun j d => ?_) (fun a d => h1 _)).trans ?_
  · rw [← hp]
    exact hb j
  · rw [hq]
    exact h0 _
  · rw [hk]
    exact h0 _
  · rw [hv]
    exact h0 _
  · simp only [hq, hk, hv, hp, hc]

end Cert.AttnShared

end
-- ==== Proof.AttnLast.lean ====
module

public import proofs.«01_k».proof.Defs
public import proofs.«01_k».proof.Proof.Gen.AttnIdeal.Value
public import proofs.«01_k».proof.Proof.Gen.AttnRefIdeal.Run
public import proofs.«01_k».proof.Proof.AttnShared

@[expose] public section

set_option maxRecDepth 16384

noncomputable section

/-! The attention call of the last layer computes the reference's result on finite arguments: the claim. -/

open Idealize.ShloMosaic Idealize.ShloMosaic.TcCoe Idealize.SL.Sem
open Idealize.ShloMosaic.Pipeline (Dat)

namespace Cert.AttnRefIdeal.Rows
open Cert.AttnRefIdeal Cert.AttnRefIdeal.Gen Cert.AttnRefIdeal.Rows

/-- THE REFERENCE'S RESULT in the stages of the attention's reference, at this layer's constants. -/
theorem result_eq (m : (ℓ : Loc nD τ sig) → Buf (Elt Ideal) ℓ) (c : Dev nD) :
    Value.res_out0 m c
      = attnOut 0x3F0E59D5#32 0x3EE34C57#32 (m ((c.tc : Thread nD τ).loc main_arg0))
          (m ((c.tc : Thread nD τ).loc main_arg1)) (m ((c.tc : Thread nD τ).loc main_arg2)) := by
  unfold Value.res_out0 Value.res_main_v79 attnOut outArr oArr probArr exArr scoreArr qArr kArr vArr lamArr penArr
  rfl

end Cert.AttnRefIdeal.Rows

namespace Cert.AttnIdeal.Result
open Cert.AttnIdeal Cert.AttnIdeal.Gen Cert.AttnRow Cert.AttnShared

variable (m : (ℓ : Loc nD τ sig) → Buf (Elt Ideal) ℓ)

/-- Where every window's block lies: point t has the run t / 128 of 256 queries, the head t / 32 % 4 and the batch
entry t % 32. -/
theorem idx : ∀ t : Fin cfg0.N,
    win0_0.index t = ![t.val % 32, t.val / 128, t.val / 32 % 4] ∧ win0_1.index t = ![t.val % 32, 0, 4 + t.val / 32 % 4]
    ∧ win0_2.index t = ![t.val % 32, 0, 8 + t.val / 32 % 4] ∧ win0_3.index t = ![t.val / 32 % 4, 0, 0]
    ∧ win0_4.index t = ![0, 0] ∧ win0_5.index t = ![0, 0]
    ∧ win0_6.index t = ![t.val % 32, t.val / 128, t.val / 32 % 4]
    ∧ (grid0.coords t 0).val = t.val / 128 ∧ t.val < 1024 :=
  (by decide +kernel : ∀ t : Fin grid0.N, _)

/-- The constant in this layer's weight of the second softmax is real. -/
theorem init_real : ∃ a : ℝ, Ideal.ofBits FTy.f32 0x3F0E59D5#32 = a := by
  simp [Ideal.ofBits, Ideal.ieee]
  exact ⟨_, (EReal.coe_mul _ _).symm⟩

/-- The scaled row. -/
theorem pay1_at (x : FVec Ideal S256x128 .f32) (g : FVec Ideal S1x128 .f32) (r : Fin 256) (e : Fin 128) :
    k0_pay1 (F := Ideal) x g (ix3 0 r e) = x (ix2 r e) * g (ix2 0 e) * Ideal.ofBits FTy.f32 0x3EE34C57#32 := by
  pointwise! [k0_pay1]

/-- The weight of the second softmax. -/
theorem pay8_at (x : Vec Ideal S4x64 .f32) :
    k0_pay8 (F := Ideal) x (ix2 0 0) = lamOf (Ideal.ofBits FTy.f32 0x3F0E59D5#32) (fun a d => x (ix2 a d)) := by
  unfold lamOf
  pointwise! [k0_pay8]

/-- The kernel's slope of a head is the reference's. -/
theorem slope_eq (h : Fin 4) : lit0 (S4x1x128.rowMajor (ix3 h 0 0)) = Cert.AttnRefIdeal.lit0 h := by
  fin_cases h <;> rfl

/-- The slope's window holds the head's slope. -/
theorem slope_at (c : Dev nD) (t : Fin cfg0.N) :
    (iblk m c 3 t : Vec Ideal S1x1x128 .f32) (ix3 0 0 0)
      = Ideal.ofBits FTy.f32 (Cert.AttnRefIdeal.lit0 (⟨t.val / 32 % 4, Nat.mod_lt _ (by omega)⟩ : Fin 4)) := by
  refine (show _ = (V m c main_cst : FVec Ideal S4x1x128 .f32) (ix3 (⟨t.val / 32 % 4, Nat.mod_lt _ (by omega)⟩ : Fin 4) 0 0)
    by blk_ext [iblk, idx t]).trans ?_
  rw [← slope_eq]
  simp only [V, hostOps0, List.flatten_cons, List.flatten_nil, List.append_nil, List.cons_append, List.nil_append]
  entry_read
  rfl

/-- What a point of batch entry 0 stores in the scratch. -/
theorem stored_at (c : Dev nD) (t : Fin cfg0.N) (ht : t.val < 1024) (r : Fin 256) (j : Fin 2048) :
    k0_pay2 (F := Ideal) (grid0.coords t) (iblk m c 3 t) (ix2 r j) = kept t.val ht r j := by
  refine (Cert.AttnIdeal.Body.pay2_at (grid0.coords t) (iblk m c 3 t) r j).trans ?_
  rw [slope_at, (idx t).2.2.2.2.2.2.2.1]
  rfl

/-- What every point leaves in the scratch. -/
theorem scratch_at (c : Dev nD) (t : Fin cfg0.N) (r : Fin 256) (j : Fin 2048) :
    (outsAt0 m c t.val t.isLt).2 (ix2 r j) = kept t.val (idx t).2.2.2.2.2.2.2.2 r j := by
  refine kept_of (fun n hn => (outsAt0 m c n (lt_of_lt_of_eq hn N_0.symm)).2) (fun n hn h r j => ?_) (fun n hn h => ?_)
    t.val _ r j
  · have e := outsAt0_A m c ⟨n, lt_of_lt_of_eq hn N_0.symm⟩ h
    dsimp only at e ⊢
    rw [e]
    frame_out
    exact stored_at m c ⟨n, lt_of_lt_of_eq hn N_0.symm⟩ hn r j
  · have e := outsAt0_B m c ⟨n + 1, lt_of_lt_of_eq hn N_0.symm⟩ h
    dsimp only at e ⊢
    rw [e]
    rfl

/-- What a point writes, over what it leaves in the scratch. -/
theorem out_eq (c : Dev nD) (t : Fin cfg0.N) :
    (outsAt0 m c t.val t.isLt).1
      = k0_pay1 (F := Ideal) (k0_pay10 (F := Ideal) (k0_pay3 (iblk m c 0 t)) k0_pay4 k0_pay5 (k0_pay6 (iblk m c 1 t))
          (k0_pay7 (iblk m c 2 t)) (k0_pay8 (iblk m c 4 t)) (k0_pay9 (iblk m c 0 t) (iblk m c 1 t))
          (outsAt0 m c t.val t.isLt).2 (outsAt0 m c t.val t.isLt).2) (k0_pay11 (iblk m c 5 t)) := by
  by_cases h : t.val % 32 = 0
  · rw [outsAt0_A m c t h]
    frame_out
  · have e : (outsAt0 m c t.val t.isLt).2 = (outsAt0 m c (t.val - 1) (Nat.lt_of_le_of_lt (Nat.sub_le _ _) t.isLt)).2 := by
      rw [outsAt0_B m c t h]
      rfl
    refine (congrArg Prod.fst (outsAt0_B m c t h)).trans ?_
    rw [e]
    frame_out
    erw [Memref.IsWhole.read_unread]

/-- The reference's term over the kernel's argument arrays. -/
def REF (c : Dev nD) : FVec Ideal S32x2048x512 .bf16 :=
  Cert.AttnRefIdeal.Rows.attnOut 0x3F0E59D5#32 0x3EE34C57#32 (m ((c : Thread nD τ).loc main_arg0))
    (m ((c : Thread nD τ).loc main_arg1)) (m ((c : Thread nD τ).loc main_arg2))

/-- A row of a block is the row of the reference's result at the place where the block lies. -/
theorem point (c : Dev nD)
    (h0 : ∀ i, ∃ a : ℝ, (m ((c : Thread nD τ).loc main_arg0) : FVec Ideal S32x2048x1536 .bf16) i = (a : EReal))
    (h1 : ∀ i, ∃ a : ℝ, (m ((c : Thread nD τ).loc main_arg1) : FVec Ideal S4x64 .f32) i = (a : EReal))
    (t : Fin cfg0.N) (z : Fin 1) (r : Fin 256) (e : Fin 128) :
    (outsAt0 m c t.val t.isLt).1 (ix3 z r e)
      = REF m c (ix3 (⟨t.val % 32, Nat.mod_lt _ (by omega)⟩ : Fin 32)
          (⟨t.val / 128 * 256 + r.val, by have := (idx t).2.2.2.2.2.2.2.2; omega⟩ : Fin 2048)
          (⟨t.val / 32 % 4 * 128 + e.val, by omega⟩ : Fin 512)) := by
  obtain rfl : z = 0 := Subsingleton.elim _ _
  have hg : k0_pay11 (F := Ideal) (iblk m c 5 t) (ix2 0 e)
      = (m ((c : Thread nD τ).loc main_arg2) : FVec Ideal S128 .f32) (ix1 e) := by
    pointwise [k0_pay11]
    refine (show _ = (V m c main_v0 : FVec Ideal S1x128 .f32) (ix2 0 e) by blk_ext [iblk, idx t]).trans ?_
    simp only [V, hostOps0, List.flatten_cons, List.flatten_nil, List.append_nil, List.cons_append, List.nil_append]
    entry_read
    pointwise
  rw [out_eq, pay1_at, hg]
  refine written_at 0x3F0E59D5#32 0x3EE34C57#32 init_real _ _ _ h0 h1 t.val (idx t).2.2.2.2.2.2.2.2
    (iblk m c 0 t) (iblk m c 1 t) (iblk m c 2 t) (k0_pay8 (F := Ideal) (iblk m c 4 t)) (outsAt0 m c t.val t.isLt).2 r e
    (fun d => ?_) (fun j d => ?_) (fun j d => ?_) ?_ (fun j => scratch_at m c t r j)
  · blk_ext [iblk, V, idx t]
  · blk_ext [iblk, V, idx t]
  · blk_ext [iblk, V, idx t]
  · refine (pay8_at _).trans (congrArg _ (funext fun a => funext fun d => ?_))
    blk_ext [iblk, V, idx t]

/-- THE RESULT ARRAY: the kernel's output array after the run is the reference's term over the arguments. -/
theorem final (c : Dev nD)
    (h0 : ∀ i, ∃ a : ℝ, (m ((c : Thread nD τ).loc main_arg0) : FVec Ideal S32x2048x1536 .bf16) i = (a : EReal))
    (h1 : ∀ i, ∃ a : ℝ, (m ((c : Thread nD τ).loc main_arg1) : FVec Ideal S4x64 .f32) i = (a : EReal)) :
    (dats m 0 c).arrAt 6 cfg0.N = REF m c := by
  refine (dats m 0 c).arrAt_eq_of_covers 6 _ (by decide +kernel) fun t _ y => ?_
  blk_simp
  rw [after0_6]
  idx_vars y
  refine (point m c h0 h1 t _ _ _).trans (congrArg (REF m c) ?_)
  blk_ext [idx t]

/-- The kernel returns what its reference returns, where the projections and parameters are finite. -/
theorem algebraic : Cert.algebraic_AttnIdeal_AttnRefIdeal_pre_finite := by
  intro m ρ m' ρ' hp hag
  refine ⟨fun c => REF m c, ?_, ?_⟩
  · refine (θ_run _ _ _).mono (fun r h c => ?_) (Cert.AttnIdeal.Value.run_blocks m ρ)
    have hf := real_of_finite _ _ _ (hp c)
    exact ⟨(h c).1.trans (final m c hf.1 hf.2), (h c).2⟩
  · refine (θ_run _ _ _).mono (fun r h c => ?_) (Cert.AttnRefIdeal.Value.run m' ρ')
    refine ⟨(h c).1.trans ?_, (h c).2⟩
    obtain ⟨h0, h1, h2⟩ := hag c
    refine (Cert.AttnRefIdeal.Rows.result_eq m' c).trans ?_
    rw [h0, h1, h2]
    rfl

end Cert.AttnIdeal.Result

end
-- ==== Proof.AttnFirst.lean ====
module

public import proofs.«01_k».proof.Defs
public import proofs.«01_k».proof.Proof.Gen.AttnFirstIdeal.Value
public import proofs.«01_k».proof.Proof.Gen.AttnFirstRefIdeal.Run
public import proofs.«01_k».proof.Proof.AttnShared

@[expose] public section

set_option maxRecDepth 16384

noncomputable section

/-! The attention call of the first layer computes the reference's result on finite arguments: the claim. -/

open Idealize.ShloMosaic Idealize.ShloMosaic.TcCoe Idealize.SL.Sem
open Idealize.ShloMosaic.Pipeline (Dat)

namespace Cert.AttnFirstRefIdeal.Rows
open Cert.AttnFirstRefIdeal Cert.AttnFirstRefIdeal.Gen Cert.AttnRefIdeal.Rows

/-- THE REFERENCE'S RESULT in the stages of the attention's reference, at this layer's constants. -/
theorem result_eq (m : (ℓ : Loc nD τ sig) → Buf (Elt Ideal) ℓ) (c : Dev nD) :
    Value.res_out0 m c
      = attnOut 0x3E4CCCCD#32 0x3F4CCCCD#32 (m ((c.tc : Thread nD τ).loc main_arg0))
          (m ((c.tc : Thread nD τ).loc main_arg1)) (m ((c.tc : Thread nD τ).loc main_arg2)) := by
  unfold Value.res_out0 Value.res_main_v79 attnOut outArr oArr probArr exArr scoreArr qArr kArr vArr lamArr penArr
  rfl

end Cert.AttnFirstRefIdeal.Rows

namespace Cert.AttnFirstIdeal.Result
open Cert.AttnFirstIdeal Cert.AttnFirstIdeal.Gen Cert.AttnRow Cert.AttnShared

variable (m : (ℓ : Loc nD τ sig) → Buf (Elt Ideal) ℓ)

/-- Where every window's block lies: point t has the run t / 128 of 256 queries, the head t / 32 % 4 and the batch
entry t % 32. -/
theorem idx : ∀ t : Fin cfg0.N,
    win0_0.index t = ![t.val % 32, t.val / 128, t.val / 32 % 4] ∧ win0_1.index t = ![t.val % 32, 0, 4 + t.val / 32 % 4]
    ∧ win0_2.index t = ![t.val % 32, 0, 8 + t.val / 32 % 4] ∧ win0_3.index t = ![t.val / 32 % 4, 0, 0]
    ∧ win0_4.index t = ![0, 0] ∧ win0_5.index t = ![0, 0]
    ∧ win0_6.index t = ![t.val % 32, t.val / 128, t.val / 32 % 4]
    ∧ (grid0.coords t 0).val = t.val / 128 ∧ t.val < 1024 :=
  (by decide +kernel : ∀ t : Fin grid0.N, _)

/-- The constant in this layer's weight of the second softmax is real. -/
theorem init_real : ∃ a : ℝ, Ideal.ofBits FTy.f32 0x3E4CCCCD#32 = a := by
  simp [Ideal.ofBits, Ideal.ieee]
  exact ⟨_, (EReal.coe_mul _ _).symm⟩

/-- The scaled row. -/
theorem pay1_at (x : FVec Ideal S256x128 .f32) (g : FVec Ideal S1x128 .f32) (r : Fin 256) (e : Fin 128) :
    k0_pay1 (F := Ideal) x g (ix3 0 r e) = x (ix2 r e) * g (ix2 0 e) * Ideal.ofBits FTy.f32 0x3F4CCCCD#32 := by
  pointwise! [k0_pay1]

/-- The weight of the second softmax. -/
theorem pay8_at (x : Vec Ideal S4x64 .f32) :
    k0_pay8 (F := Ideal) x (ix2 0 0) = lamOf (Ideal.ofBits FTy.f32 0x3E4CCCCD#32) (fun a d => x (ix2 a d)) := by
  unfold lamOf
  pointwise! [k0_pay8]

/-- The kernel's slope of a head is the reference's. -/
theorem slope_eq (h : Fin 4) : lit0 (S4x1x128.rowMajor (ix3 h 0 0)) = Cert.AttnRefIdeal.lit0 h := by
  fin_cases h <;> rfl

/-- The slope's window holds the head's slope. -/
theorem slope_at (c : Dev nD) (t : Fin cfg0.N) :
    (iblk m c 3 t : Vec Ideal S1x1x128 .f32) (ix3 0 0 0)
      = Ideal.ofBits FTy.f32 (Cert.AttnRefIdeal.lit0 (⟨t.val / 32 % 4, Nat.mod_lt _ (by omega)⟩ : Fin 4)) := by
  refine (show _ = (V m c main_cst : FVec Ideal S4x1x128 .f32) (ix3 (⟨t.val / 32 % 4, Nat.mod_lt _ (by omega)⟩ : Fin 4) 0 0)
    by blk_ext [iblk, idx t]).trans ?_
  rw [← slope_eq]
  simp only [V, hostOps0, List.flatten_cons, List.flatten_nil, List.append_nil, List.cons_append, List.nil_append]
  entry_read
  rfl

/-- What a point of batch entry 0 stores in the scratch. -/
theorem stored_at (c : Dev nD) (t : Fin cfg0.N) (ht : t.val < 1024) (r : Fin 256) (j : Fin 2048) :
    k0_pay2 (F := Ideal) (grid0.coords t) (iblk m c 3 t) (ix2 r j) = kept t.val ht r j := by
  refine (Cert.AttnIdeal.Body.pay2_at (grid0.coords t) (iblk m c 3 t) r j).trans ?_
  rw [slope_at, (idx t).2.2.2.2.2.2.2.1]
  rfl

/-- What every point leaves in the scratch. -/
theorem scratch_at (c : Dev nD) (t : Fin cfg0.N) (r : Fin 256) (j : Fin 2048) :
    (outsAt0 m c t.val t.isLt).2 (ix2 r j) = kept t.val (idx t).2.2.2.2.2.2.2.2 r j := by
  refine kept_of (fun n hn => (outsAt0 m c n (lt_of_lt_of_eq hn N_0.symm)).2) (fun n hn h r j => ?_) (fun n hn h => ?_)
    t.val _ r j
  · have e := outsAt0_A m c ⟨n, lt_of_lt_of_eq hn N_0.symm⟩ h
    dsimp only at e ⊢
    rw [e]
    frame_out
    exact stored_at m c ⟨n, lt_of_lt_of_eq hn N_0.symm⟩ hn r j
  · have e := outsAt0_B m c ⟨n + 1, lt_of_lt_of_eq hn N_0.symm⟩ h
    dsimp only at e ⊢
    rw [e]
    rfl

/-- What a point writes, over what it leaves in the scratch. -/
theorem out_eq (c : Dev nD) (t : Fin cfg0.N) :
    (outsAt0 m c t.val t.isLt).1
      = k0_pay1 (F := Ideal) (k0_pay10 (F := Ideal) (k0_pay3 (iblk m c 0 t)) k0_pay4 k0_pay5 (k0_pay6 (iblk m c 1 t))
          (k0_pay7 (iblk m c 2 t)) (k0_pay8 (iblk m c 4 t)) (k0_pay9 (iblk m c 0 t) (iblk m c 1 t))
          (outsAt0 m c t.val t.isLt).2 (outsAt0 m c t.val t.isLt).2) (k0_pay11 (iblk m c 5 t)) := by
  by_cases h : t.val % 32 = 0
  · rw [outsAt0_A m c t h]
    frame_out
  · have e : (outsAt0 m c t.val t.isLt).2 = (outsAt0 m c (t.val - 1) (Nat.lt_of_le_of_lt (Nat.sub_le _ _) t.isLt)).2 := by
      rw [outsAt0_B m c t h]
      rfl
    refine (congrArg Prod.fst (outsAt0_B m c t h)).trans ?_
    rw [e]
    frame_out
    erw [Memref.IsWhole.read_unread]

/-- The reference's term over the kernel's argument arrays. -/
def REF (c : Dev nD) : FVec Ideal S32x2048x512 .bf16 :=
  Cert.AttnRefIdeal.Rows.attnOut 0x3E4CCCCD#32 0x3F4CCCCD#32 (m ((c : Thread nD τ).loc main_arg0))
    (m ((c : Thread nD τ).loc main_arg1)) (m ((c : Thread nD τ).loc main_arg2))

/-- A row of a block is the row of the reference's result at the place where the block lies. -/
theorem point (c : Dev nD)
    (h0 : ∀ i, ∃ a : ℝ, (m ((c : Thread nD τ).loc main_arg0) : FVec Ideal S32x2048x1536 .bf16) i = (a : EReal))
    (h1 : ∀ i, ∃ a : ℝ, (m ((c : Thread nD τ).loc main_arg1) : FVec Ideal S4x64 .f32) i = (a : EReal))
    (t : Fin cfg0.N) (z : Fin 1) (r : Fin 256) (e : Fin 128) :
    (outsAt0 m c t.val t.isLt).1 (ix3 z r e)
      = REF m c (ix3 (⟨t.val % 32, Nat.mod_lt _ (by omega)⟩ : Fin 32)
          (⟨t.val / 128 * 256 + r.val, by have := (idx t).2.2.2.2.2.2.2.2; omega⟩ : Fin 2048)
          (⟨t.val / 32 % 4 * 128 + e.val, by omega⟩ : Fin 512)) := by
  obtain rfl : z = 0 := Subsingleton.elim _ _
  have hg : k0_pay11 (F := Ideal) (iblk m c 5 t) (ix2 0 e)
      = (m ((c : Thread nD τ).loc main_arg2) : FVec Ideal S128 .f32) (ix1 e) := by
    pointwise [k0_pay11]
    refine (show _ = (V m c main_v0 : FVec Ideal S1x128 .f32) (ix2 0 e) by blk_ext [iblk, idx t]).trans ?_
    simp only [V, hostOps0, List.flatten_cons, List.flatten_nil, List.append_nil, List.cons_append, List.nil_append]
    entry_read
    pointwise
  rw [out_eq, pay1_at, hg]
  refine written_at 0x3E4CCCCD#32 0x3F4CCCCD#32 init_real _ _ _ h0 h1 t.val (idx t).2.2.2.2.2.2.2.2
    (iblk m c 0 t) (iblk m c 1 t) (iblk m c 2 t) (k0_pay8 (F := Ideal) (iblk m c 4 t)) (outsAt0 m c t.val t.isLt).2 r e
    (fun d => ?_) (fun j d => ?_) (fun j d => ?_) ?_ (fun j => scratch_at m c t r j)
  · blk_ext [iblk, V, idx t]
  · blk_ext [iblk, V, idx t]
  · blk_ext [iblk, V, idx t]
  · refine (pay8_at _).trans (congrArg _ (funext fun a => funext fun d => ?_))
    blk_ext [iblk, V, idx t]

/-- THE RESULT ARRAY: the kernel's output array after the run is the reference's term over the arguments. -/
theorem final (c : Dev nD)
    (h0 : ∀ i, ∃ a : ℝ, (m ((c : Thread nD τ).loc main_arg0) : FVec Ideal S32x2048x1536 .bf16) i = (a : EReal))
    (h1 : ∀ i, ∃ a : ℝ, (m ((c : Thread nD τ).loc main_arg1) : FVec Ideal S4x64 .f32) i = (a : EReal)) :
    (dats m 0 c).arrAt 6 cfg0.N = REF m c := by
  refine (dats m 0 c).arrAt_eq_of_covers 6 _ (by decide +kernel) fun t _ y => ?_
  blk_simp
  rw [after0_6]
  idx_vars y
  refine (point m c h0 h1 t _ _ _).trans (congrArg (REF m c) ?_)
  blk_ext [idx t]

/-- The kernel returns what its reference returns, where the projections and parameters are finite. -/
theorem algebraic : Cert.algebraic_AttnFirstIdeal_AttnFirstRefIdeal_pre_finite := by
  intro m ρ m' ρ' hp hag
  refine ⟨fun c => REF m c, ?_, ?_⟩
  · refine (θ_run _ _ _).mono (fun r h c => ?_) (Cert.AttnFirstIdeal.Value.run_blocks m ρ)
    have hf := real_of_finite _ _ _ (hp c)
    exact ⟨(h c).1.trans (final m c hf.1 hf.2), (h c).2⟩
  · refine (θ_run _ _ _).mono (fun r h c => ?_) (Cert.AttnFirstRefIdeal.Value.run m' ρ')
    refine ⟨(h c).1.trans ?_, (h c).2⟩
    obtain ⟨h0, h1, h2⟩ := hag c
    refine (Cert.AttnFirstRefIdeal.Rows.result_eq m' c).trans ?_
    rw [h0, h1, h2]
    rfl

end Cert.AttnFirstIdeal.Result

end
-- ==== Proof.AttnSecond.lean ====
module

public import proofs.«01_k».proof.Defs
public import proofs.«01_k».proof.Proof.Gen.AttnSecondIdeal.Value
public import proofs.«01_k».proof.Proof.Gen.AttnSecondRefIdeal.Run
public import proofs.«01_k».proof.Proof.AttnShared

@[expose] public section

set_option maxRecDepth 16384

noncomputable section

/-! The attention call of the second layer computes the reference's result on finite arguments: the claim. -/

open Idealize.ShloMosaic Idealize.ShloMosaic.TcCoe Idealize.SL.Sem
open Idealize.ShloMosaic.Pipeline (Dat)

namespace Cert.AttnSecondRefIdeal.Rows
open Cert.AttnSecondRefIdeal Cert.AttnSecondRefIdeal.Gen Cert.AttnRefIdeal.Rows

/-- THE REFERENCE'S RESULT in the stages of the attention's reference, at this layer's constants. -/
theorem result_eq (m : (ℓ : Loc nD τ sig) → Buf (Elt Ideal) ℓ) (c : Dev nD) :
    Value.res_out0 m c
      = attnOut 0x3EB60549#32 0x3F24FD5C#32 (m ((c.tc : Thread nD τ).loc main_arg0))
          (m ((c.tc : Thread nD τ).loc main_arg1)) (m ((c.tc : Thread nD τ).loc main_arg2)) := by
  unfold Value.res_out0 Value.res_main_v79 attnOut outArr oArr probArr exArr scoreArr qArr kArr vArr lamArr penArr
  rfl

end Cert.AttnSecondRefIdeal.Rows

namespace Cert.AttnSecondIdeal.Result
open Cert.AttnSecondIdeal Cert.AttnSecondIdeal.Gen Cert.AttnRow Cert.AttnShared

variable (m : (ℓ : Loc nD τ sig) → Buf (Elt Ideal) ℓ)

/-- Where every window's block lies: point t has the run t / 128 of 256 queries, the head t / 32 % 4 and the batch
entry t % 32. -/
theorem idx : ∀ t : Fin cfg0.N,
    win0_0.index t = ![t.val % 32, t.val / 128, t.val / 32 % 4] ∧ win0_1.index t = ![t.val % 32, 0, 4 + t.val / 32 % 4]
    ∧ win0_2.index t = ![t.val % 32, 0, 8 + t.val / 32 % 4] ∧ win0_3.index t = ![t.val / 32 % 4, 0, 0]
    ∧ win0_4.index t = ![0, 0] ∧ win0_5.index t = ![0, 0]
    ∧ win0_6.index t = ![t.val % 32, t.val / 128, t.val / 32 % 4]
    ∧ (grid0.coords t 0).val = t.val / 128 ∧ t.val < 1024 :=
  (by decide +kernel : ∀ t : Fin grid0.N, _)

/-- The constant in this layer's weight of the second softmax is real. -/
theorem init_real : ∃ a : ℝ, Ideal.ofBits FTy.f32 0x3EB60549#32 = a := by
  simp [Ideal.ofBits, Ideal.ieee]
  exact ⟨_, (EReal.coe_mul _ _).symm⟩

/-- The scaled row. -/
theorem pay1_at (x : FVec Ideal S256x128 .f32) (g : FVec Ideal S1x128 .f32) (r : Fin 256) (e : Fin 128) :
    k0_pay1 (F := Ideal) x g (ix3 0 r e) = x (ix2 r e) * g (ix2 0 e) * Ideal.ofBits FTy.f32 0x3F24FD5C#32 := by
  pointwise! [k0_pay1]

/-- The weight of the second softmax. -/
theorem pay8_at (x : Vec Ideal S4x64 .f32) :
    k0_pay8 (F := Ideal) x (ix2 0 0) = lamOf (Ideal.ofBits FTy.f32 0x3EB60549#32) (fun a d => x (ix2 a d)) := by
  unfold lamOf
  pointwise! [k0_pay8]

/-- The kernel's slope of a head is the reference's. -/
theorem slope_eq (h : Fin 4) : lit0 (S4x1x128.rowMajor (ix3 h 0 0)) = Cert.AttnRefIdeal.lit0 h := by
  fin_cases h <;> rfl

/-- The slope's window holds the head's slope. -/
theorem slope_at (c : Dev nD) (t : Fin cfg0.N) :
    (iblk m c 3 t : Vec Ideal S1x1x128 .f32) (ix3 0 0 0)
      = Ideal.ofBits FTy.f32 (Cert.AttnRefIdeal.lit0 (⟨t.val / 32 % 4, Nat.mod_lt _ (by omega)⟩ : Fin 4)) := by
  refine (show _ = (V m c main_cst : FVec Ideal S4x1x128 .f32) (ix3 (⟨t.val / 32 % 4, Nat.mod_lt _ (by omega)⟩ : Fin 4) 0 0)
    by blk_ext [iblk, idx t]).trans ?_
  rw [← slope_eq]
  simp only [V, hostOps0, List.flatten_cons, List.flatten_nil, List.append_nil, List.cons_append, List.nil_append]
  entry_read
  rfl

/-- What a point of batch entry 0 stores in the scratch. -/
theorem stored_at (c : Dev nD) (t : Fin cfg0.N) (ht : t.val < 1024) (r : Fin 256) (j : Fin 2048) :
    k0_pay2 (F := Ideal) (grid0.coords t) (iblk m c 3 t) (ix2 r j) = kept t.val ht r j := by
  refine (Cert.AttnIdeal.Body.pay2_at (grid0.coords t) (iblk m c 3 t) r j).trans ?_
  rw [slope_at, (idx t).2.2.2.2.2.2.2.1]
  rfl

/-- What every point leaves in the scratch. -/
theorem scratch_at (c : Dev nD) (t : Fin cfg0.N) (r : Fin 256) (j : Fin 2048) :
    (outsAt0 m c t.val t.isLt).2 (ix2 r j) = kept t.val (idx t).2.2.2.2.2.2.2.2 r j := by
  refine kept_of (fun n hn => (outsAt0 m c n (lt_of_lt_of_eq hn N_0.symm)).2) (fun n hn h r j => ?_) (fun n hn h => ?_)
    t.val _ r j
  · have e := outsAt0_A m c ⟨n, lt_of_lt_of_eq hn N_0.symm⟩ h
    dsimp only at e ⊢
    rw [e]
    frame_out
    exact stored_at m c ⟨n, lt_of_lt_of_eq hn N_0.symm⟩ hn r j
  · have e := outsAt0_B m c ⟨n + 1, lt_of_lt_of_eq hn N_0.symm⟩ h
    dsimp only at e ⊢
    rw [e]
    rfl

/-- What a point writes, over what it leaves in the scratch. -/
theorem out_eq (c : Dev nD) (t : Fin cfg0.N) :
    (outsAt0 m c t.val t.isLt).1
      = k0_pay1 (F := Ideal) (k0_pay10 (F := Ideal) (k0_pay3 (iblk m c 0 t)) k0_pay4 k0_pay5 (k0_pay6 (iblk m c 1 t))
          (k0_pay7 (iblk m c 2 t)) (k0_pay8 (iblk m c 4 t)) (k0_pay9 (iblk m c 0 t) (iblk m c 1 t))
          (outsAt0 m c t.val t.isLt).2 (outsAt0 m c t.val t.isLt).2) (k0_pay11 (iblk m c 5 t)) := by
  by_cases h : t.val % 32 = 0
  · rw [outsAt0_A m c t h]
    frame_out
  · have e : (outsAt0 m c t.val t.isLt).2 = (outsAt0 m c (t.val - 1) (Nat.lt_of_le_of_lt (Nat.sub_le _ _) t.isLt)).2 := by
      rw [outsAt0_B m c t h]
      rfl
    refine (congrArg Prod.fst (outsAt0_B m c t h)).trans ?_
    rw [e]
    frame_out
    erw [Memref.IsWhole.read_unread]

/-- The reference's term over the kernel's argument arrays. -/
def REF (c : Dev nD) : FVec Ideal S32x2048x512 .bf16 :=
  Cert.AttnRefIdeal.Rows.attnOut 0x3EB60549#32 0x3F24FD5C#32 (m ((c : Thread nD τ).loc main_arg0))
    (m ((c : Thread nD τ).loc main_arg1)) (m ((c : Thread nD τ).loc main_arg2))

/-- A row of a block is the row of the reference's result at the place where the block lies. -/
theorem point (c : Dev nD)
    (h0 : ∀ i, ∃ a : ℝ, (m ((c : Thread nD τ).loc main_arg0) : FVec Ideal S32x2048x1536 .bf16) i = (a : EReal))
    (h1 : ∀ i, ∃ a : ℝ, (m ((c : Thread nD τ).loc main_arg1) : FVec Ideal S4x64 .f32) i = (a : EReal))
    (t : Fin cfg0.N) (z : Fin 1) (r : Fin 256) (e : Fin 128) :
    (outsAt0 m c t.val t.isLt).1 (ix3 z r e)
      = REF m c (ix3 (⟨t.val % 32, Nat.mod_lt _ (by omega)⟩ : Fin 32)
          (⟨t.val / 128 * 256 + r.val, by have := (idx t).2.2.2.2.2.2.2.2; omega⟩ : Fin 2048)
          (⟨t.val / 32 % 4 * 128 + e.val, by omega⟩ : Fin 512)) := by
  obtain rfl : z = 0 := Subsingleton.elim _ _
  have hg : k0_pay11 (F := Ideal) (iblk m c 5 t) (ix2 0 e)
      = (m ((c : Thread nD τ).loc main_arg2) : FVec Ideal S128 .f32) (ix1 e) := by
    pointwise [k0_pay11]
    refine (show _ = (V m c main_v0 : FVec Ideal S1x128 .f32) (ix2 0 e) by blk_ext [iblk, idx t]).trans ?_
    simp only [V, hostOps0, List.flatten_cons, List.flatten_nil, List.append_nil, List.cons_append, List.nil_append]
    entry_read
    pointwise
  rw [out_eq, pay1_at, hg]
  refine written_at 0x3EB60549#32 0x3F24FD5C#32 init_real _ _ _ h0 h1 t.val (idx t).2.2.2.2.2.2.2.2
    (iblk m c 0 t) (iblk m c 1 t) (iblk m c 2 t) (k0_pay8 (F := Ideal) (iblk m c 4 t)) (outsAt0 m c t.val t.isLt).2 r e
    (fun d => ?_) (fun j d => ?_) (fun j d => ?_) ?_ (fun j => scratch_at m c t r j)
  · blk_ext [iblk, V, idx t]
  · blk_ext [iblk, V, idx t]
  · blk_ext [iblk, V, idx t]
  · refine (pay8_at _).trans (congrArg _ (funext fun a => funext fun d => ?_))
    blk_ext [iblk, V, idx t]

/-- THE RESULT ARRAY: the kernel's output array after the run is the reference's term over the arguments. -/
theorem final (c : Dev nD)
    (h0 : ∀ i, ∃ a : ℝ, (m ((c : Thread nD τ).loc main_arg0) : FVec Ideal S32x2048x1536 .bf16) i = (a : EReal))
    (h1 : ∀ i, ∃ a : ℝ, (m ((c : Thread nD τ).loc main_arg1) : FVec Ideal S4x64 .f32) i = (a : EReal)) :
    (dats m 0 c).arrAt 6 cfg0.N = REF m c := by
  refine (dats m 0 c).arrAt_eq_of_covers 6 _ (by decide +kernel) fun t _ y => ?_
  blk_simp
  rw [after0_6]
  idx_vars y
  refine (point m c h0 h1 t _ _ _).trans (congrArg (REF m c) ?_)
  blk_ext [idx t]

/-- The kernel returns what its reference returns, where the projections and parameters are finite. -/
theorem algebraic : Cert.algebraic_AttnSecondIdeal_AttnSecondRefIdeal_pre_finite := by
  intro m ρ m' ρ' hp hag
  refine ⟨fun c => REF m c, ?_, ?_⟩
  · refine (θ_run _ _ _).mono (fun r h c => ?_) (Cert.AttnSecondIdeal.Value.run_blocks m ρ)
    have hf := real_of_finite _ _ _ (hp c)
    exact ⟨(h c).1.trans (final m c hf.1 hf.2), (h c).2⟩
  · refine (θ_run _ _ _).mono (fun r h c => ?_) (Cert.AttnSecondRefIdeal.Value.run m' ρ')
    refine ⟨(h c).1.trans ?_, (h c).2⟩
    obtain ⟨h0, h1, h2⟩ := hag c
    refine (Cert.AttnSecondRefIdeal.Rows.result_eq m' c).trans ?_
    rw [h0, h1, h2]
    rfl

end Cert.AttnSecondIdeal.Result

end
-- ==== Proof.AttnThird.lean ====
module

public import proofs.«01_k».proof.Defs
public import proofs.«01_k».proof.Proof.Gen.AttnThirdIdeal.Value
public import proofs.«01_k».proof.Proof.Gen.AttnThirdRefIdeal.Run
public import proofs.«01_k».proof.Proof.AttnShared

@[expose] public section

set_option maxRecDepth 16384

noncomputable section

/-! The attention call of the third layer computes the reference's result on finite arguments: the claim. -/

open Idealize.ShloMosaic Idealize.ShloMosaic.TcCoe Idealize.SL.Sem
open Idealize.ShloMosaic.Pipeline (Dat)

namespace Cert.AttnThirdRefIdeal.Rows
open Cert.AttnThirdRefIdeal Cert.AttnThirdRefIdeal.Gen Cert.AttnRefIdeal.Rows

/-- THE REFERENCE'S RESULT in the stages of the attention's reference, at this layer's constants. -/
theorem result_eq (m : (ℓ : Loc nD τ sig) → Buf (Elt Ideal) ℓ) (c : Dev nD) :
    Value.res_out0 m c
      = attnOut 0x3EF1014C#32 0x3F077F5A#32 (m ((c.tc : Thread nD τ).loc main_arg0))
          (m ((c.tc : Thread nD τ).loc main_arg1)) (m ((c.tc : Thread nD τ).loc main_arg2)) := by
  unfold Value.res_out0 Value.res_main_v79 attnOut outArr oArr probArr exArr scoreArr qArr kArr vArr lamArr penArr
  rfl

end Cert.AttnThirdRefIdeal.Rows

namespace Cert.AttnThirdIdeal.Result
open Cert.AttnThirdIdeal Cert.AttnThirdIdeal.Gen Cert.AttnRow Cert.AttnShared

variable (m : (ℓ : Loc nD τ sig) → Buf (Elt Ideal) ℓ)

/-- Where every window's block lies: point t has the run t / 128 of 256 queries, the head t / 32 % 4 and the batch
entry t % 32. -/
theorem idx : ∀ t : Fin cfg0.N,
    win0_0.index t = ![t.val % 32, t.val / 128, t.val / 32 % 4] ∧ win0_1.index t = ![t.val % 32, 0, 4 + t.val / 32 % 4]
    ∧ win0_2.index t = ![t.val % 32, 0, 8 + t.val / 32 % 4] ∧ win0_3.index t = ![t.val / 32 % 4, 0, 0]
    ∧ win0_4.index t = ![0, 0] ∧ win0_5.index t = ![0, 0]
    ∧ win0_6.index t = ![t.val % 32, t.val / 128, t.val / 32 % 4]
    ∧ (grid0.coords t 0).val = t.val / 128 ∧ t.val < 1024 :=
  (by decide +kernel : ∀ t : Fin grid0.N, _)

/-- The constant in this layer's weight of the second softmax is real. -/
theorem init_real : ∃ a : ℝ, Ideal.ofBits FTy.f32 0x3EF1014C#32 = a := by
  simp [Ideal.ofBits, Ideal.ieee]
  exact ⟨_, (EReal.coe_mul _ _).symm⟩

/-- The scaled row. -/
theorem pay1_at (x : FVec Ideal S256x128 .f32) (g : FVec Ideal S1x128 .f32) (r : Fin 256) (e : Fin 128) :
    k0_pay1 (F := Ideal) x g (ix3 0 r e) = x (ix2 r e) * g (ix2 0 e) * Ideal.ofBits FTy.f32 0x3F077F5A#32 := by
  pointwise! [k0_pay1]

/-- The weight of the second softmax. -/
theorem pay8_at (x : Vec Ideal S4x64 .f32) :
    k0_pay8 (F := Ideal) x (ix2 0 0) = lamOf (Ideal.ofBits FTy.f32 0x3EF1014C#32) (fun a d => x (ix2 a d)) := by
  unfold lamOf
  pointwise! [k0_pay8]

/-- The kernel's slope of a head is the reference's. -/
theorem slope_eq (h : Fin 4) : lit0 (S4x1x128.rowMajor (ix3 h 0 0)) = Cert.AttnRefIdeal.lit0 h := by
  fin_cases h <;> rfl

/-- The slope's window holds the head's slope. -/
theorem slope_at (c : Dev nD) (t : Fin cfg0.N) :
    (iblk m c 3 t : Vec Ideal S1x1x128 .f32) (ix3 0 0 0)
      = Ideal.ofBits FTy.f32 (Cert.AttnRefIdeal.lit0 (⟨t.val / 32 % 4, Nat.mod_lt _ (by omega)⟩ : Fin 4)) := by
  refine (show _ = (V m c main_cst : FVec Ideal S4x1x128 .f32) (ix3 (⟨t.val / 32 % 4, Nat.mod_lt _ (by omega)⟩ : Fin 4) 0 0)
    by blk_ext [iblk, idx t]).trans ?_
  rw [← slope_eq]
  simp only [V, hostOps0, List.flatten_cons, List.flatten_nil, List.append_nil, List.cons_append, List.nil_append]
  entry_read
  rfl

/-- What a point of batch entry 0 stores in the scratch. -/
theorem stored_at (c : Dev nD) (t : Fin cfg0.N) (ht : t.val < 1024) (r : Fin 256) (j : Fin 2048) :
    k0_pay2 (F := Ideal) (grid0.coords t) (iblk m c 3 t) (ix2 r j) = kept t.val ht r j := by
  refine (Cert.AttnIdeal.Body.pay2_at (grid0.coords t) (iblk m c 3 t) r j).trans ?_
  rw [slope_at, (idx t).2.2.2.2.2.2.2.1]
  rfl

/-- What every point leaves in the scratch. -/
theorem scratch_at (c : Dev nD) (t : Fin cfg0.N) (r : Fin 256) (j : Fin 2048) :
    (outsAt0 m c t.val t.isLt).2 (ix2 r j) = kept t.val (idx t).2.2.2.2.2.2.2.2 r j := by
  refine kept_of (fun n hn => (outsAt0 m c n (lt_of_lt_of_eq hn N_0.symm)).2) (fun n hn h r j => ?_) (fun n hn h => ?_)
    t.val _ r j
  · have e := outsAt0_A m c ⟨n, lt_of_lt_of_eq hn N_0.symm⟩ h
    dsimp only at e ⊢
    rw [e]
    frame_out
    exact stored_at m c ⟨n, lt_of_lt_of_eq hn N_0.symm⟩ hn r j
  · have e := outsAt0_B m c ⟨n + 1, lt_of_lt_of_eq hn N_0.symm⟩ h
    dsimp only at e ⊢
    rw [e]
    rfl

/-- What a point writes, over what it leaves in the scratch. -/
theorem out_eq (c : Dev nD) (t : Fin cfg0.N) :
    (outsAt0 m c t.val t.isLt).1
      = k0_pay1 (F := Ideal) (k0_pay10 (F := Ideal) (k0_pay3 (iblk m c 0 t)) k0_pay4 k0_pay5 (k0_pay6 (iblk m c 1 t))
          (k0_pay7 (iblk m c 2 t)) (k0_pay8 (iblk m c 4 t)) (k0_pay9 (iblk m c 0 t) (iblk m c 1 t))
          (outsAt0 m c t.val t.isLt).2 (outsAt0 m c t.val t.isLt).2) (k0_pay11 (iblk m c 5 t)) := by
  by_cases h : t.val % 32 = 0
  · rw [outsAt0_A m c t h]
    frame_out
  · have e : (outsAt0 m c t.val t.isLt).2 = (outsAt0 m c (t.val - 1) (Nat.lt_of_le_of_lt (Nat.sub_le _ _) t.isLt)).2 := by
      rw [outsAt0_B m c t h]
      rfl
    refine (congrArg Prod.fst (outsAt0_B m c t h)).trans ?_
    rw [e]
    frame_out
    erw [Memref.IsWhole.read_unread]

/-- The reference's term over the kernel's argument arrays. -/
def REF (c : Dev nD) : FVec Ideal S32x2048x512 .bf16 :=
  Cert.AttnRefIdeal.Rows.attnOut 0x3EF1014C#32 0x3F077F5A#32 (m ((c : Thread nD τ).loc main_arg0))
    (m ((c : Thread nD τ).loc main_arg1)) (m ((c : Thread nD τ).loc main_arg2))

/-- A row of a block is the row of the reference's result at the place where the block lies. -/
theorem point (c : Dev nD)
    (h0 : ∀ i, ∃ a : ℝ, (m ((c : Thread nD τ).loc main_arg0) : FVec Ideal S32x2048x1536 .bf16) i = (a : EReal))
    (h1 : ∀ i, ∃ a : ℝ, (m ((c : Thread nD τ).loc main_arg1) : FVec Ideal S4x64 .f32) i = (a : EReal))
    (t : Fin cfg0.N) (z : Fin 1) (r : Fin 256) (e : Fin 128) :
    (outsAt0 m c t.val t.isLt).1 (ix3 z r e)
      = REF m c (ix3 (⟨t.val % 32, Nat.mod_lt _ (by omega)⟩ : Fin 32)
          (⟨t.val / 128 * 256 + r.val, by have := (idx t).2.2.2.2.2.2.2.2; omega⟩ : Fin 2048)
          (⟨t.val / 32 % 4 * 128 + e.val, by omega⟩ : Fin 512)) := by
  obtain rfl : z = 0 := Subsingleton.elim _ _
  have hg : k0_pay11 (F := Ideal) (iblk m c 5 t) (ix2 0 e)
      = (m ((c : Thread nD τ).loc main_arg2) : FVec Ideal S128 .f32) (ix1 e) := by
    pointwise [k0_pay11]
    refine (show _ = (V m c main_v0 : FVec Ideal S1x128 .f32) (ix2 0 e) by blk_ext [iblk, idx t]).trans ?_
    simp only [V, hostOps0, List.flatten_cons, List.flatten_nil, List.append_nil, List.cons_append, List.nil_append]
    entry_read
    pointwise
  rw [out_eq, pay1_at, hg]
  refine written_at 0x3EF1014C#32 0x3F077F5A#32 init_real _ _ _ h0 h1 t.val (idx t).2.2.2.2.2.2.2.2
    (iblk m c 0 t) (iblk m c 1 t) (iblk m c 2 t) (k0_pay8 (F := Ideal) (iblk m c 4 t)) (outsAt0 m c t.val t.isLt).2 r e
    (fun d => ?_) (fun j d => ?_) (fun j d => ?_) ?_ (fun j => scratch_at m c t r j)
  · blk_ext [iblk, V, idx t]
  · blk_ext [iblk, V, idx t]
  · blk_ext [iblk, V, idx t]
  · refine (pay8_at _).trans (congrArg _ (funext fun a => funext fun d => ?_))
    blk_ext [iblk, V, idx t]

/-- THE RESULT ARRAY: the kernel's output array after the run is the reference's term over the arguments. -/
theorem final (c : Dev nD)
    (h0 : ∀ i, ∃ a : ℝ, (m ((c : Thread nD τ).loc main_arg0) : FVec Ideal S32x2048x1536 .bf16) i = (a : EReal))
    (h1 : ∀ i, ∃ a : ℝ, (m ((c : Thread nD τ).loc main_arg1) : FVec Ideal S4x64 .f32) i = (a : EReal)) :
    (dats m 0 c).arrAt 6 cfg0.N = REF m c := by
  refine (dats m 0 c).arrAt_eq_of_covers 6 _ (by decide +kernel) fun t _ y => ?_
  blk_simp
  rw [after0_6]
  idx_vars y
  refine (point m c h0 h1 t _ _ _).trans (congrArg (REF m c) ?_)
  blk_ext [idx t]

/-- The kernel returns what its reference returns, where the projections and parameters are finite. -/
theorem algebraic : Cert.algebraic_AttnThirdIdeal_AttnThirdRefIdeal_pre_finite := by
  intro m ρ m' ρ' hp hag
  refine ⟨fun c => REF m c, ?_, ?_⟩
  · refine (θ_run _ _ _).mono (fun r h c => ?_) (Cert.AttnThirdIdeal.Value.run_blocks m ρ)
    have hf := real_of_finite _ _ _ (hp c)
    exact ⟨(h c).1.trans (final m c hf.1 hf.2), (h c).2⟩
  · refine (θ_run _ _ _).mono (fun r h c => ?_) (Cert.AttnThirdRefIdeal.Value.run m' ρ')
    refine ⟨(h c).1.trans ?_, (h c).2⟩
    obtain ⟨h0, h1, h2⟩ := hag c
    refine (Cert.AttnThirdRefIdeal.Rows.result_eq m' c).trans ?_
    rw [h0, h1, h2]
    rfl

end Cert.AttnThirdIdeal.Result

end
-- ==== Proof.Rows.lean ====
module

public import Idealize.ShloMosaic.Lib.Pipeline.ValueKit

@[expose] public section

set_option maxRecDepth 16384

noncomputable section

/-! The arithmetic of one token's row, over the extended reals: what the merge, the norms, the projection and the MLP
compute for a row, written with whole sums. Both the kernels' blocks and the references' arrays are read in these terms. -/

namespace Cert.Rows
open Idealize.ShloMosaic

/-- The width 1024 of a row, as the constant both programs write. -/
def width : EReal := Ideal.ofBits FTy.f32 0x44800000#32

/-- The number that is added to a mean square before its root is taken. -/
def eps : EReal := Ideal.ofBits FTy.f32 0x358637BD#32

/-- A branch's output times its up-projection, gated entry by entry. -/
def gated {n : ℕ} (g : Fin 1024 → EReal) (o : Fin n → EReal) (W : Fin n → Fin 1024 → EReal) (e : Fin 1024) : EReal :=
  Ideal.logistic (g e) * ∑ k, o k * W k e

/-- The three gated branches added up. -/
def merged (ga gb gc : Fin 1024 → EReal) (oa : Fin 512 → EReal) (ob oc : Fin 256 → EReal)
    (Wa : Fin 512 → Fin 1024 → EReal) (Wb Wc : Fin 256 → Fin 1024 → EReal) (e : Fin 1024) : EReal :=
  gated ga oa Wa e + gated gb ob Wb e + gated gc oc Wc e

/-- A residual row plus a scaled linear image of another row. -/
def resid {n : ℕ} (x gt : Fin 1024 → EReal) (h : Fin n → EReal) (W : Fin n → Fin 1024 → EReal) (e : Fin 1024) : EReal :=
  x e + gt e * ∑ k, h k * W k e

/-- A row divided by its root mean square and scaled. -/
def normed (x g : Fin 1024 → EReal) (e : Fin 1024) : EReal :=
  x e * Ideal.rsqrt (Ideal.div (∑ k, x k * x k) width + eps) * g e

/-- The normed row, scaled and shifted by the modulation. -/
def modulated (x g sc sh : Fin 1024 → EReal) (e : Fin 1024) : EReal :=
  normed x g e * (1 + sc e) + sh e

/-- The squared positive part of one entry of a linear image. -/
def act {n : ℕ} (h : Fin 1024 → EReal) (W : Fin 1024 → Fin n → EReal) (f : Fin n) : EReal :=
  max (∑ k, h k * W k f) 0 * max (∑ k, h k * W k f) 0

/-- The row after the merge: the trunk's row plus the gated, projected branches. -/
def afterMerge (x gt ga gb gc : Fin 1024 → EReal) (oa : Fin 512 → EReal) (ob oc : Fin 256 → EReal)
    (Wa : Fin 512 → Fin 1024 → EReal) (Wb Wc : Fin 256 → Fin 1024 → EReal) (Wo : Fin 1024 → Fin 1024 → EReal) :
    Fin 1024 → EReal :=
  resid x gt (merged ga gb gc oa ob oc Wa Wb Wc) Wo

/-- The row after the MLP: what an inner layer returns for a row x1 that the merge left. -/
def mlpRow (x1 g sc sh gt : Fin 1024 → EReal) (W1 : Fin 1024 → Fin 4096 → EReal) (W2 : Fin 4096 → Fin 1024 → EReal) :
    Fin 1024 → EReal :=
  resid x1 gt (act (modulated x1 g sc sh) W1) W2

/-- The row after the MLP, normed: what the last layer returns for a row x1 that the merge left. -/
def afterMlp (x1 g sc sh gt : Fin 1024 → EReal) (W1 : Fin 1024 → Fin 4096 → EReal) (W2 : Fin 4096 → Fin 1024 → EReal)
    (fg : Fin 1024 → EReal) : Fin 1024 → EReal :=
  normed (mlpRow x1 g sc sh gt W1 W2) fg

/-- A sum over 4096 entries taken in four runs of 1024, from zero, is the whole sum. -/
theorem sum_four (F : Fin 4096 → EReal) :
    0 + ∑ k : Fin 1024, F ⟨k.val, by omega⟩ + ∑ k : Fin 1024, F ⟨1024 + k.val, by omega⟩
      + ∑ k : Fin 1024, F ⟨2048 + k.val, by omega⟩ + ∑ k : Fin 1024, F ⟨3072 + k.val, by omega⟩ = ∑ k, F k := by
  rw [Fin.sum_univ_tiles 4 1024 rfl F, Fin.sum_univ_four, zero_add]
  congr 1

end Cert.Rows

end
-- ==== Proof.PostBody.lean ====
module

public import proofs.«01_k».proof.Proof.Gen.PostIdeal.Value
public import proofs.«01_k».proof.Proof.Rows

@[expose] public section

set_option maxRecDepth 16384

noncomputable section

/-! What one block of the merge and MLP kernel computes, row by row. -/

open Idealize.ShloMosaic Idealize.ShloMosaic.TcCoe Idealize.SL.Sem
namespace Cert.PostIdeal.Body
open Cert.PostIdeal Cert.PostIdeal.Gen Cert.Rows

/-- The first two gated branches of a block. -/
theorem pay2_at (v0 : FVec Ideal S1x512x1024 .bf16) (v4 : FVec Ideal S1x512x512 .bf16) (v6 : FVec Ideal S512x1024 .bf16)
    (v10 : FVec Ideal S1x512x1024 .bf16) (v14 : FVec Ideal S1x512x256 .bf16) (v16 : FVec Ideal S256x1024 .bf16)
    (r : Fin 512) (e : Fin 1024) :
    k0_pay2 (F := Ideal) v0 v4 v6 v10 v14 v16 (ix2 r e)
      = gated (fun e => v0 (ix3 0 r e)) (fun k => v4 (ix3 0 r k)) (fun k e => v6 (ix2 k e)) e
        + gated (fun e => v10 (ix3 0 r e)) (fun k => v14 (ix3 0 r k)) (fun k e => v16 (ix2 k e)) e := by
  unfold gated
  pointwise! [k0_pay2]

/-- The third gated branch of a block. -/
theorem pay3_at (v21 : FVec Ideal S1x512x1024 .bf16) (v25 : FVec Ideal S1x512x256 .bf16) (v27 : FVec Ideal S256x1024 .bf16)
    (r : Fin 512) (e : Fin 1024) :
    k0_pay3 (F := Ideal) v21 v25 v27 (ix2 r e)
      = gated (fun e => v21 (ix3 0 r e)) (fun k => v25 (ix3 0 r k)) (fun k e => v27 (ix2 k e)) e := by
  unfold gated
  pointwise! [k0_pay3]

/-- The row after the merge. -/
theorem pay4_at (v20 v30 : FVec Ideal S512x1024 .f32) (v32 : FVec Ideal S1x512x1024 .f32) (v34 : FVec Ideal S1x1x1024 .f32)
    (v37 : FVec Ideal S1024x1024 .bf16) (r : Fin 512) (e : Fin 1024) :
    k0_pay4 (F := Ideal) v20 v30 v32 v34 v37 (ix2 r e)
      = resid (fun e => v32 (ix3 0 r e)) (fun e => v34 (ix3 0 0 e)) (fun k => v20 (ix2 r k) + v30 (ix2 r k))
          (fun k e => v37 (ix2 k e)) e := by
  unfold resid
  pointwise! [k0_pay4]

/-- The normed, modulated row that enters the MLP. -/
theorem pay5_at (v20 v30 : FVec Ideal S512x1024 .f32) (v32 : FVec Ideal S1x512x1024 .f32) (v34 : FVec Ideal S1x1x1024 .f32)
    (v37 : FVec Ideal S1024x1024 .bf16) (v53 : FVec Ideal S1x1024 .f32) (v57 v63 : FVec Ideal S1x1x1024 .f32)
    (r : Fin 512) (e : Fin 1024) :
    k0_pay5 (F := Ideal) v20 v30 v32 v34 v37 v53 v57 v63 (ix2 r e)
      = modulated (fun e => k0_pay4 (F := Ideal) v20 v30 v32 v34 v37 (ix2 r e)) (fun e => v53 (ix2 0 e))
          (fun e => v57 (ix3 0 0 e)) (fun e => v63 (ix3 0 0 e)) e := by
  unfold modulated normed width eps
  pointwise! [k0_pay5]

/-- The zero fill of the MLP's running sum. -/
theorem pay6_at (r : Fin 512) (e : Fin 1024) : k0_pay6 (F := Ideal) (ix2 r e) = 0 := by
  pointwise! [k0_pay6]

/-- The MLP's running sum after three of its four runs of hidden entries. -/
theorem pay7_at (v67 : FVec Ideal S512x1024 .bf16) (v68 : FVec Ideal S512x1024 .f32)
    (a b c d f g : FVec Ideal S1024x1024 .bf16) (r : Fin 512) (e : Fin 1024) :
    k0_pay7 (F := Ideal) v67 v68 a b c d f g (ix2 r e)
      = v68 (ix2 r e) + ∑ k, act (fun e => v67 (ix2 r e)) (fun k e => a (ix2 k e)) k * b (ix2 k e)
        + ∑ k, act (fun e => v67 (ix2 r e)) (fun k e => c (ix2 k e)) k * d (ix2 k e)
        + ∑ k, act (fun e => v67 (ix2 r e)) (fun k e => f (ix2 k e)) k * g (ix2 k e) := by
  unfold act
  pointwise! [k0_pay7]

/-- The last run's hidden entries, before their positive part is squared. -/
theorem pay8_at (v67 : FVec Ideal S512x1024 .bf16) (v102 : FVec Ideal S1024x1024 .bf16) (r : Fin 512) (e : Fin 1024) :
    k0_pay8 (F := Ideal) v67 v102 (ix2 r e) = ∑ k, v67 (ix2 r k) * v102 (ix2 k e) := by
  pointwise! [k0_pay8]

/-- The stored row: the residual after the last run, normed. -/
theorem pay1_at (v42 v101 v104 : FVec Ideal S512x1024 .f32) (v109 : FVec Ideal S1024x1024 .bf16)
    (v113 : FVec Ideal S1x1x1024 .f32) (v128 : FVec Ideal S1x1024 .f32) (z : Fin 1) (r : Fin 512) (e : Fin 1024) :
    k0_pay1 (F := Ideal) v42 v101 v104 v109 v113 v128 (ix3 z r e)
      = normed (fun e => v42 (ix2 r e) + v113 (ix3 0 0 e)
          * (v101 (ix2 r e) + ∑ k, max (v104 (ix2 r k)) 0 * max (v104 (ix2 r k)) 0 * v109 (ix2 k e)))
          (fun e => v128 (ix2 0 e)) e := by
  unfold normed width eps
  pointwise! [k0_pay1]

/-- The first branch's gates are the first 1024 gate columns. -/
theorem ld0_at (x : FVec Ideal S1x512x3072 .bf16) (r : Fin 512) (e : Fin 1024) :
    View.ld (Val := Elt Ideal) (e' := .bf16) x r0_0 (ix3 0 r e) = x (ix3 0 r ⟨e.val, by omega⟩) := by
  pointwise!

/-- The second branch's gates are the next 1024 gate columns. -/
theorem ld3_at (x : FVec Ideal S1x512x3072 .bf16) (r : Fin 512) (e : Fin 1024) :
    View.ld (Val := Elt Ideal) (e' := .bf16) x r0_3 (ix3 0 r e) = x (ix3 0 r ⟨1024 + e.val, by omega⟩) := by
  pointwise!

/-- The third branch's gates are the last 1024 gate columns. -/
theorem ld6_at (x : FVec Ideal S1x512x3072 .bf16) (r : Fin 512) (e : Fin 1024) :
    View.ld (Val := Elt Ideal) (e' := .bf16) x r0_6 (ix3 0 r e) = x (ix3 0 r ⟨2048 + e.val, by omega⟩) := by
  pointwise!

/-- A run of 1024 columns of the MLP's first weight. -/
theorem ld11_at (x : FVec Ideal S1024x4096 .bf16) (k e : Fin 1024) :
    View.ld (Val := Elt Ideal) (e' := .bf16) x r0_11 (ix2 k e) = x (ix2 k ⟨e.val, by omega⟩) := by
  pointwise!

/-- A run of 1024 columns of the MLP's first weight. -/
theorem ld13_at (x : FVec Ideal S1024x4096 .bf16) (k e : Fin 1024) :
    View.ld (Val := Elt Ideal) (e' := .bf16) x r0_13 (ix2 k e) = x (ix2 k ⟨1024 + e.val, by omega⟩) := by
  pointwise!

/-- A run of 1024 columns of the MLP's first weight. -/
theorem ld15_at (x : FVec Ideal S1024x4096 .bf16) (k e : Fin 1024) :
    View.ld (Val := Elt Ideal) (e' := .bf16) x r0_15 (ix2 k e) = x (ix2 k ⟨2048 + e.val, by omega⟩) := by
  pointwise!

/-- A run of 1024 columns of the MLP's first weight. -/
theorem ld17_at (x : FVec Ideal S1024x4096 .bf16) (k e : Fin 1024) :
    View.ld (Val := Elt Ideal) (e' := .bf16) x r0_17 (ix2 k e) = x (ix2 k ⟨3072 + e.val, by omega⟩) := by
  pointwise!

/-- A run of 1024 rows of the MLP's second weight. -/
theorem ld12_at (x : FVec Ideal S4096x1024 .bf16) (k e : Fin 1024) :
    View.ld (Val := Elt Ideal) (e' := .bf16) x r0_12 (ix2 k e) = x (ix2 ⟨k.val, by omega⟩ e) := by
  pointwise!

/-- A run of 1024 rows of the MLP's second weight. -/
theorem ld14_at (x : FVec Ideal S4096x1024 .bf16) (k e : Fin 1024) :
    View.ld (Val := Elt Ideal) (e' := .bf16) x r0_14 (ix2 k e) = x (ix2 ⟨1024 + k.val, by omega⟩ e) := by
  pointwise!

/-- A run of 1024 rows of the MLP's second weight. -/
theorem ld16_at (x : FVec Ideal S4096x1024 .bf16) (k e : Fin 1024) :
    View.ld (Val := Elt Ideal) (e' := .bf16) x r0_16 (ix2 k e) = x (ix2 ⟨2048 + k.val, by omega⟩ e) := by
  pointwise!

/-- A run of 1024 rows of the MLP's second weight. -/
theorem ld18_at (x : FVec Ideal S4096x1024 .bf16) (k e : Fin 1024) :
    View.ld (Val := Elt Ideal) (e' := .bf16) x r0_18 (ix2 k e) = x (ix2 ⟨3072 + k.val, by omega⟩ e) := by
  pointwise!

/-- The block's row before the final norm, from the pieces of the gates and of the MLP's weights that the body loads. -/
theorem hidden_at (x0 : FVec Ideal S1x512x1024 .f32) (x1 : FVec Ideal S1x512x512 .bf16) (x2 x3 : FVec Ideal S1x512x256 .bf16)
    (x4 : FVec Ideal S1x512x3072 .bf16) (x5 x6 x7 x8 : FVec Ideal S1x1x1024 .f32) (x9 : FVec Ideal S1x1024 .f32)
    (x10 : FVec Ideal S512x1024 .bf16) (x11 x12 : FVec Ideal S256x1024 .bf16) (x13 : FVec Ideal S1024x1024 .bf16)
    (x14 : FVec Ideal S1024x4096 .bf16) (x15 : FVec Ideal S4096x1024 .bf16)
    (ga gb gc : FVec Ideal S1x512x1024 .bf16) (a0 a1 a2 a3 b0 b1 b2 b3 : FVec Ideal S1024x1024 .bf16)
    (r : Fin 512) (e : Fin 1024)
    (hga : ∀ e : Fin 1024, ga (ix3 0 r e) = x4 (ix3 0 r ⟨e.val, by omega⟩))
    (hgb : ∀ e : Fin 1024, gb (ix3 0 r e) = x4 (ix3 0 r ⟨1024 + e.val, by omega⟩))
    (hgc : ∀ e : Fin 1024, gc (ix3 0 r e) = x4 (ix3 0 r ⟨2048 + e.val, by omega⟩))
    (ha0 : ∀ k e : Fin 1024, a0 (ix2 k e) = x14 (ix2 k ⟨e.val, by omega⟩))
    (ha1 : ∀ k e : Fin 1024, a1 (ix2 k e) = x14 (ix2 k ⟨1024 + e.val, by omega⟩))
    (ha2 : ∀ k e : Fin 1024, a2 (ix2 k e) = x14 (ix2 k ⟨2048 + e.val, by omega⟩))
    (ha3 : ∀ k e : Fin 1024, a3 (ix2 k e) = x14 (ix2 k ⟨3072 + e.val, by omega⟩))
    (hb0 : ∀ k e : Fin 1024, b0 (ix2 k e) = x15 (ix2 ⟨k.val, by omega⟩ e))
    (hb1 : ∀ k e : Fin 1024, b1 (ix2 k e) = x15 (ix2 ⟨1024 + k.val, by omega⟩ e))
    (hb2 : ∀ k e : Fin 1024, b2 (ix2 k e) = x15 (ix2 ⟨2048 + k.val, by omega⟩ e))
    (hb3 : ∀ k e : Fin 1024, b3 (ix2 k e) = x15 (ix2 ⟨3072 + k.val, by omega⟩ e)) :
    k0_pay4 (F := Ideal) (k0_pay2 ga x1 x10 gb x2 x11) (k0_pay3 gc x3 x12) x0 x5 x13 (ix2 r e)
        + x8 (ix3 0 0 e) * (k0_pay7 (F := Ideal) (k0_pay5 (k0_pay2 ga x1 x10 gb x2 x11) (k0_pay3 gc x3 x12) x0 x5 x13 x9 x6 x7) (k0_pay6 (F := Ideal)) a0 b0 a1 b1 a2 b2 (ix2 r e)
          + ∑ k, max (k0_pay8 (F := Ideal) (k0_pay5 (k0_pay2 ga x1 x10 gb x2 x11) (k0_pay3 gc x3 x12) x0 x5 x13 x9 x6 x7) a3 (ix2 r k)) 0
              * max (k0_pay8 (F := Ideal) (k0_pay5 (k0_pay2 ga x1 x10 gb x2 x11) (k0_pay3 gc x3 x12) x0 x5 x13 x9 x6 x7) a3 (ix2 r k)) 0 * b3 (ix2 k e))
      = mlpRow
          (afterMerge (fun e => x0 (ix3 0 r e)) (fun e => x5 (ix3 0 0 e))
            (fun e => x4 (ix3 0 r ⟨e.val, by omega⟩)) (fun e => x4 (ix3 0 r ⟨1024 + e.val, by omega⟩))
            (fun e => x4 (ix3 0 r ⟨2048 + e.val, by omega⟩))
            (fun k => x1 (ix3 0 r k)) (fun k => x2 (ix3 0 r k)) (fun k => x3 (ix3 0 r k))
            (fun k e => x10 (ix2 k e)) (fun k e => x11 (ix2 k e)) (fun k e => x12 (ix2 k e)) (fun k e => x13 (ix2 k e)))
          (fun e => x9 (ix2 0 e)) (fun e => x6 (ix3 0 0 e)) (fun e => x7 (ix3 0 0 e)) (fun e => x8 (ix3 0 0 e))
          (fun k e => x14 (ix2 k e)) (fun k e => x15 (ix2 k e)) e := by
  simp only [pay8_at, pay7_at, pay6_at, pay5_at, pay4_at, pay3_at, pay2_at, hga, hgb, hgc, ha0, ha1, ha2, ha3,
    hb0, hb1, hb2, hb3]
  unfold mlpRow
  refine congrArg₂ (fun a s => a + x8 (ix3 0 0 e) * s) rfl ?_
  exact sum_four fun f => act _ (fun k e => x14 (ix2 k e)) f * x15 (ix2 f e)

/-- The stored row, from the pieces of the gates and of the MLP's weights that the body loads. -/
theorem core_at (x0 : FVec Ideal S1x512x1024 .f32) (x1 : FVec Ideal S1x512x512 .bf16) (x2 x3 : FVec Ideal S1x512x256 .bf16)
    (x4 : FVec Ideal S1x512x3072 .bf16) (x5 x6 x7 x8 : FVec Ideal S1x1x1024 .f32) (x9 : FVec Ideal S1x1024 .f32)
    (x10 : FVec Ideal S512x1024 .bf16) (x11 x12 : FVec Ideal S256x1024 .bf16) (x13 : FVec Ideal S1024x1024 .bf16)
    (x14 : FVec Ideal S1024x4096 .bf16) (x15 : FVec Ideal S4096x1024 .bf16) (x16 : FVec Ideal S1x1024 .f32)
    (ga gb gc : FVec Ideal S1x512x1024 .bf16) (a0 a1 a2 a3 b0 b1 b2 b3 : FVec Ideal S1024x1024 .bf16)
    (z : Fin 1) (r : Fin 512) (e : Fin 1024)
    (hga : ∀ e : Fin 1024, ga (ix3 0 r e) = x4 (ix3 0 r ⟨e.val, by omega⟩))
    (hgb : ∀ e : Fin 1024, gb (ix3 0 r e) = x4 (ix3 0 r ⟨1024 + e.val, by omega⟩))
    (hgc : ∀ e : Fin 1024, gc (ix3 0 r e) = x4 (ix3 0 r ⟨2048 + e.val, by omega⟩))
    (ha0 : ∀ k e : Fin 1024, a0 (ix2 k e) = x14 (ix2 k ⟨e.val, by omega⟩))
    (ha1 : ∀ k e : Fin 1024, a1 (ix2 k e) = x14 (ix2 k ⟨1024 + e.val, by omega⟩))
    (ha2 : ∀ k e : Fin 1024, a2 (ix2 k e) = x14 (ix2 k ⟨2048 + e.val, by omega⟩))
    (ha3 : ∀ k e : Fin 1024, a3 (ix2 k e) = x14 (ix2 k ⟨3072 + e.val, by omega⟩))
    (hb0 : ∀ k e : Fin 1024, b0 (ix2 k e) = x15 (ix2 ⟨k.val, by omega⟩ e))
    (hb1 : ∀ k e : Fin 1024, b1 (ix2 k e) = x15 (ix2 ⟨1024 + k.val, by omega⟩ e))
    (hb2 : ∀ k e : Fin 1024, b2 (ix2 k e) = x15 (ix2 ⟨2048 + k.val, by omega⟩ e))
    (hb3 : ∀ k e : Fin 1024, b3 (ix2 k e) = x15 (ix2 ⟨3072 + k.val, by omega⟩ e)) :
    k0_pay1 (F := Ideal) (k0_pay4 (k0_pay2 ga x1 x10 gb x2 x11) (k0_pay3 gc x3 x12) x0 x5 x13)
        (k0_pay7 (k0_pay5 (k0_pay2 ga x1 x10 gb x2 x11) (k0_pay3 gc x3 x12) x0 x5 x13 x9 x6 x7) (k0_pay6 (F := Ideal))
          a0 b0 a1 b1 a2 b2)
        (k0_pay8 (k0_pay5 (k0_pay2 ga x1 x10 gb x2 x11) (k0_pay3 gc x3 x12) x0 x5 x13 x9 x6 x7) a3) b3 x8 x16 (ix3 z r e)
      = afterMlp
          (afterMerge (fun e => x0 (ix3 0 r e)) (fun e => x5 (ix3 0 0 e))
            (fun e => x4 (ix3 0 r ⟨e.val, by omega⟩)) (fun e => x4 (ix3 0 r ⟨1024 + e.val, by omega⟩))
            (fun e => x4 (ix3 0 r ⟨2048 + e.val, by omega⟩))
            (fun k => x1 (ix3 0 r k)) (fun k => x2 (ix3 0 r k)) (fun k => x3 (ix3 0 r k))
            (fun k e => x10 (ix2 k e)) (fun k e => x11 (ix2 k e)) (fun k e => x12 (ix2 k e)) (fun k e => x13 (ix2 k e)))
          (fun e => x9 (ix2 0 e)) (fun e => x6 (ix3 0 0 e)) (fun e => x7 (ix3 0 0 e)) (fun e => x8 (ix3 0 0 e))
          (fun k e => x14 (ix2 k e)) (fun k e => x15 (ix2 k e)) (fun e => x16 (ix2 0 e)) e := by
  rw [pay1_at]
  unfold afterMlp
  refine congrArg (fun x => normed x (fun e => x16 (ix2 0 e)) e) (funext fun e' => ?_)
  exact hidden_at x0 x1 x2 x3 x4 x5 x6 x7 x8 x9 x10 x11 x12 x13 x14 x15 ga gb gc a0 a1 a2 a3 b0 b1 b2 b3 r e'
    hga hgb hgc ha0 ha1 ha2 ha3 hb0 hb1 hb2 hb3

/-- WHAT A BLOCK COMPUTES: each row of the block is the last layer's row function of the blocks' rows. -/
theorem body_at (x0 : FVec Ideal S1x512x1024 .f32) (x1 : FVec Ideal S1x512x512 .bf16) (x2 x3 : FVec Ideal S1x512x256 .bf16)
    (x4 : FVec Ideal S1x512x3072 .bf16) (x5 x6 x7 x8 : FVec Ideal S1x1x1024 .f32) (x9 : FVec Ideal S1x1024 .f32)
    (x10 : FVec Ideal S512x1024 .bf16) (x11 x12 : FVec Ideal S256x1024 .bf16) (x13 : FVec Ideal S1024x1024 .bf16)
    (x14 : FVec Ideal S1024x4096 .bf16) (x15 : FVec Ideal S4096x1024 .bf16) (x16 : FVec Ideal S1x1024 .f32)
    (z : Fin 1) (r : Fin 512) (e : Fin 1024) :
    out0_17 (F := Ideal) x0 x1 x2 x3 x4 x5 x6 x7 x8 x9 x10 x11 x12 x13 x14 x15 x16 (ix3 z r e)
      = afterMlp
          (afterMerge (fun e => x0 (ix3 0 r e)) (fun e => x5 (ix3 0 0 e))
            (fun e => x4 (ix3 0 r ⟨e.val, by omega⟩)) (fun e => x4 (ix3 0 r ⟨1024 + e.val, by omega⟩))
            (fun e => x4 (ix3 0 r ⟨2048 + e.val, by omega⟩))
            (fun k => x1 (ix3 0 r k)) (fun k => x2 (ix3 0 r k)) (fun k => x3 (ix3 0 r k))
            (fun k e => x10 (ix2 k e)) (fun k e => x11 (ix2 k e)) (fun k e => x12 (ix2 k e)) (fun k e => x13 (ix2 k e)))
          (fun e => x9 (ix2 0 e)) (fun e => x6 (ix3 0 0 e)) (fun e => x7 (ix3 0 0 e)) (fun e => x8 (ix3 0 0 e))
          (fun k e => x14 (ix2 k e)) (fun k e => x15 (ix2 k e)) (fun e => x16 (ix2 0 e)) e := by
  unfold out0_17 k0_pay11 k0_pay10 k0_pay9
  frame_out
  exact core_at x0 x1 x2 x3 x4 x5 x6 x7 x8 x9 x10 x11 x12 x13 x14 x15 x16 _ _ _ _ _ _ _ _ _ _ _ z r e
    (ld0_at x4 r) (ld3_at x4 r) (ld6_at x4 r) (ld11_at x14) (ld13_at x14) (ld15_at x14) (ld17_at x14)
    (ld12_at x15) (ld14_at x15) (ld16_at x15) (ld18_at x15)

end Cert.PostIdeal.Body

end
-- ==== Proof.PostRef.lean ====
module

public import proofs.«01_k».proof.Proof.Gen.PostRefIdeal.Run
public import proofs.«01_k».proof.Proof.Rows

@[expose] public section

set_option maxRecDepth 16384

noncomputable section

/-! What the reference of the merge and MLP computes, stage by stage and row by row. -/

open Idealize.ShloMosaic Idealize.ShloMosaic.TcCoe Idealize.SL.Sem
namespace Cert.PostRefIdeal.Rows
open Cert.PostRefIdeal Cert.PostRefIdeal.Gen Cert.Rows

/-- The branches' gates: the logistic function of every gate column. -/
def gateArr (pg : FVec Ideal S32x2048x3072 .bf16) : FVec Ideal S32x2048x3072 .f32 :=
  Host.divf (broadcastInDim S32x2048x3072 ![] bcast_S_S32x2048x3072 (constant S_ .f32 0x3F800000#32))
    (addf (broadcastInDim S32x2048x3072 ![] bcast_S_S32x2048x3072 (constant S_ .f32 0x3F800000#32))
      (Host.exp (Host.negf (extf .f32 pg bitsLt_bf16_f32))))

/-- The gated branches added up. -/
def mergedArr (g : FVec Ideal S32x2048x3072 .f32) (oa : FVec Ideal S32x2048x512 .bf16) (ob oc : FVec Ideal S32x2048x256 .bf16)
    (wa : FVec Ideal S512x1024 .f32) (wb wc : FVec Ideal S256x1024 .f32) : FVec Ideal S32x2048x1024 .f32 :=
  addf (addf
      (mulf (extractStridedSlice S32x2048x1024 ![0, 0, 0] g slices_S32x2048x3072_S32x2048x1024_0_0_0)
        (Host.dotGeneral dot_S32x2048x512_S512x1024_S32x2048x1024_2_0_01_1_n_n none (extf .f32 oa bitsLt_bf16_f32) wa))
      (mulf (extractStridedSlice S32x2048x1024 ![0, 0, 1024] g slices_S32x2048x3072_S32x2048x1024_0_0_1024)
        (Host.dotGeneral dot_S32x2048x256_S256x1024_S32x2048x1024_2_0_01_1_n_n none (extf .f32 ob bitsLt_bf16_f32) wb)))
    (mulf (extractStridedSlice S32x2048x1024 ![0, 0, 2048] g slices_S32x2048x3072_S32x2048x1024_0_0_2048)
      (Host.dotGeneral dot_S32x2048x256_S256x1024_S32x2048x1024_2_0_01_1_n_n none (extf .f32 oc bitsLt_bf16_f32) wc))

/-- The array after the merge. -/
def x1Arr (x : FVec Ideal S32x2048x1024 .f32) (gt : FVec Ideal S32x1x1024 .f32) (mg : FVec Ideal S32x2048x1024 .f32)
    (wo : FVec Ideal S1024x1024 .f32) : FVec Ideal S32x2048x1024 .f32 :=
  addf x (mulf (broadcastInDim S32x2048x1024 ![0, 1, 2] bcast_S32x1x1024_S32x2048x1024_0_1_2 gt)
    (Host.dotGeneral dot_S32x2048x1024_S1024x1024_S32x2048x1024_2_0_01_1_n_n none mg wo))

/-- The norm over an array's last axis. -/
def normArr (x : FVec Ideal S32x2048x1024 .f32) (g : FVec Ideal S1024 .f32) : FVec Ideal S32x2048x1024 .f32 :=
  mulf (mulf x (broadcastInDim S32x2048x1024 ![0, 1, 2] bcast_S32x2048x1_S32x2048x1024_0_1_2
      (Host.rsqrt (addf
        (Host.divf (broadcastInDim S32x2048x1 ![0, 1] bcast_S32x2048_S32x2048x1_0_1
            (Host.reduceAdd (mulf x x) (constant S_ .f32 0x00000000#32) reducesTo_S32x2048x1024_S32x2048_d2 h_S_))
          (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 g))

/-- The normed array, scaled and shifted by the modulation. -/
def modArr (n : FVec Ideal S32x2048x1024 .f32) (sc sh : FVec Ideal S32x1x1024 .f32) : FVec Ideal S32x2048x1024 .f32 :=
  addf (mulf n (broadcastInDim S32x2048x1024 ![0, 1, 2] bcast_S32x1x1024_S32x2048x1024_0_1_2
      (addf (broadcastInDim S32x1x1024 ![] bcast_S_S32x1x1024 (constant S_ .f32 0x3F800000#32)) sc)))
    (broadcastInDim S32x2048x1024 ![0, 1, 2] bcast_S32x1x1024_S32x2048x1024_0_1_2 sh)

/-- The positive part of the MLP's hidden array. -/
def posArr (h : FVec Ideal S32x2048x1024 .f32) (w1 : FVec Ideal S1024x4096 .f32) : FVec Ideal S32x2048x4096 .f32 :=
  maximumf (Host.dotGeneral dot_S32x2048x1024_S1024x4096_S32x2048x4096_2_0_01_1_n_n none h w1)
    (broadcastInDim S32x2048x4096 ![] bcast_S_S32x2048x4096 (constant S_ .f32 0x00000000#32))

/-- The array after the MLP. -/
def x2Arr (x1 : FVec Ideal S32x2048x1024 .f32) (gt : FVec Ideal S32x1x1024 .f32) (u : FVec Ideal S32x2048x4096 .f32)
    (w2 : FVec Ideal S4096x1024 .f32) : FVec Ideal S32x2048x1024 .f32 :=
  addf x1 (mulf (broadcastInDim S32x2048x1024 ![0, 1, 2] bcast_S32x1x1024_S32x2048x1024_0_1_2 gt)
    (Host.dotGeneral dot_S32x2048x4096_S4096x1024_S32x2048x1024_2_0_01_1_n_n none (mulf u u) w2))

/-- The array after the merge, of the arguments. -/
def mergeOut (x : FVec Ideal S32x2048x1024 .f32) (oa : FVec Ideal S32x2048x512 .bf16) (ob oc : FVec Ideal S32x2048x256 .bf16)
    (pg : FVec Ideal S32x2048x3072 .bf16) (gtm : FVec Ideal S32x1x1024 .f32) (wa : FVec Ideal S512x1024 .f32)
    (wb wc : FVec Ideal S256x1024 .f32) (wo : FVec Ideal S1024x1024 .f32) : FVec Ideal S32x2048x1024 .f32 :=
  x1Arr x gtm (mergedArr (gateArr pg) oa ob oc wa wb wc) wo

/-- The array after the MLP, of the array that the merge leaves. -/
def hiddenOut (x1 : FVec Ideal S32x2048x1024 .f32) (scf shf gtf : FVec Ideal S32x1x1024 .f32) (g2 : FVec Ideal S1024 .f32)
    (w1 : FVec Ideal S1024x4096 .f32) (w2 : FVec Ideal S4096x1024 .f32) : FVec Ideal S32x2048x1024 .f32 :=
  x2Arr x1 gtf (posArr (modArr (normArr x1 g2) scf shf) w1) w2

/-- The result, of the array that the merge leaves and the remaining arguments. -/
def mlpOut (x1 : FVec Ideal S32x2048x1024 .f32) (scf shf gtf : FVec Ideal S32x1x1024 .f32) (g2 : FVec Ideal S1024 .f32)
    (w1 : FVec Ideal S1024x4096 .f32) (w2 : FVec Ideal S4096x1024 .f32) (fg : FVec Ideal S1024 .f32) :
    FVec Ideal S32x2048x1024 .f32 :=
  normArr (hiddenOut x1 scf shf gtf g2 w1 w2) fg

/-- A gate is the logistic function of its column. -/
theorem gateArr_at (pg : FVec Ideal S32x2048x3072 .bf16) (b : Fin 32) (s : Fin 2048) (e : Fin 3072) :
    gateArr pg (ix3 b s e) = Ideal.logistic (pg (ix3 b s e)) := by
  unfold Ideal.logistic
  pointwise! [gateArr]

/-- A merged entry: the three branches, each projected and scaled by its gate. -/
theorem mergedArr_at (g : FVec Ideal S32x2048x3072 .f32) (oa : FVec Ideal S32x2048x512 .bf16)
    (ob oc : FVec Ideal S32x2048x256 .bf16) (wa : FVec Ideal S512x1024 .f32) (wb wc : FVec Ideal S256x1024 .f32)
    (b : Fin 32) (s : Fin 2048) (e : Fin 1024) :
    mergedArr g oa ob oc wa wb wc (ix3 b s e)
      = g (ix3 b s ⟨e.val, by omega⟩) * (∑ k : Fin 512, oa (ix3 b s k) * wa (ix2 k e))
        + g (ix3 b s ⟨1024 + e.val, by omega⟩) * (∑ k : Fin 256, ob (ix3 b s k) * wb (ix2 k e))
        + g (ix3 b s ⟨2048 + e.val, by omega⟩) * (∑ k : Fin 256, oc (ix3 b s k) * wc (ix2 k e)) := by
  pointwise! [mergedArr]

/-- A row after the merge is the residual row of Rows. -/
theorem x1Arr_at (x : FVec Ideal S32x2048x1024 .f32) (gt : FVec Ideal S32x1x1024 .f32) (mg : FVec Ideal S32x2048x1024 .f32)
    (wo : FVec Ideal S1024x1024 .f32) (b : Fin 32) (s : Fin 2048) (e : Fin 1024) :
    x1Arr x gt mg wo (ix3 b s e)
      = resid (fun e => x (ix3 b s e)) (fun e => gt (ix3 b 0 e)) (fun k => mg (ix3 b s k)) (fun k e => wo (ix2 k e)) e := by
  unfold resid
  pointwise! [x1Arr]

/-- A normed row is the normed row of Rows. -/
theorem normArr_at (x : FVec Ideal S32x2048x1024 .f32) (g : FVec Ideal S1024 .f32) (b : Fin 32) (s : Fin 2048) (e : Fin 1024) :
    normArr x g (ix3 b s e) = normed (fun e => x (ix3 b s e)) (fun e => g (ix1 e)) e := by
  unfold normed width eps
  pointwise! [normArr]

/-- A modulated entry: the normed one times one plus the scale, plus the shift. -/
theorem modArr_at (n : FVec Ideal S32x2048x1024 .f32) (sc sh : FVec Ideal S32x1x1024 .f32) (b : Fin 32) (s : Fin 2048)
    (e : Fin 1024) :
    modArr n sc sh (ix3 b s e) = n (ix3 b s e) * (1 + sc (ix3 b 0 e)) + sh (ix3 b 0 e) := by
  pointwise! [modArr]

/-- A hidden entry of the MLP: the positive part of the row's projection. -/
theorem posArr_at (h : FVec Ideal S32x2048x1024 .f32) (w1 : FVec Ideal S1024x4096 .f32) (b : Fin 32) (s : Fin 2048)
    (f : Fin 4096) :
    posArr h w1 (ix3 b s f) = max (∑ k : Fin 1024, h (ix3 b s k) * w1 (ix2 k f)) 0 := by
  pointwise! [posArr]

/-- A row after the MLP: the residual row with the squared hidden entries. -/
theorem x2Arr_at (x1 : FVec Ideal S32x2048x1024 .f32) (gt : FVec Ideal S32x1x1024 .f32) (u : FVec Ideal S32x2048x4096 .f32)
    (w2 : FVec Ideal S4096x1024 .f32) (b : Fin 32) (s : Fin 2048) (e : Fin 1024) :
    x2Arr x1 gt u w2 (ix3 b s e)
      = resid (fun e => x1 (ix3 b s e)) (fun e => gt (ix3 b 0 e)) (fun k => u (ix3 b s k) * u (ix3 b s k))
          (fun k e => w2 (ix2 k e)) e := by
  unfold resid
  pointwise! [x2Arr]

/-- A row of the array after the merge. -/
theorem mergeOut_at (x : FVec Ideal S32x2048x1024 .f32) (oa : FVec Ideal S32x2048x512 .bf16)
    (ob oc : FVec Ideal S32x2048x256 .bf16) (pg : FVec Ideal S32x2048x3072 .bf16) (gtm : FVec Ideal S32x1x1024 .f32)
    (wa : FVec Ideal S512x1024 .f32) (wb wc : FVec Ideal S256x1024 .f32) (wo : FVec Ideal S1024x1024 .f32)
    (b : Fin 32) (s : Fin 2048) (e : Fin 1024) :
    mergeOut x oa ob oc pg gtm wa wb wc wo (ix3 b s e)
      = afterMerge (fun e => x (ix3 b s e)) (fun e => gtm (ix3 b 0 e))
          (fun e => pg (ix3 b s ⟨e.val, by omega⟩)) (fun e => pg (ix3 b s ⟨1024 + e.val, by omega⟩))
          (fun e => pg (ix3 b s ⟨2048 + e.val, by omega⟩))
          (fun k => oa (ix3 b s k)) (fun k => ob (ix3 b s k)) (fun k => oc (ix3 b s k))
          (fun k e => wa (ix2 k e)) (fun k e => wb (ix2 k e)) (fun k e => wc (ix2 k e)) (fun k e => wo (ix2 k e)) e := by
  unfold mergeOut
  rw [x1Arr_at]
  simp only [mergedArr_at, gateArr_at]
  rfl

/-- A row of the array after the MLP. -/
theorem hiddenOut_at (x1 : FVec Ideal S32x2048x1024 .f32) (scf shf gtf : FVec Ideal S32x1x1024 .f32)
    (g2 : FVec Ideal S1024 .f32) (w1 : FVec Ideal S1024x4096 .f32) (w2 : FVec Ideal S4096x1024 .f32)
    (b : Fin 32) (s : Fin 2048) (e : Fin 1024) :
    hiddenOut x1 scf shf gtf g2 w1 w2 (ix3 b s e)
      = mlpRow (fun e => x1 (ix3 b s e)) (fun e => g2 (ix1 e)) (fun e => scf (ix3 b 0 e)) (fun e => shf (ix3 b 0 e))
          (fun e => gtf (ix3 b 0 e)) (fun k e => w1 (ix2 k e)) (fun k e => w2 (ix2 k e)) e := by
  unfold hiddenOut
  simp only [x2Arr_at, posArr_at, modArr_at, normArr_at]
  rfl

/-- A row of the result. -/
theorem mlpOut_at (x1 : FVec Ideal S32x2048x1024 .f32) (scf shf gtf : FVec Ideal S32x1x1024 .f32) (g2 : FVec Ideal S1024 .f32)
    (w1 : FVec Ideal S1024x4096 .f32) (w2 : FVec Ideal S4096x1024 .f32) (fg : FVec Ideal S1024 .f32)
    (b : Fin 32) (s : Fin 2048) (e : Fin 1024) :
    mlpOut x1 scf shf gtf g2 w1 w2 fg (ix3 b s e)
      = afterMlp (fun e => x1 (ix3 b s e)) (fun e => g2 (ix1 e)) (fun e => scf (ix3 b 0 e)) (fun e => shf (ix3 b 0 e))
          (fun e => gtf (ix3 b 0 e)) (fun k e => w1 (ix2 k e)) (fun k e => w2 (ix2 k e)) (fun e => fg (ix1 e)) e := by
  unfold mlpOut
  rw [normArr_at]
  simp only [hiddenOut_at]
  rfl

/-- THE REFERENCE'S RESULT in these stages. -/
theorem result_eq (m : (ℓ : Loc nD τ sig) → Buf (Elt Ideal) ℓ) (c : Dev nD) :
    Value.res_out0 m c
      = mlpOut (mergeOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg10)) (m ((c.tc : Thread nD τ).loc main_arg11))
            (m ((c.tc : Thread nD τ).loc main_arg12)) (m ((c.tc : Thread nD τ).loc main_arg13)))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg14)) (m ((c.tc : Thread nD τ).loc main_arg15))
          (m ((c.tc : Thread nD τ).loc main_arg16)) := by
  unfold Value.res_out0 Value.res_main_v63 mlpOut hiddenOut mergeOut normArr x2Arr posArr modArr x1Arr mergedArr gateArr
  rfl

end Cert.PostRefIdeal.Rows

end
-- ==== Proof.PostValue.lean ====
module

public import proofs.«01_k».proof.Defs
public import proofs.«01_k».proof.Proof.PostBody
public import proofs.«01_k».proof.Proof.PostRef

@[expose] public section

set_option maxRecDepth 16384

noncomputable section

/-! The merge and MLP kernel's result array is the reference's. -/

open Idealize.ShloMosaic Idealize.ShloMosaic.TcCoe Idealize.SL.Sem
open Idealize.ShloMosaic.Pipeline (Dat)
namespace Cert.PostIdeal.Result
open Cert.PostIdeal Cert.PostIdeal.Gen Cert.Rows

variable (m : (ℓ : Loc nD τ sig) → Buf (Elt Ideal) ℓ)

/-- Where every window's block lies: point t has the batch entry t / 4 and the run t % 4 of 512 tokens. -/
theorem idx : ∀ t : Fin cfg0.N,
    win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 0] ∧ win0_5.index t = ![t.val / 4, 0, 0]
    ∧ win0_6.index t = ![t.val / 4, 0, 0] ∧ win0_7.index t = ![t.val / 4, 0, 0] ∧ win0_8.index t = ![t.val / 4, 0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![t.val / 4, t.val % 4, 0] ∧ t.val / 4 < 32 :=
  (by decide +kernel : ∀ t : Fin grid0.N, _)

/-- The reference's term over the kernel's argument arrays. -/
def REF (c : Dev nD) : FVec Ideal S32x2048x1024 .f32 :=
  Cert.PostRefIdeal.Rows.mlpOut (Cert.PostRefIdeal.Rows.mergeOut (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg10))
      (m ((c : Thread nD τ).loc main_arg11)) (m ((c : Thread nD τ).loc main_arg12)) (m ((c : Thread nD τ).loc main_arg13)))
    (m ((c : Thread nD τ).loc main_arg6)) (m ((c : Thread nD τ).loc main_arg7)) (m ((c : Thread nD τ).loc main_arg8))
    (m ((c : Thread nD τ).loc main_arg9)) (m ((c : Thread nD τ).loc main_arg14)) (m ((c : Thread nD τ).loc main_arg15))
    (m ((c : Thread nD τ).loc main_arg16))

/-- A row of a block is the row of the reference's result at the place where the block lies. -/
theorem point (c : Dev nD) (t : Fin cfg0.N) (z : Fin 1) (r : Fin 512) (e : Fin 1024) :
    out0_17 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) (iblk m c 15 t) (iblk m c 16 t) (ix3 z r e)
      = REF m c (ix3 (⟨t.val / 4, (idx t).2.2.2.2.2.2.2.2.2.2.2.2.2.2.2.2.2.2⟩ : Fin 32)
          (⟨t.val % 4 * 512 + r.val, by omega⟩ : Fin 2048) e) := by
  rw [Body.body_at]
  unfold REF
  rw [Cert.PostRefIdeal.Rows.mlpOut_at]
  simp only [Cert.PostRefIdeal.Rows.mergeOut_at]
  blk_point [iblk, V, idx t]

end Cert.PostIdeal.Result

end
-- ==== Proof.PostFinal.lean ====
module

public import proofs.«01_k».proof.Proof.PostValue

@[expose] public section

set_option maxRecDepth 16384

noncomputable section

/-! The merge and MLP kernel computes the reference's result: the claim. -/

open Idealize.ShloMosaic Idealize.ShloMosaic.TcCoe Idealize.SL.Sem
open Idealize.ShloMosaic.Pipeline (Dat)
namespace Cert.PostIdeal.Result
open Cert.PostIdeal Cert.PostIdeal.Gen Cert.Rows

/-- THE RESULT ARRAY: the kernel's output array after the run is the reference's term over the arguments. -/
theorem final (m : (ℓ : Loc nD τ sig) → Buf (Elt Ideal) ℓ) (c : Dev nD) :
    (dats m 0 c).arrAt 17 cfg0.N = REF m c := by
  refine (dats m 0 c).arrAt_eq_of_covers 17 _ (by decide +kernel) fun t _ y => ?_
  blk_simp
  rw [after0_17]
  idx_vars y
  refine (point m c t _ _ _).trans (congrArg (REF m c) ?_)
  blk_ext [idx t]

set_option maxHeartbeats 1600000 in
/-- The merge and MLP kernel returns what its reference returns, at every argument. -/
theorem algebraic : Cert.algebraic_PostIdeal_PostRefIdeal := by
  intro m ρ m' ρ' _ hag
  refine ⟨fun c => REF m c, ?_, ?_⟩
  · refine (θ_run _ _ _).mono (fun r h c => ?_) (Cert.PostIdeal.Value.run_blocks m ρ)
    exact ⟨(h c).1.trans (final m c), (h c).2⟩
  · refine (θ_run _ _ _).mono (fun r h c => ?_) (Cert.PostRefIdeal.Value.run m' ρ')
    refine ⟨(h c).1.trans ?_, (h c).2⟩
    obtain ⟨h0, h1, h2, h3, h4, h5, h6, h7, h8, h9, h10, h11, h12, h13, h14, h15, h16⟩ := hag c
    refine (Cert.PostRefIdeal.Rows.result_eq m' c).trans ?_
    rw [h0, h1, h2, h3, h4, h5, h6, h7, h8, h9, h10, h11, h12, h13, h14, h15, h16]
    rfl

end Cert.PostIdeal.Result

end
-- ==== Proof.MidBody.lean ====
module

public import proofs.«01_k».proof.Proof.Gen.MidIdeal.Value
public import proofs.«01_k».proof.Proof.PostBody

@[expose] public section

set_option maxRecDepth 16384

noncomputable section

/-! What one block of an inner layer's merge and MLP kernel computes, row by row: the last layer's row before its norm. -/

open Idealize.ShloMosaic Idealize.ShloMosaic.TcCoe Idealize.SL.Sem
namespace Cert.MidIdeal.Body
open Cert.MidIdeal Cert.MidIdeal.Gen Cert.Rows

/-- The stored row: the residual after the MLP's last run. -/
theorem pay1_at (v42 v101 v104 : FVec Ideal S512x1024 .f32) (v109 : FVec Ideal S1024x1024 .bf16)
    (v113 : FVec Ideal S1x1x1024 .f32) (z : Fin 1) (r : Fin 512) (e : Fin 1024) :
    k0_pay1 (F := Ideal) v42 v101 v104 v109 v113 (ix3 z r e)
      = v42 (ix2 r e) + v113 (ix3 0 0 e)
          * (v101 (ix2 r e) + ∑ k, max (v104 (ix2 r k)) 0 * max (v104 (ix2 r k)) 0 * v109 (ix2 k e)) := by
  pointwise! [k0_pay1]

/-- WHAT A BLOCK COMPUTES: each row of the block is an inner layer's row function of the blocks' rows. -/
theorem body_at (x0 : FVec Ideal S1x512x1024 .f32) (x1 : FVec Ideal S1x512x512 .bf16) (x2 x3 : FVec Ideal S1x512x256 .bf16)
    (x4 : FVec Ideal S1x512x3072 .bf16) (x5 x6 x7 x8 : FVec Ideal S1x1x1024 .f32) (x9 : FVec Ideal S1x1024 .f32)
    (x10 : FVec Ideal S512x1024 .bf16) (x11 x12 : FVec Ideal S256x1024 .bf16) (x13 : FVec Ideal S1024x1024 .bf16)
    (x14 : FVec Ideal S1024x4096 .bf16) (x15 : FVec Ideal S4096x1024 .bf16) (x16 : FVec Ideal S1x1024 .f32)
    (z : Fin 1) (r : Fin 512) (e : Fin 1024) :
    out0_17 (F := Ideal) x0 x1 x2 x3 x4 x5 x6 x7 x8 x9 x10 x11 x12 x13 x14 x15 x16 (ix3 z r e)
      = mlpRow
          (afterMerge (fun e => x0 (ix3 0 r e)) (fun e => x5 (ix3 0 0 e))
            (fun e => x4 (ix3 0 r ⟨e.val, by omega⟩)) (fun e => x4 (ix3 0 r ⟨1024 + e.val, by omega⟩))
            (fun e => x4 (ix3 0 r ⟨2048 + e.val, by omega⟩))
            (fun k => x1 (ix3 0 r k)) (fun k => x2 (ix3 0 r k)) (fun k => x3 (ix3 0 r k))
            (fun k e => x10 (ix2 k e)) (fun k e => x11 (ix2 k e)) (fun k e => x12 (ix2 k e)) (fun k e => x13 (ix2 k e)))
          (fun e => x9 (ix2 0 e)) (fun e => x6 (ix3 0 0 e)) (fun e => x7 (ix3 0 0 e)) (fun e => x8 (ix3 0 0 e))
          (fun k e => x14 (ix2 k e)) (fun k e => x15 (ix2 k e)) e := by
  unfold out0_17 k0_pay11 k0_pay10 k0_pay9
  frame_out
  rw [pay1_at]
  exact Cert.PostIdeal.Body.hidden_at x0 x1 x2 x3 x4 x5 x6 x7 x8 x9 x10 x11 x12 x13 x14 x15 _ _ _ _ _ _ _ _ _ _ _ r e
    (Cert.PostIdeal.Body.ld0_at x4 r) (Cert.PostIdeal.Body.ld3_at x4 r) (Cert.PostIdeal.Body.ld6_at x4 r)
    (Cert.PostIdeal.Body.ld11_at x14) (Cert.PostIdeal.Body.ld13_at x14) (Cert.PostIdeal.Body.ld15_at x14)
    (Cert.PostIdeal.Body.ld17_at x14) (Cert.PostIdeal.Body.ld12_at x15) (Cert.PostIdeal.Body.ld14_at x15)
    (Cert.PostIdeal.Body.ld16_at x15) (Cert.PostIdeal.Body.ld18_at x15)

end Cert.MidIdeal.Body

end
-- ==== Proof.MidFinal.lean ====
module

public import proofs.«01_k».proof.Defs
public import proofs.«01_k».proof.Proof.MidBody
public import proofs.«01_k».proof.Proof.PostRef
public import proofs.«01_k».proof.Proof.Gen.MidRefIdeal.Run

@[expose] public section

set_option maxRecDepth 16384

noncomputable section

/-! An inner layer's merge and MLP kernel computes its reference's result: the claim. -/

open Idealize.ShloMosaic Idealize.ShloMosaic.TcCoe Idealize.SL.Sem
open Idealize.ShloMosaic.Pipeline (Dat)
namespace Cert.MidRefIdeal.Rows
open Cert.MidRefIdeal Cert.MidRefIdeal.Gen Cert.PostRefIdeal.Rows

/-- THE REFERENCE'S RESULT in the stages of the last layer's reference. -/
theorem result_eq (m : (ℓ : Loc nD τ sig) → Buf (Elt Ideal) ℓ) (c : Dev nD) :
    Value.res_out0 m c
      = hiddenOut (mergeOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg10)) (m ((c.tc : Thread nD τ).loc main_arg11))
            (m ((c.tc : Thread nD τ).loc main_arg12)) (m ((c.tc : Thread nD τ).loc main_arg13)))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg14)) (m ((c.tc : Thread nD τ).loc main_arg15)) := by
  unfold Value.res_out0 Value.res_main_v50 hiddenOut mergeOut normArr x2Arr posArr modArr x1Arr mergedArr gateArr
  rfl

end Cert.MidRefIdeal.Rows

namespace Cert.MidIdeal.Result
open Cert.MidIdeal Cert.MidIdeal.Gen Cert.Rows

variable (m : (ℓ : Loc nD τ sig) → Buf (Elt Ideal) ℓ)

/-- Where every window's block lies: point t has the batch entry t / 4 and the run t % 4 of 512 tokens. -/
theorem idx : ∀ t : Fin cfg0.N,
    win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 0] ∧ win0_5.index t = ![t.val / 4, 0, 0]
    ∧ win0_6.index t = ![t.val / 4, 0, 0] ∧ win0_7.index t = ![t.val / 4, 0, 0] ∧ win0_8.index t = ![t.val / 4, 0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![t.val / 4, t.val % 4, 0] ∧ t.val / 4 < 32 :=
  (by decide +kernel : ∀ t : Fin grid0.N, _)

/-- The reference's term over the kernel's argument arrays. -/
def REF (c : Dev nD) : FVec Ideal S32x2048x1024 .f32 :=
  Cert.PostRefIdeal.Rows.hiddenOut (Cert.PostRefIdeal.Rows.mergeOut (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg10))
      (m ((c : Thread nD τ).loc main_arg11)) (m ((c : Thread nD τ).loc main_arg12)) (m ((c : Thread nD τ).loc main_arg13)))
    (m ((c : Thread nD τ).loc main_arg6)) (m ((c : Thread nD τ).loc main_arg7)) (m ((c : Thread nD τ).loc main_arg8))
    (m ((c : Thread nD τ).loc main_arg9)) (m ((c : Thread nD τ).loc main_arg14)) (m ((c : Thread nD τ).loc main_arg15))

/-- A row of a block is the row of the reference's result at the place where the block lies. -/
theorem point (c : Dev nD) (t : Fin cfg0.N) (z : Fin 1) (r : Fin 512) (e : Fin 1024) :
    out0_17 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) (iblk m c 15 t) (iblk m c 16 t) (ix3 z r e)
      = REF m c (ix3 (⟨t.val / 4, (idx t).2.2.2.2.2.2.2.2.2.2.2.2.2.2.2.2.2.2⟩ : Fin 32)
          (⟨t.val % 4 * 512 + r.val, by omega⟩ : Fin 2048) e) := by
  rw [Body.body_at]
  unfold REF
  rw [Cert.PostRefIdeal.Rows.hiddenOut_at]
  simp only [Cert.PostRefIdeal.Rows.mergeOut_at]
  blk_point [iblk, V, idx t]

/-- THE RESULT ARRAY: the kernel's output array after the run is the reference's term over the arguments. -/
theorem final (m : (ℓ : Loc nD τ sig) → Buf (Elt Ideal) ℓ) (c : Dev nD) :
    (dats m 0 c).arrAt 17 cfg0.N = REF m c := by
  refine (dats m 0 c).arrAt_eq_of_covers 17 _ (by decide +kernel) fun t _ y => ?_
  blk_simp
  rw [after0_17]
  idx_vars y
  refine (point m c t _ _ _).trans (congrArg (REF m c) ?_)
  blk_ext [idx t]

set_option maxHeartbeats 1600000 in
/-- An inner layer's merge and MLP kernel returns what its reference returns, at every argument. -/
theorem algebraic : Cert.algebraic_MidIdeal_MidRefIdeal := by
  intro m ρ m' ρ' _ hag
  refine ⟨fun c => REF m c, ?_, ?_⟩
  · refine (θ_run _ _ _).mono (fun r h c => ?_) (Cert.MidIdeal.Value.run_blocks m ρ)
    exact ⟨(h c).1.trans (final m c), (h c).2⟩
  · refine (θ_run _ _ _).mono (fun r h c => ?_) (Cert.MidRefIdeal.Value.run m' ρ')
    refine ⟨(h c).1.trans ?_, (h c).2⟩
    obtain ⟨h0, h1, h2, h3, h4, h5, h6, h7, h8, h9, h10, h11, h12, h13, h14, h15, _⟩ := hag c
    refine (Cert.MidRefIdeal.Rows.result_eq m' c).trans ?_
    rw [h0, h1, h2, h3, h4, h5, h6, h7, h8, h9, h10, h11, h12, h13, h14, h15]
    rfl

end Cert.MidIdeal.Result

end
-- ==== Proof.PrePays.lean ====
module

public import proofs.«01_k».proof.Proof.Gen.PreIdeal.Value
public import proofs.«01_k».proof.Proof.Rows

@[expose] public section

set_option maxRecDepth 16384

noncomputable section

/-! What one block of the norm and projection kernel computes, row by row. -/

open Idealize.ShloMosaic Idealize.ShloMosaic.TcCoe Idealize.SL.Sem
namespace Cert.PreIdeal.Body
open Cert.PreIdeal Cert.PreIdeal.Gen Cert.Rows

/-- The normed, modulated rows of a block. -/
theorem pay2_at (v0 : FVec Ideal S1x512x1024 .f32) (v12 : FVec Ideal S1x1024 .f32) (v16 v22 : FVec Ideal S1x1x1024 .f32)
    (r : Fin 512) (e : Fin 1024) :
    k0_pay2 (F := Ideal) v0 v12 v16 v22 (ix2 r e)
      = modulated (fun e => v0 (ix3 0 r e)) (fun e => v12 (ix2 0 e)) (fun e => v16 (ix3 0 0 e)) (fun e => v22 (ix3 0 0 e)) e := by
  unfold modulated normed width eps
  pointwise! [k0_pay2]

/-- The first stored piece, with the norm spelt out in it. -/
theorem pay3_at (v0 : FVec Ideal S1x512x1024 .f32) (v12 : FVec Ideal S1x1024 .f32) (v16 v22 : FVec Ideal S1x1x1024 .f32)
    (w : FVec Ideal S1024x512 .bf16) (z : Fin 1) (r : Fin 512) (e : Fin 512) :
    k0_pay3 (F := Ideal) v0 v12 v16 v22 w (ix3 z r e)
      = ∑ k : Fin 1024, k0_pay2 (F := Ideal) v0 v12 v16 v22 (ix2 r k) * w (ix2 k e) := by
  pointwise! [k0_pay3]

/-- A stored piece: the block's rows times a run of the weight's columns. -/
theorem pay1_at (h : FVec Ideal S512x1024 .bf16) (w : FVec Ideal S1024x512 .bf16) (z : Fin 1) (r : Fin 512) (e : Fin 512) :
    k0_pay1 (F := Ideal) h w (ix3 z r e) = ∑ k : Fin 1024, h (ix2 r k) * w (ix2 k e) := by
  pointwise! [k0_pay1]

/-- A stored piece: the block's rows times a run of the weight's columns. -/
theorem pay4_at (h : FVec Ideal S512x1024 .bf16) (w : FVec Ideal S1024x512 .bf16) (z : Fin 1) (r : Fin 512) (e : Fin 512) :
    k0_pay4 (F := Ideal) h w (ix3 z r e) = ∑ k : Fin 1024, h (ix2 r k) * w (ix2 k e) := by
  pointwise! [k0_pay4]

/-- A stored piece: the block's rows times a run of the weight's columns. -/
theorem pay5_at (h : FVec Ideal S512x1024 .bf16) (w : FVec Ideal S1024x512 .bf16) (z : Fin 1) (r : Fin 512) (e : Fin 512) :
    k0_pay5 (F := Ideal) h w (ix3 z r e) = ∑ k : Fin 1024, h (ix2 r k) * w (ix2 k e) := by
  pointwise! [k0_pay5]

/-- A stored piece: the block's rows times a run of the weight's columns. -/
theorem pay6_at (h : FVec Ideal S512x1024 .bf16) (w : FVec Ideal S1024x512 .bf16) (z : Fin 1) (r : Fin 512) (e : Fin 512) :
    k0_pay6 (F := Ideal) h w (ix3 z r e) = ∑ k : Fin 1024, h (ix2 r k) * w (ix2 k e) := by
  pointwise! [k0_pay6]

/-- A stored piece: the block's rows times a run of the weight's columns. -/
theorem pay7_at (h : FVec Ideal S512x1024 .bf16) (w : FVec Ideal S1024x256 .bf16) (z : Fin 1) (r : Fin 512) (e : Fin 256) :
    k0_pay7 (F := Ideal) h w (ix3 z r e) = ∑ k : Fin 1024, h (ix2 r k) * w (ix2 k e) := by
  pointwise! [k0_pay7]

/-- A stored piece: the block's rows times a run of the weight's columns. -/
theorem pay10_at (h : FVec Ideal S512x1024 .bf16) (w : FVec Ideal S1024x512 .bf16) (z : Fin 1) (r : Fin 512) (e : Fin 512) :
    k0_pay10 (F := Ideal) h w (ix3 z r e) = ∑ k : Fin 1024, h (ix2 r k) * w (ix2 k e) := by
  pointwise! [k0_pay10]

/-- A stored piece: the block's rows times a run of the weight's columns. -/
theorem pay11_at (h : FVec Ideal S512x1024 .bf16) (w : FVec Ideal S1024x256 .bf16) (z : Fin 1) (r : Fin 512) (e : Fin 256) :
    k0_pay11 (F := Ideal) h w (ix3 z r e) = ∑ k : Fin 1024, h (ix2 r k) * w (ix2 k e) := by
  pointwise! [k0_pay11]

/-- A stored piece: the block's rows times a run of the weight's columns. -/
theorem pay12_at (h : FVec Ideal S512x1024 .bf16) (w : FVec Ideal S1024x128 .bf16) (z : Fin 1) (r : Fin 512) (e : Fin 128) :
    k0_pay12 (F := Ideal) h w (ix3 z r e) = ∑ k : Fin 1024, h (ix2 r k) * w (ix2 k e) := by
  pointwise! [k0_pay12]

/-- A stored piece: the block's rows times a run of the weight's columns. -/
theorem pay15_at (h : FVec Ideal S512x1024 .bf16) (w : FVec Ideal S1024x512 .bf16) (z : Fin 1) (r : Fin 512) (e : Fin 512) :
    k0_pay15 (F := Ideal) h w (ix3 z r e) = ∑ k : Fin 1024, h (ix2 r k) * w (ix2 k e) := by
  pointwise! [k0_pay15]

/-- A stored piece: the block's rows times a run of the weight's columns. -/
theorem pay16_at (h : FVec Ideal S512x1024 .bf16) (w : FVec Ideal S1024x512 .bf16) (z : Fin 1) (r : Fin 512) (e : Fin 512) :
    k0_pay16 (F := Ideal) h w (ix3 z r e) = ∑ k : Fin 1024, h (ix2 r k) * w (ix2 k e) := by
  pointwise! [k0_pay16]

/-- A stored piece: the block's rows times a run of the weight's columns. -/
theorem pay17_at (h : FVec Ideal S512x1024 .bf16) (w : FVec Ideal S1024x512 .bf16) (z : Fin 1) (r : Fin 512) (e : Fin 512) :
    k0_pay17 (F := Ideal) h w (ix3 z r e) = ∑ k : Fin 1024, h (ix2 r k) * w (ix2 k e) := by
  pointwise! [k0_pay17]

/-- A stored piece: the block's rows times a run of the weight's columns. -/
theorem pay18_at (h : FVec Ideal S512x1024 .bf16) (w : FVec Ideal S1024x512 .bf16) (z : Fin 1) (r : Fin 512) (e : Fin 512) :
    k0_pay18 (F := Ideal) h w (ix3 z r e) = ∑ k : Fin 1024, h (ix2 r k) * w (ix2 k e) := by
  pointwise! [k0_pay18]

/-- A stored piece in two steps. -/
theorem pay9_at (h : FVec Ideal S512x1024 .bf16) (w : FVec Ideal S1024x512 .bf16) (z : Fin 1) (r : Fin 512) (e : Fin 512) :
    k0_pay9 (F := Ideal) (k0_pay8 (F := Ideal) h w) (ix3 z r e) = ∑ k : Fin 1024, h (ix2 r k) * w (ix2 k e) := by
  pointwise! [k0_pay9, k0_pay8]

/-- A stored piece in two steps. -/
theorem pay14_at (h : FVec Ideal S512x1024 .bf16) (w : FVec Ideal S1024x512 .bf16) (z : Fin 1) (r : Fin 512) (e : Fin 512) :
    k0_pay14 (F := Ideal) (k0_pay13 (F := Ideal) h w) (ix3 z r e) = ∑ k : Fin 1024, h (ix2 r k) * w (ix2 k e) := by
  pointwise! [k0_pay14, k0_pay13]

end Cert.PreIdeal.Body

end
-- ==== Proof.PreBody.lean ====
module

public import proofs.«01_k».proof.Proof.PrePays

@[expose] public section

set_option maxRecDepth 16384

noncomputable section

/-! What the norm and projection kernel leaves of a block in each of its six results. -/

open Idealize.ShloMosaic Idealize.ShloMosaic.TcCoe Idealize.SL.Sem
namespace Cert.PreIdeal.Body
open Cert.PreIdeal Cert.PreIdeal.Gen Cert.Rows

variable (m : (ℓ : Loc nD τ sig) → Buf (Elt Ideal) ℓ)

/-- A run of columns of a weight, read where it lies. -/
theorem ld_cols {K W w off : Nat} (x : FVec Ideal ⟨2, ![K, W]⟩ .bf16)
    (h : ∀ a, (![0, off] : Fin 2 → Nat) a + (![K, w] : Fin 2 → Nat) a ≤ (⟨2, ![K, W]⟩ : Shape).size a)
    (k : Fin K) (e : Fin w) (e' : Fin W) (he : e'.val = off + e.val) :
    View.ld (Val := Elt Ideal) (e' := .bf16) x (Rect.unit ![0, off] ![K, w] h) (ix2 k e) = x (ix2 k e') := by
  rw [View.ld_apply]
  refine congrArg x (funext fun a => Fin.ext ?_)
  rw [Rect.idx_unit_val]
  match a with
  | ⟨0, _⟩ => exact Nat.zero_add _
  | ⟨1, _⟩ => exact he.symm

/-- Two sums of products with the same factors are the same. -/
theorem sum_eq {f g u v : Fin 1024 → Ideal .f32} (h : ∀ k, f k = g k) (h' : ∀ k, u k = v k) :
    ∑ k, f k * u k = ∑ k, g k * v k :=
  Finset.sum_congr rfl fun k _ => congrArg₂ (· * ·) (h k) (h' k)

/-- Row r of the normed, modulated block. -/
def hrow (c : Dev nD) (t : Fin cfg0.N) (r : Fin 512) (k : Fin 1024) : Ideal .f32 :=
  modulated (fun e => (iblk m c 0 t : FVec Ideal S1x512x1024 .f32) (ix3 0 r e))
    (fun e => (iblk m c 3 t : FVec Ideal S1x1024 .f32) (ix2 0 e))
    (fun e => (iblk m c 1 t : FVec Ideal S1x1x1024 .f32) (ix3 0 0 e))
    (fun e => (iblk m c 2 t : FVec Ideal S1x1x1024 .f32) (ix3 0 0 e)) k

/-- A block of the attention columns: the normed rows times the group's weight. -/
theorem out10_at (c : Dev nD) (t : Fin cfg0.N) (z : Fin 1) (r : Fin 512) (e : Fin 1536) :
    ((outsAt0 m c t).1 : FVec Ideal S1x512x1536 .bf16) (ix3 z r e)
      = ∑ k : Fin 1024, hrow m c t r k * (iblk m c 4 t : FVec Ideal S1024x1536 .bf16) (ix2 k e) := by
  unfold outsAt0
  frame_out
  canon_tiles x h
  all_goals idx_vars x
  all_goals obtain rfl := Fin.ext h1
  · exact (pay5_at _ _ _ _ _).trans (sum_eq (fun k => pay2_at _ _ _ _ _ _) fun k => ld_cols _ _ _ _ _ h2)
  · exact (pay4_at _ _ _ _ _).trans (sum_eq (fun k => pay2_at _ _ _ _ _ _) fun k => ld_cols _ _ _ _ _ h2)
  · exact (pay3_at _ _ _ _ _ _ _ _).trans (sum_eq (fun k => pay2_at _ _ _ _ _ _) fun k => ld_cols _ _ _ _ _ (h2.trans (Nat.zero_add _).symm))

/-- A block of the query and input-gate columns: the normed rows times the group's weight. -/
theorem out11_at (c : Dev nD) (t : Fin cfg0.N) (z : Fin 1) (r : Fin 512) (e : Fin 768) :
    ((outsAt0 m c t).2.1 : FVec Ideal S1x512x768 .bf16) (ix3 z r e)
      = ∑ k : Fin 1024, hrow m c t r k * (iblk m c 5 t : FVec Ideal S1024x768 .bf16) (ix2 k e) := by
  unfold outsAt0
  frame_out
  canon_tiles x h using View.cover_of_tiledBy _ ![1, 512, 256] (by sl_kernel_rfl) _
  all_goals idx_vars x
  all_goals obtain rfl := Fin.ext h1
  · exact (pay7_at _ _ _ _ _).trans (sum_eq (fun k => pay2_at _ _ _ _ _ _) fun k => ld_cols _ _ _ _ _ h2)
  · exact (pay6_at _ _ _ _ _).trans (sum_eq (fun k => pay2_at _ _ _ _ _ _) fun k => ld_cols _ _ _ _ _ (h2.trans (Nat.zero_add _).symm))

/-- A block of the forget-gate columns: the normed rows times the group's weight. -/
theorem out12_at (c : Dev nD) (t : Fin cfg0.N) (z : Fin 1) (r : Fin 512) (e : Fin 512) :
    ((outsAt0 m c t).2.2.1 : FVec Ideal S1x512x512 .f32) (ix3 z r e)
      = ∑ k : Fin 1024, hrow m c t r k * (iblk m c 6 t : FVec Ideal S1024x512 .bf16) (ix2 k e) := by
  unfold outsAt0
  frame_out
  exact (pay9_at _ _ _ _ _).trans (sum_eq (fun k => pay2_at _ _ _ _ _ _) fun k => rfl)

/-- A block of the third branch columns: the normed rows times the group's weight. -/
theorem out13_at (c : Dev nD) (t : Fin cfg0.N) (z : Fin 1) (r : Fin 512) (e : Fin 768) :
    ((outsAt0 m c t).2.2.2.1 : FVec Ideal S1x512x768 .bf16) (ix3 z r e)
      = ∑ k : Fin 1024, hrow m c t r k * (iblk m c 7 t : FVec Ideal S1024x768 .bf16) (ix2 k e) := by
  unfold outsAt0
  frame_out
  canon_tiles x h using View.cover_of_tiledBy _ ![1, 512, 256] (by sl_kernel_rfl) _
  all_goals idx_vars x
  all_goals obtain rfl := Fin.ext h1
  · exact (pay11_at _ _ _ _ _).trans (sum_eq (fun k => pay2_at _ _ _ _ _ _) fun k => ld_cols _ _ _ _ _ h2)
  · exact (pay10_at _ _ _ _ _).trans (sum_eq (fun k => pay2_at _ _ _ _ _ _) fun k => ld_cols _ _ _ _ _ (h2.trans (Nat.zero_add _).symm))

/-- A block of the low-rank columns: the normed rows times the group's weight. -/
theorem out14_at (c : Dev nD) (t : Fin cfg0.N) (z : Fin 1) (r : Fin 512) (e : Fin 128) :
    ((outsAt0 m c t).2.2.2.2.1 : FVec Ideal S1x512x128 .f32) (ix3 z r e)
      = ∑ k : Fin 1024, hrow m c t r k * (iblk m c 8 t : FVec Ideal S1024x128 .bf16) (ix2 k e) := by
  unfold outsAt0
  frame_out
  exact (pay12_at _ _ _ _ _).trans (sum_eq (fun k => pay2_at _ _ _ _ _ _) fun k => rfl)

/-- A block of the gate columns: the normed rows times the group's weight. -/
theorem out15_at (c : Dev nD) (t : Fin cfg0.N) (z : Fin 1) (r : Fin 512) (e : Fin 3072) :
    ((outsAt0 m c t).2.2.2.2.2 : FVec Ideal S1x512x3072 .bf16) (ix3 z r e)
      = ∑ k : Fin 1024, hrow m c t r k * (iblk m c 9 t : FVec Ideal S1024x3072 .bf16) (ix2 k e) := by
  unfold outsAt0
  frame_out
  canon_tiles x h
  all_goals idx_vars x
  all_goals obtain rfl := Fin.ext h1
  · exact (pay1_at _ _ _ _ _).trans (sum_eq (fun k => pay2_at _ _ _ _ _ _) fun k => ld_cols _ _ _ _ _ h2)
  · exact (pay18_at _ _ _ _ _).trans (sum_eq (fun k => pay2_at _ _ _ _ _ _) fun k => ld_cols _ _ _ _ _ h2)
  · exact (pay17_at _ _ _ _ _).trans (sum_eq (fun k => pay2_at _ _ _ _ _ _) fun k => ld_cols _ _ _ _ _ h2)
  · exact (pay16_at _ _ _ _ _).trans (sum_eq (fun k => pay2_at _ _ _ _ _ _) fun k => ld_cols _ _ _ _ _ h2)
  · exact (pay15_at _ _ _ _ _).trans (sum_eq (fun k => pay2_at _ _ _ _ _ _) fun k => ld_cols _ _ _ _ _ h2)
  · exact (pay14_at _ _ _ _ _).trans (sum_eq (fun k => pay2_at _ _ _ _ _ _) fun k => ld_cols _ _ _ _ _ (h2.trans (Nat.zero_add _).symm))

end Cert.PreIdeal.Body

end
-- ==== Proof.PreWeights.lean ====
module

public import proofs.«01_k».proof.Proof.PreBody

@[expose] public section

set_option maxRecDepth 16384

noncomputable section

/-! The column groups of the projection's weight, as the host prepares them. -/

open Idealize.ShloMosaic Idealize.ShloMosaic.TcCoe Idealize.SL.Sem
namespace Cert.PreIdeal.Result
open Cert.PreIdeal Cert.PreIdeal.Gen

variable (m : (ℓ : Loc nD τ sig) → Buf (Elt Ideal) ℓ)

/-- Where every window's block lies: point t has the batch entry t / 4 and the run t % 4 of 512 tokens. -/
theorem idx : ∀ t : Fin cfg0.N,
    win0_0.index t = ![t.val / 4, t.val % 4, 0] ∧ win0_1.index t = ![t.val / 4, 0, 0] ∧ win0_2.index t = ![t.val / 4, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![t.val / 4, t.val % 4, 0] ∧ win0_11.index t = ![t.val / 4, t.val % 4, 0]
    ∧ win0_12.index t = ![t.val / 4, t.val % 4, 0] ∧ win0_13.index t = ![t.val / 4, t.val % 4, 0]
    ∧ win0_14.index t = ![t.val / 4, t.val % 4, 0] ∧ win0_15.index t = ![t.val / 4, t.val % 4, 0] ∧ t.val / 4 < 32 :=
  (by decide +kernel : ∀ t : Fin grid0.N, _)

/-- The projection's weight. -/
abbrev W (c : Dev nD) : FVec Ideal S1024x6688 .f32 := m ((c : Thread nD τ).loc main_arg4)

/-- Window 4 holds the attention columns. -/
theorem w4_at (c : Dev nD) (t : Fin cfg0.N) (k : Fin 1024) (e : Fin 1536) :
    (iblk m c 4 t : FVec Ideal S1024x1536 .bf16) (ix2 k e)
      = W m c (ix2 k ⟨e.val, by omega⟩) := by
  refine (show _ = (V m c main_v9 : FVec Ideal S1024x1536 .bf16) (ix2 k e) by blk_ext [iblk, idx t]).trans ?_
  simp only [V, hostOps0, hostOps0_1, hostOps0_2, List.flatten_cons, List.flatten_nil, List.append_nil, List.cons_append,
    List.nil_append]
  entry_read
  pointwise

/-- Window 5 holds the query columns of the second branch, then its input-gate columns. -/
theorem w5_at (c : Dev nD) (t : Fin cfg0.N) (k : Fin 1024) (e : Fin 768) :
    (iblk m c 5 t : FVec Ideal S1024x768 .bf16) (ix2 k e)
      = if h : e.val < 256 then W m c (ix2 k ⟨1536 + e.val, by omega⟩) else W m c (ix2 k ⟨2304 + (e.val - 256), by omega⟩) := by
  refine (show _ = (V m c main_v10 : FVec Ideal S1024x768 .bf16) (ix2 k e) by blk_ext [iblk, idx t]).trans ?_
  simp only [V, hostOps0, hostOps0_1, hostOps0_2, List.flatten_cons, List.flatten_nil, List.append_nil, List.cons_append,
    List.nil_append]
  entry_read
  pointwise

/-- Window 6 holds the second branch's forget-gate columns. -/
theorem w6_at (c : Dev nD) (t : Fin cfg0.N) (k : Fin 1024) (e : Fin 512) :
    (iblk m c 6 t : FVec Ideal S1024x512 .bf16) (ix2 k e)
      = W m c (ix2 k ⟨1792 + e.val, by omega⟩) := by
  refine (show _ = (V m c main_v11 : FVec Ideal S1024x512 .bf16) (ix2 k e) by blk_ext [iblk, idx t]).trans ?_
  simp only [V, hostOps0, hostOps0_1, hostOps0_2, List.flatten_cons, List.flatten_nil, List.append_nil, List.cons_append,
    List.nil_append]
  entry_read
  pointwise

/-- Window 7 holds the third branch's columns. -/
theorem w7_at (c : Dev nD) (t : Fin cfg0.N) (k : Fin 1024) (e : Fin 768) :
    (iblk m c 7 t : FVec Ideal S1024x768 .bf16) (ix2 k e)
      = W m c (ix2 k ⟨2816 + e.val, by omega⟩) := by
  refine (show _ = (V m c main_v12 : FVec Ideal S1024x768 .bf16) (ix2 k e) by blk_ext [iblk, idx t]).trans ?_
  simp only [V, hostOps0, hostOps0_1, hostOps0_2, List.flatten_cons, List.flatten_nil, List.append_nil, List.cons_append,
    List.nil_append]
  entry_read
  pointwise

/-- Window 8 holds the low-rank columns, then zero columns. -/
theorem w8_at (c : Dev nD) (t : Fin cfg0.N) (k : Fin 1024) (e : Fin 128) :
    (iblk m c 8 t : FVec Ideal S1024x128 .bf16) (ix2 k e)
      = if h : e.val < 32 then W m c (ix2 k ⟨3584 + e.val, by omega⟩) else 0 := by
  refine (show _ = (V m c main_v13 : FVec Ideal S1024x128 .bf16) (ix2 k e) by blk_ext [iblk, idx t]).trans ?_
  simp only [V, hostOps0, hostOps0_1, hostOps0_2, List.flatten_cons, List.flatten_nil, List.append_nil, List.cons_append,
    List.nil_append]
  entry_read
  show pad S1024x128 ![0, 0] ![0, 96] ![0, 0]
      (extractStridedSlice S1024x32 ![0, 3584] (W m c) slices_S1024x6688_S1024x32_0_3584)
      (sitofp .f32 (constantI S_ 32 0#32)) pads_S1024x32_S1024x128_000_0960 h_S_ (ix2 k e) = _
  have hz : (FloatOps.sitofp (F := Ideal) .f32 (0#32) : Ideal .f32) = 0 := by
    show (((0#32 : BitVec 32).toInt : ℝ) : EReal) = 0
    norm_num
  pointwise
  simp only [hz]

/-- Window 9 holds the gate columns. -/
theorem w9_at (c : Dev nD) (t : Fin cfg0.N) (k : Fin 1024) (e : Fin 3072) :
    (iblk m c 9 t : FVec Ideal S1024x3072 .bf16) (ix2 k e)
      = W m c (ix2 k ⟨3616 + e.val, by omega⟩) := by
  refine (show _ = (V m c main_v14 : FVec Ideal S1024x3072 .bf16) (ix2 k e) by blk_ext [iblk, idx t]).trans ?_
  simp only [V, hostOps0, hostOps0_1, hostOps0_2, List.flatten_cons, List.flatten_nil, List.append_nil, List.cons_append,
    List.nil_append]
  entry_read
  pointwise

/-- Window 3 holds the norm's weight. -/
theorem w3_at (c : Dev nD) (t : Fin cfg0.N) (e : Fin 1024) :
    (iblk m c 3 t : FVec Ideal S1x1024 .f32) (ix2 0 e) = m ((c : Thread nD τ).loc main_arg3) (ix1 e) := by
  refine (show _ = (V m c main_v15 : FVec Ideal S1x1024 .f32) (ix2 0 e) by blk_ext [iblk, idx t]).trans ?_
  simp only [V, hostOps0, hostOps0_1, hostOps0_2, List.flatten_cons, List.flatten_nil, List.append_nil, List.cons_append,
    List.nil_append]
  entry_read
  pointwise

end Cert.PreIdeal.Result

end
-- ==== Proof.PreRef.lean ====
module

public import proofs.«01_k».proof.Proof.Gen.PreRefIdeal.Run
public import proofs.«01_k».proof.Proof.Rows

@[expose] public section

set_option maxRecDepth 16384

noncomputable section

/-! What the reference of the norm and projection computes, stage by stage and row by row. -/

open Idealize.ShloMosaic Idealize.ShloMosaic.TcCoe Idealize.SL.Sem
namespace Cert.PreRefIdeal.Rows
open Cert.PreRefIdeal Cert.PreRefIdeal.Gen Cert.Rows

/-- The normed array, scaled and shifted by the modulation. -/
def hArr (x : FVec Ideal S32x2048x1024 .f32) (sc sh : FVec Ideal S32x1x1024 .f32) (g : FVec Ideal S1024 .f32) :
    FVec Ideal S32x2048x1024 .f32 :=
  addf (mulf (mulf (mulf x (broadcastInDim S32x2048x1024 ![0, 1, 2] bcast_S32x2048x1_S32x2048x1024_0_1_2
      (Host.rsqrt (addf
        (Host.divf (broadcastInDim S32x2048x1 ![0, 1] bcast_S32x2048_S32x2048x1_0_1
            (Host.reduceAdd (mulf x x) (constant S_ .f32 0x00000000#32) reducesTo_S32x2048x1024_S32x2048_d2 h_S_))
          (broadcastInDim S32x2048x1 ![] bcast_S_S32x2048x1 (constant S_ .f32 0x44800000#32)))
        (broadcastInDim S32x2048x1 ![] bcast_S_S32x2048x1 (constant S_ .f32 0x358637BD#32))))))
      (broadcastInDim S32x2048x1024 ![0, 1, 2] bcast_S1x1x1024_S32x2048x1024_0_1_2
        (broadcastInDim S1x1x1024 ![2] bcast_S1024_S1x1x1024_2 g)))
      (broadcastInDim S32x2048x1024 ![0, 1, 2] bcast_S32x1x1024_S32x2048x1024_0_1_2
        (addf (broadcastInDim S32x1x1024 ![] bcast_S_S32x1x1024 (constant S_ .f32 0x3F800000#32)) sc)))
    (broadcastInDim S32x2048x1024 ![0, 1, 2] bcast_S32x1x1024_S32x2048x1024_0_1_2 sh)

/-- The projection of the normed rows. -/
def projArr (x : FVec Ideal S32x2048x1024 .f32) (sc sh : FVec Ideal S32x1x1024 .f32) (g : FVec Ideal S1024 .f32)
    (w : FVec Ideal S1024x6688 .f32) : FVec Ideal S32x2048x6688 .f32 :=
  Host.dotGeneral dot_S32x2048x1024_S1024x6688_S32x2048x6688_2_0_01_1_n_n none (hArr x sc sh g) w

/-- The attention columns. -/
def aArr (p : FVec Ideal S32x2048x6688 .f32) : FVec Ideal S32x2048x1536 .bf16 :=
  truncf .bf16 (extractStridedSlice S32x2048x1536 ![0, 0, 0] p slices_S32x2048x6688_S32x2048x1536_0_0_0) bitsLt_bf16_f32

/-- The query columns of the second branch beside its input-gate columns. -/
def qArr (p : FVec Ideal S32x2048x6688 .f32) : FVec Ideal S32x2048x768 .bf16 :=
  truncf .bf16 (concatenate S32x2048x768 2
    [⟨S32x2048x256, extractStridedSlice S32x2048x256 ![0, 0, 1536] p slices_S32x2048x6688_S32x2048x256_0_0_1536⟩,
     ⟨S32x2048x512, extractStridedSlice S32x2048x512 ![0, 0, 2304] p slices_S32x2048x6688_S32x2048x512_0_0_2304⟩]
    concatenates_S32x2048x256_S32x2048x512_S32x2048x768_d2) bitsLt_bf16_f32

/-- The forget-gate columns of the second branch. -/
def fArr (p : FVec Ideal S32x2048x6688 .f32) : FVec Ideal S32x2048x512 .f32 :=
  extractStridedSlice S32x2048x512 ![0, 0, 1792] p slices_S32x2048x6688_S32x2048x512_0_0_1792

/-- The third branch's columns. -/
def cArr (p : FVec Ideal S32x2048x6688 .f32) : FVec Ideal S32x2048x768 .bf16 :=
  truncf .bf16 (extractStridedSlice S32x2048x768 ![0, 0, 2816] p slices_S32x2048x6688_S32x2048x768_0_0_2816) bitsLt_bf16_f32

/-- The low-rank columns, filled up with zero columns. -/
def lrArr (p : FVec Ideal S32x2048x6688 .f32) : FVec Ideal S32x2048x128 .f32 :=
  pad S32x2048x128 ![0, 0, 0] ![0, 0, 96] ![0, 0, 0]
    (extractStridedSlice S32x2048x32 ![0, 0, 3584] p slices_S32x2048x6688_S32x2048x32_0_0_3584)
    (sitofp .f32 (constantI S_ 32 0#32)) pads_S32x2048x32_S32x2048x128_000_000_0960 h_S_

/-- The gate columns. -/
def gArr (p : FVec Ideal S32x2048x6688 .f32) : FVec Ideal S32x2048x3072 .bf16 :=
  truncf .bf16 (extractStridedSlice S32x2048x3072 ![0, 0, 3616] p slices_S32x2048x6688_S32x2048x3072_0_0_3616) bitsLt_bf16_f32

/-- A row of the normed, modulated array. -/
theorem hArr_at (x : FVec Ideal S32x2048x1024 .f32) (sc sh : FVec Ideal S32x1x1024 .f32) (g : FVec Ideal S1024 .f32)
    (b : Fin 32) (s : Fin 2048) (e : Fin 1024) :
    hArr x sc sh g (ix3 b s e)
      = modulated (fun e => x (ix3 b s e)) (fun e => g (ix1 e)) (fun e => sc (ix3 b 0 e)) (fun e => sh (ix3 b 0 e)) e := by
  unfold modulated normed width eps
  pointwise! [hArr]

/-- A row of the projection. -/
theorem projArr_at (x : FVec Ideal S32x2048x1024 .f32) (sc sh : FVec Ideal S32x1x1024 .f32) (g : FVec Ideal S1024 .f32)
    (w : FVec Ideal S1024x6688 .f32) (b : Fin 32) (s : Fin 2048) (e : Fin 6688) :
    projArr x sc sh g w (ix3 b s e) = ∑ k : Fin 1024, hArr x sc sh g (ix3 b s k) * w (ix2 k e) := by
  pointwise! [projArr]

/-- An attention column is a column of the projection. -/
theorem aArr_at (p : FVec Ideal S32x2048x6688 .f32) (b : Fin 32) (s : Fin 2048) (e : Fin 1536) :
    aArr p (ix3 b s e) = p (ix3 b s ⟨e.val, by omega⟩) := by
  pointwise! [aArr]

/-- A column of the second group is one of the projection's query columns or one of its input-gate columns. -/
theorem qArr_at (p : FVec Ideal S32x2048x6688 .f32) (b : Fin 32) (s : Fin 2048) (e : Fin 768) :
    qArr p (ix3 b s e)
      = if h : e.val < 256 then p (ix3 b s ⟨1536 + e.val, by omega⟩) else p (ix3 b s ⟨2304 + (e.val - 256), by omega⟩) := by
  pointwise! [qArr]

/-- A forget-gate column is a column of the projection. -/
theorem fArr_at (p : FVec Ideal S32x2048x6688 .f32) (b : Fin 32) (s : Fin 2048) (e : Fin 512) :
    fArr p (ix3 b s e) = p (ix3 b s ⟨1792 + e.val, by omega⟩) := by
  pointwise! [fArr]

/-- A column of the third branch is a column of the projection. -/
theorem cArr_at (p : FVec Ideal S32x2048x6688 .f32) (b : Fin 32) (s : Fin 2048) (e : Fin 768) :
    cArr p (ix3 b s e) = p (ix3 b s ⟨2816 + e.val, by omega⟩) := by
  pointwise! [cArr]

/-- A low-rank column is a column of the projection, a filling column is zero. -/
theorem lrArr_at (p : FVec Ideal S32x2048x6688 .f32) (b : Fin 32) (s : Fin 2048) (e : Fin 128) :
    lrArr p (ix3 b s e) = if h : e.val < 32 then p (ix3 b s ⟨3584 + e.val, by omega⟩) else 0 := by
  have hz : (FloatOps.sitofp (F := Ideal) .f32 (0#32) : Ideal .f32) = 0 := by
    show (((0#32 : BitVec 32).toInt : ℝ) : EReal) = 0
    norm_num
  pointwise [lrArr]
  simp only [hz]

/-- A gate column is a column of the projection. -/
theorem gArr_at (p : FVec Ideal S32x2048x6688 .f32) (b : Fin 32) (s : Fin 2048) (e : Fin 3072) :
    gArr p (ix3 b s e) = p (ix3 b s ⟨3616 + e.val, by omega⟩) := by
  pointwise! [gArr]

end Cert.PreRefIdeal.Rows

end
-- ==== Proof.PreValue.lean ====
module

public import proofs.«01_k».proof.Defs
public import proofs.«01_k».proof.Proof.PreWeights
public import proofs.«01_k».proof.Proof.PreRef

@[expose] public section

set_option maxRecDepth 16384

noncomputable section

/-! The norm and projection kernel's blocks are blocks of the reference's results. -/

open Idealize.ShloMosaic Idealize.ShloMosaic.TcCoe Idealize.SL.Sem
open Idealize.ShloMosaic.Pipeline (Dat)
namespace Cert.PreIdeal.Result
open Cert.PreIdeal Cert.PreIdeal.Gen Cert.PreIdeal.Body Cert.Rows

variable (m : (ℓ : Loc nD τ sig) → Buf (Elt Ideal) ℓ)

/-- The batch entry of a point. -/
abbrev bat (t : Fin cfg0.N) : Fin 32 := ⟨t.val / 4, (idx t).2.2.2.2.2.2.2.2.2.2.2.2.2.2.2.2⟩

/-- The token of a block's row. -/
abbrev tok (t : Fin cfg0.N) (r : Fin 512) : Fin 2048 := ⟨t.val % 4 * 512 + r.val, by omega⟩

/-- The reference's normed, modulated rows over the kernel's argument arrays. -/
def H (c : Dev nD) : FVec Ideal S32x2048x1024 .f32 :=
  Cert.PreRefIdeal.Rows.hArr (m ((c : Thread nD τ).loc main_arg0)) (m ((c : Thread nD τ).loc main_arg1))
    (m ((c : Thread nD τ).loc main_arg2)) (m ((c : Thread nD τ).loc main_arg3))

/-- The reference's projection over the kernel's argument arrays. -/
def P (c : Dev nD) : FVec Ideal Cert.PreRefIdeal.S32x2048x6688 .f32 :=
  Cert.PreRefIdeal.Rows.projArr (m ((c : Thread nD τ).loc main_arg0)) (m ((c : Thread nD τ).loc main_arg1))
    (m ((c : Thread nD τ).loc main_arg2)) (m ((c : Thread nD τ).loc main_arg3)) (m ((c : Thread nD τ).loc main_arg4))

/-- A block's normed rows are rows of the reference's. -/
theorem hrow_eq (c : Dev nD) (t : Fin cfg0.N) (r : Fin 512) (k : Fin 1024) :
    hrow m c t r k = H m c (ix3 (bat t) (tok t r) k) := by
  unfold H hrow
  rw [Cert.PreRefIdeal.Rows.hArr_at, show (fun e => (iblk m c 3 t : FVec Ideal S1x1024 .f32) (ix2 0 e))
    = fun e => m ((c : Thread nD τ).loc main_arg3) (ix1 e) from funext fun e => w3_at m c t e]
  blk_point [iblk, V_main_arg0, V_main_arg1, V_main_arg2, idx t]

/-- A column of the projection, as the sum that the kernel forms. -/
theorem P_at (c : Dev nD) (t : Fin cfg0.N) (r : Fin 512) (w : Fin 1024 → Ideal .f32) (e : Fin 6688)
    (hw : ∀ k, w k = W m c (ix2 k e)) :
    ∑ k : Fin 1024, hrow m c t r k * w k = P m c (ix3 (bat t) (tok t r) e) :=
  (sum_eq (fun k => hrow_eq m c t r k) hw).trans (Cert.PreRefIdeal.Rows.projArr_at _ _ _ _ _ _ _ _).symm

/-- The attention columns of a block are the reference's. -/
theorem point10 (c : Dev nD) (t : Fin cfg0.N) (z : Fin 1) (r : Fin 512) (e : Fin 1536) :
    ((outsAt0 m c t).1 : FVec Ideal S1x512x1536 .bf16) (ix3 z r e)
      = Cert.PreRefIdeal.Rows.aArr (P m c) (ix3 (bat t) (tok t r) e) :=
  ((out10_at m c t z r e).trans (P_at m c t r _ _ fun k => w4_at m c t k e)).trans
    (Cert.PreRefIdeal.Rows.aArr_at _ _ _ _).symm

/-- The query and input-gate columns of a block are the reference's. -/
theorem point11 (c : Dev nD) (t : Fin cfg0.N) (z : Fin 1) (r : Fin 512) (e : Fin 768) :
    ((outsAt0 m c t).2.1 : FVec Ideal S1x512x768 .bf16) (ix3 z r e)
      = Cert.PreRefIdeal.Rows.qArr (P m c) (ix3 (bat t) (tok t r) e) := by
  refine (out11_at m c t z r e).trans (Eq.trans ?_ (Cert.PreRefIdeal.Rows.qArr_at _ _ _ _).symm)
  by_cases h : e.val < 256
  · rw [dif_pos h]
    exact P_at m c t r _ _ fun k => (w5_at m c t k e).trans (dif_pos h)
  · rw [dif_neg h]
    exact P_at m c t r _ _ fun k => (w5_at m c t k e).trans (dif_neg h)

/-- The forget-gate columns of a block are the reference's. -/
theorem point12 (c : Dev nD) (t : Fin cfg0.N) (z : Fin 1) (r : Fin 512) (e : Fin 512) :
    ((outsAt0 m c t).2.2.1 : FVec Ideal S1x512x512 .f32) (ix3 z r e)
      = Cert.PreRefIdeal.Rows.fArr (P m c) (ix3 (bat t) (tok t r) e) :=
  ((out12_at m c t z r e).trans (P_at m c t r _ _ fun k => w6_at m c t k e)).trans
    (Cert.PreRefIdeal.Rows.fArr_at _ _ _ _).symm

/-- The third branch's columns of a block are the reference's. -/
theorem point13 (c : Dev nD) (t : Fin cfg0.N) (z : Fin 1) (r : Fin 512) (e : Fin 768) :
    ((outsAt0 m c t).2.2.2.1 : FVec Ideal S1x512x768 .bf16) (ix3 z r e)
      = Cert.PreRefIdeal.Rows.cArr (P m c) (ix3 (bat t) (tok t r) e) :=
  ((out13_at m c t z r e).trans (P_at m c t r _ _ fun k => w7_at m c t k e)).trans
    (Cert.PreRefIdeal.Rows.cArr_at _ _ _ _).symm

/-- The low-rank columns of a block, and the zero columns after them, are the reference's. -/
theorem point14 (c : Dev nD) (t : Fin cfg0.N) (z : Fin 1) (r : Fin 512) (e : Fin 128) :
    ((outsAt0 m c t).2.2.2.2.1 : FVec Ideal S1x512x128 .f32) (ix3 z r e)
      = Cert.PreRefIdeal.Rows.lrArr (P m c) (ix3 (bat t) (tok t r) e) := by
  refine (out14_at m c t z r e).trans (Eq.trans ?_ (Cert.PreRefIdeal.Rows.lrArr_at _ _ _ _).symm)
  by_cases h : e.val < 32
  · rw [dif_pos h]
    exact P_at m c t r _ _ fun k => (w8_at m c t k e).trans (dif_pos h)
  · rw [dif_neg h]
    exact Finset.sum_eq_zero fun k _ =>
      (congrArg (hrow m c t r k * ·) ((w8_at m c t k e).trans (dif_neg h))).trans (mul_zero _)

/-- The gate columns of a block are the reference's. -/
theorem point15 (c : Dev nD) (t : Fin cfg0.N) (z : Fin 1) (r : Fin 512) (e : Fin 3072) :
    ((outsAt0 m c t).2.2.2.2.2 : FVec Ideal S1x512x3072 .bf16) (ix3 z r e)
      = Cert.PreRefIdeal.Rows.gArr (P m c) (ix3 (bat t) (tok t r) e) :=
  ((out15_at m c t z r e).trans (P_at m c t r _ _ fun k => w9_at m c t k e)).trans
    (Cert.PreRefIdeal.Rows.gArr_at _ _ _ _).symm

end Cert.PreIdeal.Result

end
-- ==== Proof.PreFinal.lean ====
module

public import proofs.«01_k».proof.Proof.PreValue

@[expose] public section

set_option maxRecDepth 16384

noncomputable section

/-! The norm and projection kernel computes the reference's six results: the claim. -/

open Idealize.ShloMosaic Idealize.ShloMosaic.TcCoe Idealize.SL.Sem
open Idealize.ShloMosaic.Pipeline (Dat)
namespace Cert.PreIdeal.Result
open Cert.PreIdeal Cert.PreIdeal.Gen

variable (m : (ℓ : Loc nD τ sig) → Buf (Elt Ideal) ℓ)

/-- The array of the attention columns after the run is the reference's. -/
theorem final10 (c : Dev nD) : (dats m 0 c).arrAt 10 cfg0.N = Cert.PreRefIdeal.Rows.aArr (P m c) := by
  refine (dats m 0 c).arrAt_eq_of_covers 10 _ (by decide +kernel) fun t _ y => ?_
  blk_simp
  rw [after0_10]
  idx_vars y
  refine (point10 m c t _ _ _).trans (congrArg (Cert.PreRefIdeal.Rows.aArr (P m c)) ?_)
  blk_ext [idx t]

/-- The array of the query and input-gate columns after the run is the reference's. -/
theorem final11 (c : Dev nD) : (dats m 0 c).arrAt 11 cfg0.N = Cert.PreRefIdeal.Rows.qArr (P m c) := by
  refine (dats m 0 c).arrAt_eq_of_covers 11 _ (by decide +kernel) fun t _ y => ?_
  blk_simp
  rw [after0_11]
  idx_vars y
  refine (point11 m c t _ _ _).trans (congrArg (Cert.PreRefIdeal.Rows.qArr (P m c)) ?_)
  blk_ext [idx t]

/-- The array of the forget-gate columns after the run is the reference's. -/
theorem final12 (c : Dev nD) : (dats m 0 c).arrAt 12 cfg0.N = Cert.PreRefIdeal.Rows.fArr (P m c) := by
  refine (dats m 0 c).arrAt_eq_of_covers 12 _ (by decide +kernel) fun t _ y => ?_
  blk_simp
  rw [after0_12]
  idx_vars y
  refine (point12 m c t _ _ _).trans (congrArg (Cert.PreRefIdeal.Rows.fArr (P m c)) ?_)
  blk_ext [idx t]

/-- The array of the third branch's columns after the run is the reference's. -/
theorem final13 (c : Dev nD) : (dats m 0 c).arrAt 13 cfg0.N = Cert.PreRefIdeal.Rows.cArr (P m c) := by
  refine (dats m 0 c).arrAt_eq_of_covers 13 _ (by decide +kernel) fun t _ y => ?_
  blk_simp
  rw [after0_13]
  idx_vars y
  refine (point13 m c t _ _ _).trans (congrArg (Cert.PreRefIdeal.Rows.cArr (P m c)) ?_)
  blk_ext [idx t]

/-- The array of the low-rank columns after the run is the reference's. -/
theorem final14 (c : Dev nD) : (dats m 0 c).arrAt 14 cfg0.N = Cert.PreRefIdeal.Rows.lrArr (P m c) := by
  refine (dats m 0 c).arrAt_eq_of_covers 14 _ (by decide +kernel) fun t _ y => ?_
  blk_simp
  rw [after0_14]
  idx_vars y
  refine (point14 m c t _ _ _).trans (congrArg (Cert.PreRefIdeal.Rows.lrArr (P m c)) ?_)
  blk_ext [idx t]

/-- The array of the gate columns after the run is the reference's. -/
theorem final15 (c : Dev nD) : (dats m 0 c).arrAt 15 cfg0.N = Cert.PreRefIdeal.Rows.gArr (P m c) := by
  refine (dats m 0 c).arrAt_eq_of_covers 15 _ (by decide +kernel) fun t _ y => ?_
  blk_simp
  rw [after0_15]
  idx_vars y
  refine (point15 m c t _ _ _).trans (congrArg (Cert.PreRefIdeal.Rows.gArr (P m c)) ?_)
  blk_ext [idx t]

set_option maxHeartbeats 1600000 in
/-- The norm and projection kernel returns what its reference returns, at every argument. -/
theorem algebraic : Cert.algebraic_PreIdeal_PreRefIdeal := by
  intro m ρ m' ρ' _ hag
  refine ⟨fun c => Cert.PreRefIdeal.Rows.aArr (P m c), fun c => Cert.PreRefIdeal.Rows.qArr (P m c),
    fun c => Cert.PreRefIdeal.Rows.fArr (P m c), fun c => Cert.PreRefIdeal.Rows.cArr (P m c),
    fun c => Cert.PreRefIdeal.Rows.lrArr (P m c), fun c => Cert.PreRefIdeal.Rows.gArr (P m c), ?_, ?_⟩
  · refine (θ_run _ _ _).mono (fun r h c => ?_) (Cert.PreIdeal.Value.run_blocks m ρ)
    obtain ⟨h0, h1, h2, h3, h4, h5, hk⟩ := h c
    exact ⟨h0.trans (final10 m c), h1.trans (final11 m c), h2.trans (final12 m c), h3.trans (final13 m c),
      h4.trans (final14 m c), h5.trans (final15 m c), hk⟩
  · refine (θ_run _ _ _).mono (fun r h c => ?_) (Cert.PreRefIdeal.Value.run m' ρ')
    obtain ⟨h0, h1, h2, h3, h4, h5, hk⟩ := h c
    obtain ⟨g0, g1, g2, g3, g4⟩ := hag c
    have hP : Cert.PreRefIdeal.Rows.projArr (m' ((c : Thread Cert.PreRefIdeal.nD Cert.PreRefIdeal.τ).loc Cert.PreRefIdeal.main_arg0))
        (m' ((c : Thread Cert.PreRefIdeal.nD Cert.PreRefIdeal.τ).loc Cert.PreRefIdeal.main_arg1))
        (m' ((c : Thread Cert.PreRefIdeal.nD Cert.PreRefIdeal.τ).loc Cert.PreRefIdeal.main_arg2))
        (m' ((c : Thread Cert.PreRefIdeal.nD Cert.PreRefIdeal.τ).loc Cert.PreRefIdeal.main_arg3))
        (m' ((c : Thread Cert.PreRefIdeal.nD Cert.PreRefIdeal.τ).loc Cert.PreRefIdeal.main_arg4)) = P m c := by
      rw [g0, g1, g2, g3, g4]; rfl
    refine ⟨h0.trans ?_, h1.trans ?_, h2.trans ?_, h3.trans ?_, h4.trans ?_, h5.trans ?_, hk⟩
    · exact congrArg Cert.PreRefIdeal.Rows.aArr hP
    · exact congrArg Cert.PreRefIdeal.Rows.qArr hP
    · exact congrArg Cert.PreRefIdeal.Rows.fArr hP
    · exact congrArg Cert.PreRefIdeal.Rows.cArr hP
    · exact congrArg Cert.PreRefIdeal.Rows.lrArr hP
    · exact congrArg Cert.PreRefIdeal.Rows.gArr hP

end Cert.PreIdeal.Result

end
-- ==== Proof.ModFinal.lean ====
module

public import proofs.«01_k».proof.Defs
public import proofs.«01_k».proof.Proof.Gen.ModIdeal.Value
public import proofs.«01_k».proof.Proof.Gen.ModRefIdeal.Run
public import proofs.«01_k».proof.Proof.Rows

@[expose] public section

set_option maxRecDepth 16384

noncomputable section

/-! The modulation call computes the reference's modulation vectors: the claim. -/

open Idealize.ShloMosaic Idealize.ShloMosaic.TcCoe Idealize.SL.Sem
open Idealize.ShloMosaic.Pipeline (Dat)

namespace Cert.ModRefIdeal.Rows
open Cert.ModRefIdeal Cert.ModRefIdeal.Gen

/-- One modulation entry: the gated conditioning row times a column of weights, plus the bias. -/
def modEntry (x w : Fin 1024 → EReal) (b : EReal) : EReal := (∑ k, x k * Ideal.logistic (x k) * w k) + b

/-- The gated conditioning array. -/
def condArr (c : FVec Ideal S32x1024 .f32) : FVec Ideal S32x1024 .f32 :=
  mulf c (Host.divf (broadcastInDim S32x1024 ![] bcast_S_S32x1024 (constant S_ .f32 0x3F800000#32))
    (addf (broadcastInDim S32x1024 ![] bcast_S_S32x1024 (constant S_ .f32 0x3F800000#32)) (Host.exp (Host.negf c))))

/-- The modulation vectors of all layers. -/
def modArr (c : FVec Ideal S32x1024 .f32) (w : FVec Ideal S4x1024x6144 .f32) (b : FVec Ideal S4x6144 .f32) :
    FVec Ideal S4x32x6144 .f32 :=
  addf (transpose S4x32x6144 [0, 2, 1]
      (Host.dotGeneral dot_S4x1024x6144_S32x1024_S4x6144x32_1_1_02_0_n_n none w (condArr c))
      transposes_S4x6144x32_S4x32x6144_0_2_1)
    (broadcastInDim S4x32x6144 ![0, 1, 2] bcast_S4x1x6144_S4x32x6144_0_1_2
      (broadcastInDim S4x1x6144 ![0, 2] bcast_S4x6144_S4x1x6144_0_2 b))

/-- An entry of the modulation vectors. -/
theorem modArr_at (c : FVec Ideal S32x1024 .f32) (w : FVec Ideal S4x1024x6144 .f32) (b : FVec Ideal S4x6144 .f32)
    (l : Fin 4) (r : Fin 32) (e : Fin 6144) :
    modArr c w b (ix3 l r e)
      = modEntry (fun k => c (ix2 r k)) (fun k => w (ix3 l k e)) (b (ix2 l e)) := by
  unfold modEntry
  pointwise! [modArr, condArr, mul_comm]

end Cert.ModRefIdeal.Rows

namespace Cert.ModIdeal.Result
open Cert.ModIdeal Cert.ModIdeal.Gen Cert.ModRefIdeal.Rows

variable (m : (ℓ : Loc nD τ sig) → Buf (Elt Ideal) ℓ)

/-- Where every window's block lies: point t has the layer t / 4 and the run t % 4 of 1536 columns. -/
theorem idx : ∀ t : Fin cfg0.N,
    win0_0.index t = ![0, 0] ∧ win0_1.index t = ![t.val / 4, 0, t.val % 4] ∧ win0_2.index t = ![t.val / 4, 0, t.val % 4]
    ∧ win0_3.index t = ![t.val / 4, 0, t.val % 4] ∧ t.val / 4 < 4 :=
  (by decide +kernel : ∀ t : Fin grid0.N, _)

/-- The kernel's block, entry by entry. -/
theorem body_at (c : FVec Ideal S32x1024 .f32) (w : FVec Ideal S1x1024x1536 .f32) (b : FVec Ideal S1x1x1536 .f32)
    (r : Fin 32) (e : Fin 1536) :
    out0_3 (F := Ideal) c w b (ix3 0 r e)
      = modEntry (fun k => c (ix2 r k)) (fun k => w (ix3 0 k e)) (b (ix3 0 0 e)) := by
  unfold out0_3 modEntry
  frame_out
  pointwise! [k0_pay1]

/-- The reference's term over the kernel's argument arrays. -/
def REF (c : Dev nD) : FVec Ideal S4x32x6144 .f32 :=
  modArr (m ((c : Thread nD τ).loc main_arg0)) (m ((c : Thread nD τ).loc main_arg1)) (m ((c : Thread nD τ).loc main_arg2))

/-- The bias window holds its layer's run of the bias. -/
theorem bias_at (c : Dev nD) (t : Fin cfg0.N) (e : Fin 1536) :
    (iblk m c 2 t : Vec Ideal S1x1x1536 .f32) (ix3 0 0 e)
      = (m ((c : Thread nD τ).loc main_arg2) : FVec Ideal S4x6144 .f32)
          (ix2 (⟨t.val / 4, (idx t).2.2.2.2⟩ : Fin 4) (⟨t.val % 4 * 1536 + e.val, by omega⟩ : Fin 6144)) := by
  refine (show _ = (V m c main_v0 : FVec Ideal S4x1x6144 .f32) (ix3 (⟨t.val / 4, (idx t).2.2.2.2⟩ : Fin 4) 0
      (⟨t.val % 4 * 1536 + e.val, by omega⟩ : Fin 6144)) by blk_ext [iblk, idx t]).trans ?_
  simp only [V, hostOps0, List.flatten_cons, List.flatten_nil, List.append_nil, List.cons_append, List.nil_append]
  entry_read
  pointwise

/-- A row of a block is the row of the reference's result at the place where the block lies. -/
theorem point (c : Dev nD) (t : Fin cfg0.N) (z : Fin 1) (r : Fin 32) (e : Fin 1536) :
    out0_3 (F := Ideal) (iblk m c 0 t) (iblk m c 1 t) (iblk m c 2 t) (ix3 z r e)
      = REF m c (ix3 (⟨t.val / 4, (idx t).2.2.2.2⟩ : Fin 4) r (⟨t.val % 4 * 1536 + e.val, by omega⟩ : Fin 6144)) := by
  obtain rfl : z = 0 := Subsingleton.elim _ _
  rw [body_at]
  unfold REF
  rw [modArr_at, bias_at]
  refine congrArg₂ (fun x w => modEntry x w _) (funext fun k => ?_) (funext fun k => ?_)
  · rw [← V_main_arg0 m c]
    blk_ext [iblk, idx t]
  · rw [← V_main_arg1 m c]
    blk_ext [iblk, idx t]

/-- THE RESULT ARRAY: the kernel's output array after the run is the reference's term over the arguments. -/
theorem final (c : Dev nD) : (dats m 0 c).arrAt 3 cfg0.N = REF m c := by
  refine (dats m 0 c).arrAt_eq_of_covers 3 _ (by decide +kernel) fun t _ y => ?_
  blk_simp
  rw [after0_3]
  idx_vars y
  refine (point m c t _ _ _).trans (congrArg (REF m c) ?_)
  blk_ext [idx t]

/-- The modulation kernel returns what its reference returns, at every argument. -/
theorem algebraic : Cert.algebraic_ModIdeal_ModRefIdeal := by
  intro m ρ m' ρ' _ hag
  refine ⟨fun c => REF m c, ?_, ?_⟩
  · refine (θ_run _ _ _).mono (fun r h c => ?_) (Cert.ModIdeal.Value.run_blocks m ρ)
    exact ⟨(h c).1.trans (final m c), (h c).2⟩
  · refine (θ_run _ _ _).mono (fun r h c => ?_) (Cert.ModRefIdeal.Value.run m' ρ')
    refine ⟨(h c).1.trans ?_, (h c).2⟩
    obtain ⟨h0, h1, h2⟩ := hag c
    rw [h0, h1, h2]
    rfl

end Cert.ModIdeal.Result

end
-- ==== Proof.BoundsFinal.lean ====
module

public import proofs.«01_k».proof.Defs
public import proofs.«01_k».proof.Proof.Gen.BoundsIdeal.Value
public import proofs.«01_k».proof.Proof.Gen.BoundsRefIdeal.Run
public import proofs.«01_k».proof.Proof.Rows

@[expose] public section

set_option maxRecDepth 16384

noncomputable section

/-! The lower bounds' call computes the reference's lower bounds: the claim. -/

open Idealize.ShloMosaic Idealize.ShloMosaic.TcCoe Idealize.SL.Sem
open Idealize.ShloMosaic.Pipeline (Dat)

namespace Cert.BoundsRefIdeal.Rows
open Cert.BoundsRefIdeal Cert.BoundsRefIdeal.Gen

/-- The softmax over the layers. -/
def weight (z : Fin 4 → EReal) (l : Fin 4) : EReal :=
  Ideal.div (Ideal.exp (z l - Finset.univ.fold max (Ideal.ofBits FTy.f32 0xFF800000#32) z))
    (∑ j, Ideal.exp (z j - Finset.univ.fold max (Ideal.ofBits FTy.f32 0xFF800000#32) z))

/-- A layer's lower bound: the weights summed up to the layer, less the first. -/
def bound (z : Fin 4 → EReal) (l : Fin 4) : EReal := (∑ j, if j ≤ l then weight z j else 0) - weight z 0

/-- The exponentials of the logits' distances from the greatest. -/
def exArr (z : FVec Ideal S4x2x256 .f32) : FVec Ideal S4x2x256 .f32 :=
  Host.exp (subf z (broadcastInDim S4x2x256 ![0, 1, 2] bcast_S1x2x256_S4x2x256_0_1_2
    (broadcastInDim S1x2x256 ![1, 2] bcast_S2x256_S1x2x256_1_2
      (Host.reduce FloatOps.maximumf z (constant S_ .f32 0xFF800000#32) reducesTo_S4x2x256_S2x256_d0 h_S_))))

/-- The weights. -/
def wArr (z : FVec Ideal S4x2x256 .f32) : FVec Ideal S4x2x256 .f32 :=
  Host.divf (exArr z) (broadcastInDim S4x2x256 ![0, 1, 2] bcast_S1x2x256_S4x2x256_0_1_2
    (broadcastInDim S1x2x256 ![1, 2] bcast_S2x256_S1x2x256_1_2
      (Host.reduceAdd (exArr z) (constant S_ .f32 0x00000000#32) reducesTo_S4x2x256_S2x256_d0 h_S_)))

/-- The lower bounds of all layers, before they are reshaped. -/
def lbArr (w : FVec Ideal S4x2x256 .f32) : FVec Ideal S4x2x256 .f32 :=
  subf (Host.reduceWindowAdd ![4, 1, 1] ![1, 1, 1] ![3, 0, 0] ![0, 0, 0] w
      (broadcastInDim S_ ![] bcast_S_S_ (constant S_ .f32 0x00000000#32))
      reduceWindows_S4x2x256_S4x2x256_w4s1p3_0_w1s1p0_0_w1s1p0_0 h_S_)
    (broadcastInDim S4x2x256 ![0, 1, 2] bcast_S1x2x256_S4x2x256_0_1_2
      (extractStridedSlice S1x2x256 ![0, 0, 0] w slices_S4x2x256_S1x2x256_0_0_0))

/-- The lower bounds of all layers. -/
def boundArr (z : FVec Ideal S4x2x256 .f32) : FVec Ideal S4x512 .f32 :=
  shapeCast S4x512 (lbArr (wArr z)) shapeCasts_S4x2x256_S4x512

/-- A position of the running sum's window, read along the layers. -/
theorem at_window : ∀ n : Fin (⟨3, ![4, 1, 1]⟩ : Shape).numel, ((⟨3, ![4, 1, 1]⟩ : Shape).rowMajor.symm n 0).val = n.val
    ∧ ((⟨3, ![4, 1, 1]⟩ : Shape).rowMajor.symm n 1).val = 0 ∧ ((⟨3, ![4, 1, 1]⟩ : Shape).rowMajor.symm n 2).val = 0 := by
  decide +kernel

/-- Adding the entries up one by one from zero gives their sum. -/
theorem foldl_add {n : ℕ} (g : Fin n → EReal) : (List.finRange n).foldl (fun r i => r + g i) 0 = ∑ i, g i := by
  rw [Fin.sum_univ_def, List.sum_eq_foldl, List.foldl_map]

/-- The running sum over the layers. -/
theorem cumsum_at (x : FVec Ideal S4x2x256 .f32) (l : Fin 4) (a : Fin 2) (k : Fin 256) :
    Host.reduceWindowAdd ![4, 1, 1] ![1, 1, 1] ![3, 0, 0] ![0, 0, 0] x
        (broadcastInDim S_ ![] bcast_S_S_ (constant S_ .f32 0x00000000#32))
        reduceWindows_S4x2x256_S4x2x256_w4s1p3_0_w1s1p0_0_w1s1p0_0 h_S_ (ix3 l a k)
     = ∑ j : Fin 4, if j ≤ l then x (ix3 j a k) else 0 := by
  have hz : broadcastInDim S_ ![] bcast_S_S_ (constant (F := Ideal) S_ .f32 0x00000000#32) (Shape.Idx.first h_S_) = 0 := by
    pointwise
  unfold Host.reduceWindowAdd
  dsimp only [FloatOps.hostReduceWindowAdd]
  unfold Ideal.hostReduceWindowAdd Host.reduceWindow
  dsimp only
  rw [hz, foldl_add]
  have hN : (⟨3, ![4, 1, 1]⟩ : Shape).numel = 4 := by decide
  let G : Fin 4 → EReal := fun n =>
    if h : 3 ≤ l.val + n.val then x (ix3 ⟨(l.val + n.val - 3) % 4, Nat.mod_lt _ (by omega)⟩ a k) else 0
  refine (Fintype.sum_equiv (finCongr hN) _ G fun n => ?_).trans ?_
  · obtain ⟨h0, h1, h2⟩ := at_window n
    have hn : n.val < 4 := lt_of_lt_of_eq n.isLt hN
    show _ = if h : 3 ≤ l.val + n.val then x (ix3 ⟨(l.val + n.val - 3) % 4, Nat.mod_lt _ (by omega)⟩ a k) else 0
    split
    · next hin =>
      have := (hin 0).1
      change 3 ≤ l.val * 1 + ((⟨3, ![4, 1, 1]⟩ : Shape).rowMajor.symm n 0).val at this
      rw [dif_pos (by omega)]
      refine congrArg x (funext fun b => Fin.ext ?_)
      match b with
      | ⟨0, _⟩ =>
        show l.val * 1 + ((⟨3, ![4, 1, 1]⟩ : Shape).rowMajor.symm n 0).val - 3 = (l.val + n.val - 3) % 4
        omega
      | ⟨1, _⟩ =>
        show a.val * 1 + ((⟨3, ![4, 1, 1]⟩ : Shape).rowMajor.symm n 1).val - 0 = a.val
        omega
      | ⟨2, _⟩ =>
        show k.val * 1 + ((⟨3, ![4, 1, 1]⟩ : Shape).rowMajor.symm n 2).val - 0 = k.val
        omega
    · next hin =>
      rw [dif_neg]
      intro h
      refine hin fun b => ?_
      match b with
      | ⟨0, _⟩ =>
        show 3 ≤ l.val * 1 + ((⟨3, ![4, 1, 1]⟩ : Shape).rowMajor.symm n 0).val
          ∧ l.val * 1 + ((⟨3, ![4, 1, 1]⟩ : Shape).rowMajor.symm n 0).val - 3 < 4
        omega
      | ⟨1, _⟩ =>
        show 0 ≤ a.val * 1 + ((⟨3, ![4, 1, 1]⟩ : Shape).rowMajor.symm n 1).val
          ∧ a.val * 1 + ((⟨3, ![4, 1, 1]⟩ : Shape).rowMajor.symm n 1).val - 0 < 2
        omega
      | ⟨2, _⟩ =>
        show 0 ≤ k.val * 1 + ((⟨3, ![4, 1, 1]⟩ : Shape).rowMajor.symm n 2).val
          ∧ k.val * 1 + ((⟨3, ![4, 1, 1]⟩ : Shape).rowMajor.symm n 2).val - 0 < 256
        omega
  · fin_cases l <;> simp [G, Fin.sum_univ_four]

/-- An entry of the exponentials. -/
theorem exArr_at (z : FVec Ideal S4x2x256 .f32) (l : Fin 4) (a : Fin 2) (k : Fin 256) :
    exArr z (ix3 l a k)
      = Ideal.exp (z (ix3 l a k) - Finset.univ.fold max (Ideal.ofBits FTy.f32 0xFF800000#32) fun j : Fin 4 => z (ix3 j a k)) := by
  pointwise! [exArr]

/-- An entry of the weights. -/
theorem wArr_at (z : FVec Ideal S4x2x256 .f32) (l : Fin 4) (a : Fin 2) (k : Fin 256) :
    wArr z (ix3 l a k) = weight (fun j => z (ix3 j a k)) l := by
  unfold weight
  simp only [← exArr_at]
  pointwise! [wArr]

/-- An entry of the lower bounds. -/
theorem lbArr_at (w : FVec Ideal S4x2x256 .f32) (l : Fin 4) (a : Fin 2) (k : Fin 256) :
    lbArr w (ix3 l a k) = (∑ j : Fin 4, if j ≤ l then w (ix3 j a k) else 0) - w (ix3 0 a k) := by
  rw [← cumsum_at]
  unfold lbArr
  generalize Host.reduceWindowAdd ![4, 1, 1] ![1, 1, 1] ![3, 0, 0] ![0, 0, 0] w
      (broadcastInDim S_ ![] bcast_S_S_ (constant S_ .f32 0x00000000#32))
      reduceWindows_S4x2x256_S4x2x256_w4s1p3_0_w1s1p0_0_w1s1p0_0 h_S_ = y
  pointwise!

/-- An entry of the reshaped lower bounds. -/
theorem boundArr_at (z : FVec Ideal S4x2x256 .f32) (l : Fin 4) (e : Fin 512) :
    boundArr z (ix2 l e)
      = bound (fun j => z (ix3 j (⟨e.val / 256, by omega⟩ : Fin 2) (⟨e.val % 256, by omega⟩ : Fin 256))) l := by
  unfold boundArr bound
  simp only [← wArr_at]
  rw [← lbArr_at]
  generalize lbArr (wArr z) = y
  pointwise

end Cert.BoundsRefIdeal.Rows

namespace Cert.BoundsIdeal.Result
open Cert.BoundsIdeal Cert.BoundsIdeal.Gen Cert.BoundsRefIdeal.Rows

variable (m : (ℓ : Loc nD τ sig) → Buf (Elt Ideal) ℓ)

/-- Both windows are whole arrays. -/
theorem idx : ∀ t : Fin cfg0.N, win0_0.index t = ![0, 0] ∧ win0_1.index t = ![0, 0] :=
  (by decide +kernel : ∀ t : Fin grid0.N, _)

/-- The kernel's weights. -/
theorem pay1_at (z : FVec Ideal S4x512 .f32) (l : Fin 4) (e : Fin 512) :
    k0_pay1 (F := Ideal) z (ix2 l e) = weight (fun j => z (ix2 j e)) l := by
  unfold weight
  pointwise! [k0_pay1]

/-- What the kernel stores for layer 0. -/
theorem pay3_at (z : FVec Ideal S4x512 .f32) (e : Fin 512) :
    k0_pay3 (F := Ideal) z (ix2 0 e) = bound (fun j => z (ix2 j e)) 0 := by
  unfold bound
  simp only [← pay1_at, Fin.sum_univ_four]
  pointwise [k0_pay8, k0_pay7, k0_pay6, k0_pay5, k0_pay4, k0_pay3, k0_pay2]
  simp

/-- What the kernel stores for layer 1. -/
theorem pay5_at (z : FVec Ideal S4x512 .f32) (e : Fin 512) :
    k0_pay5 (F := Ideal) z (ix2 0 e) = bound (fun j => z (ix2 j e)) 1 := by
  unfold bound
  simp only [← pay1_at, Fin.sum_univ_four]
  pointwise [k0_pay8, k0_pay7, k0_pay6, k0_pay5, k0_pay4, k0_pay3, k0_pay2]
  simp

/-- What the kernel stores for layer 2. -/
theorem pay7_at (z : FVec Ideal S4x512 .f32) (e : Fin 512) :
    k0_pay7 (F := Ideal) z (ix2 0 e) = bound (fun j => z (ix2 j e)) 2 := by
  unfold bound
  simp only [← pay1_at, Fin.sum_univ_four]
  pointwise [k0_pay8, k0_pay7, k0_pay6, k0_pay5, k0_pay4, k0_pay3, k0_pay2]
  simp

/-- What the kernel stores for layer 3. -/
theorem pay8_at (z : FVec Ideal S4x512 .f32) (e : Fin 512) :
    k0_pay8 (F := Ideal) z (ix2 0 e) = bound (fun j => z (ix2 j e)) 3 := by
  unfold bound
  simp only [← pay1_at, Fin.sum_univ_four]
  pointwise [k0_pay8, k0_pay7, k0_pay6, k0_pay5, k0_pay4, k0_pay3, k0_pay2]
  simp

/-- The kernel's array, entry by entry. -/
theorem body_at (z : FVec Ideal S4x512 .f32) (l : Fin 4) (e : Fin 512) :
    out0_1 (F := Ideal) z (ix2 l e) = bound (fun j => z (ix2 j e)) l := by
  unfold out0_1
  frame_out
  canon_tiles x h
  all_goals idx_vars x
  all_goals obtain rfl := Fin.ext h1
  all_goals obtain rfl : x0 = 0 := Subsingleton.elim _ _
  · obtain rfl : l = 3 := Fin.ext h0
    exact pay8_at z e
  · obtain rfl : l = 2 := Fin.ext h0
    exact pay7_at z e
  · obtain rfl : l = 1 := Fin.ext h0
    exact pay5_at z e
  · obtain rfl : l = 0 := Fin.ext h0
    exact pay3_at z e

/-- The reference's term over the kernel's argument array. -/
def REF (c : Dev nD) : FVec Ideal S4x512 .f32 := boundArr (m ((c : Thread nD τ).loc main_arg0))

/-- The kernel's window holds the reshaped logits. -/
theorem logit_at (c : Dev nD) (t : Fin cfg0.N) (l : Fin 4) (e : Fin 512) :
    (iblk m c 0 t : Vec Ideal S4x512 .f32) (ix2 l e)
      = (m ((c : Thread nD τ).loc main_arg0) : FVec Ideal S4x2x256 .f32)
          (ix3 l (⟨e.val / 256, by omega⟩ : Fin 2) (⟨e.val % 256, by omega⟩ : Fin 256)) := by
  refine (show _ = (V m c main_v0 : FVec Ideal S4x512 .f32) (ix2 l e) by blk_ext [iblk, idx t]).trans ?_
  simp only [V, hostOps0, List.flatten_cons, List.flatten_nil, List.append_nil, List.cons_append, List.nil_append]
  entry_read
  pointwise

/-- The array that the kernel writes is the reference's. -/
theorem point (c : Dev nD) (t : Fin cfg0.N) (l : Fin 4) (e : Fin 512) :
    out0_1 (F := Ideal) (iblk m c 0 t) (ix2 l e) = REF m c (ix2 l e) := by
  rw [body_at]
  unfold REF
  rw [boundArr_at]
  exact congrArg (bound · l) (funext fun j => logit_at m c t j e)

/-- THE RESULT ARRAY: the kernel's output array after the run is the reference's term over the argument. -/
theorem final (c : Dev nD) : (dats m 0 c).arrAt 1 cfg0.N = REF m c := by
  refine (dats m 0 c).arrAt_eq_of_covers 1 _ (by decide +kernel) fun t _ y => ?_
  blk_simp
  rw [after0_1]
  idx_vars y
  refine (point m c t _ _).trans (congrArg (REF m c) ?_)
  blk_ext [idx t]

/-- The lower bounds' kernel returns what its reference returns, at every argument. -/
theorem algebraic : Cert.algebraic_BoundsIdeal_BoundsRefIdeal := by
  intro m ρ m' ρ' _ hag
  refine ⟨fun c => REF m c, ?_, ?_⟩
  · refine (θ_run _ _ _).mono (fun r h c => ?_) (Cert.BoundsIdeal.Value.run_blocks m ρ)
    exact ⟨(h c).1.trans (final m c), (h c).2⟩
  · refine (θ_run _ _ _).mono (fun r h c => ?_) (Cert.BoundsRefIdeal.Value.run m' ρ')
    refine ⟨(h c).1.trans ?_, (h c).2⟩
    rw [hag c]
    rfl

end Cert.BoundsIdeal.Result

end
-- ==== Proof.RefFrames.lean ====
module

public import proofs.«01_k».proof.Defs
public import proofs.«01_k».proof.Proof.Gen.AttnRefIdeal.Run
public import proofs.«01_k».proof.Proof.Gen.AttnFirstRefIdeal.Run
public import proofs.«01_k».proof.Proof.Gen.AttnSecondRefIdeal.Run
public import proofs.«01_k».proof.Proof.Gen.AttnThirdRefIdeal.Run
public import proofs.«01_k».proof.Proof.Gen.PostRefIdeal.Run
public import proofs.«01_k».proof.Proof.Gen.MidRefIdeal.Run
public import proofs.«01_k».proof.Proof.Gen.PreRefIdeal.Run
public import proofs.«01_k».proof.Proof.Gen.ModRefIdeal.Run
public import proofs.«01_k».proof.Proof.Gen.BoundsRefIdeal.Run
public import Idealize.ShloMosaic.Lib.Quiescent

@[expose] public section

noncomputable section

/-! The references run, keep their arguments and leave every semaphore at zero. -/

open Idealize.ShloMosaic Idealize.ShloMosaic.TcCoe Idealize.SL.Sem
namespace Cert.RefFrames

/-- The reference of the last layer's attention runs and keeps its arguments. -/
theorem frame_AttnRef : Cert.quiescent_AttnRefIdeal := fun m ρ _ =>
  (θ_run _ _ _).mono (fun r h => ⟨fun c => (h c).2, sem_eq_zero_of_no_sems rfl r.2⟩) (Cert.AttnRefIdeal.Value.run m ρ)

/-- The reference of the first layer's attention runs and keeps its arguments. -/
theorem frame_AttnFirstRef : Cert.quiescent_AttnFirstRefIdeal := fun m ρ _ =>
  (θ_run _ _ _).mono (fun r h => ⟨fun c => (h c).2, sem_eq_zero_of_no_sems rfl r.2⟩) (Cert.AttnFirstRefIdeal.Value.run m ρ)

/-- The reference of the second layer's attention runs and keeps its arguments. -/
theorem frame_AttnSecondRef : Cert.quiescent_AttnSecondRefIdeal := fun m ρ _ =>
  (θ_run _ _ _).mono (fun r h => ⟨fun c => (h c).2, sem_eq_zero_of_no_sems rfl r.2⟩) (Cert.AttnSecondRefIdeal.Value.run m ρ)

/-- The reference of the third layer's attention runs and keeps its arguments. -/
theorem frame_AttnThirdRef : Cert.quiescent_AttnThirdRefIdeal := fun m ρ _ =>
  (θ_run _ _ _).mono (fun r h => ⟨fun c => (h c).2, sem_eq_zero_of_no_sems rfl r.2⟩) (Cert.AttnThirdRefIdeal.Value.run m ρ)

/-- The reference of the last merge and MLP runs and keeps its arguments. -/
theorem frame_PostRef : Cert.quiescent_PostRefIdeal := fun m ρ _ =>
  (θ_run _ _ _).mono (fun r h => ⟨fun c => (h c).2, sem_eq_zero_of_no_sems rfl r.2⟩) (Cert.PostRefIdeal.Value.run m ρ)

/-- The reference of the inner merge and MLP runs and keeps its arguments. -/
theorem frame_MidRef : Cert.quiescent_MidRefIdeal := fun m ρ _ =>
  (θ_run _ _ _).mono (fun r h => ⟨fun c => (h c).2, sem_eq_zero_of_no_sems rfl r.2⟩) (Cert.MidRefIdeal.Value.run m ρ)

/-- The reference of the projection runs and keeps its arguments. -/
theorem frame_PreRef : Cert.quiescent_PreRefIdeal := fun m ρ _ =>
  (θ_run _ _ _).mono (fun r h => ⟨fun c => (h c).2.2.2.2.2.2, sem_eq_zero_of_no_sems rfl r.2⟩) (Cert.PreRefIdeal.Value.run m ρ)

/-- The reference of the modulation runs and keeps its arguments. -/
theorem frame_ModRef : Cert.quiescent_ModRefIdeal := fun m ρ _ =>
  (θ_run _ _ _).mono (fun r h => ⟨fun c => (h c).2, sem_eq_zero_of_no_sems rfl r.2⟩) (Cert.ModRefIdeal.Value.run m ρ)

/-- The reference of the lower bounds runs and keeps its arguments. -/
theorem frame_BoundsRef : Cert.quiescent_BoundsRefIdeal := fun m ρ _ =>
  (θ_run _ _ _).mono (fun r h => ⟨fun c => (h c).2, sem_eq_zero_of_no_sems rfl r.2⟩) (Cert.BoundsRefIdeal.Value.run m ρ)

end Cert.RefFrames

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnFirst
public import proofs.«01_k».proof.Proof.Gen.AttnFirst.Skeleton
public import proofs.«01_k».proof.Proof.Gen.AttnFirst.Launch
public import proofs.«01_k».proof.Proof.Gen.AttnFirst.Points
public import proofs.«01_k».proof.Proof.Gen.AttnFirst.Frame
public import proofs.«01_k».proof.Proof.Gen.AttnFirstIdeal
public import proofs.«01_k».proof.Proof.Gen.AttnFirstIdeal.Skeleton
public import proofs.«01_k».proof.Proof.Gen.AttnFirstIdeal.Launch
public import proofs.«01_k».proof.Proof.Gen.AttnFirstIdeal.Points
public import proofs.«01_k».proof.Proof.Gen.AttnFirstIdeal.Frame
public import proofs.«01_k».proof.Proof.Gen.AttnFirstIdeal.Value
public import proofs.«01_k».proof.Proof.Gen.AttnFirstRefIdeal
public import proofs.«01_k».proof.Proof.Gen.AttnFirstRefIdeal.Run
public import proofs.«01_k».proof.Proof.Gen.AttnSecond
public import proofs.«01_k».proof.Proof.Gen.AttnSecond.Skeleton
public import proofs.«01_k».proof.Proof.Gen.AttnSecond.Launch
public import proofs.«01_k».proof.Proof.Gen.AttnSecond.Points
public import proofs.«01_k».proof.Proof.Gen.AttnSecond.Frame
public import proofs.«01_k».proof.Proof.Gen.AttnSecondIdeal
public import proofs.«01_k».proof.Proof.Gen.AttnSecondIdeal.Skeleton
public import proofs.«01_k».proof.Proof.Gen.AttnSecondIdeal.Launch
public import proofs.«01_k».proof.Proof.Gen.AttnSecondIdeal.Points
public import proofs.«01_k».proof.Proof.Gen.AttnSecondIdeal.Frame
public import proofs.«01_k».proof.Proof.Gen.AttnSecondIdeal.Value
public import proofs.«01_k».proof.Proof.Gen.AttnSecondRefIdeal
public import proofs.«01_k».proof.Proof.Gen.AttnSecondRefIdeal.Run
public import proofs.«01_k».proof.Proof.Gen.AttnThird
public import proofs.«01_k».proof.Proof.Gen.AttnThird.Skeleton
public import proofs.«01_k».proof.Proof.Gen.AttnThird.Launch
public import proofs.«01_k».proof.Proof.Gen.AttnThird.Points
public import proofs.«01_k».proof.Proof.Gen.AttnThird.Frame
public import proofs.«01_k».proof.Proof.Gen.AttnThirdIdeal
public import proofs.«01_k».proof.Proof.Gen.AttnThirdIdeal.Skeleton
public import proofs.«01_k».proof.Proof.Gen.AttnThirdIdeal.Launch
public import proofs.«01_k».proof.Proof.Gen.AttnThirdIdeal.Points
public import proofs.«01_k».proof.Proof.Gen.AttnThirdIdeal.Frame
public import proofs.«01_k».proof.Proof.Gen.AttnThirdIdeal.Value
public import proofs.«01_k».proof.Proof.Gen.AttnThirdRefIdeal
public import proofs.«01_k».proof.Proof.Gen.AttnThirdRefIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidIdeal.Value
public import proofs.«01_k».proof.Proof.Gen.MidRefIdeal
public import proofs.«01_k».proof.Proof.Gen.MidRefIdeal.Run
public import proofs.«01_k».proof.Proof.Gen.Pre
public import proofs.«01_k».proof.Proof.Gen.Pre.Skeleton
public import proofs.«01_k».proof.Proof.Gen.Pre.Launch
public import proofs.«01_k».proof.Proof.Gen.Pre.Points
public import proofs.«01_k».proof.Proof.Gen.Pre.Frame
public import proofs.«01_k».proof.Proof.Gen.PreIdeal
public import proofs.«01_k».proof.Proof.Gen.PreIdeal.Skeleton
public import proofs.«01_k».proof.Proof.Gen.PreIdeal.Launch
public import proofs.«01_k».proof.Proof.Gen.PreIdeal.Points
public import proofs.«01_k».proof.Proof.Gen.PreIdeal.Frame
public import proofs.«01_k».proof.Proof.Gen.PreIdeal.Value
public import proofs.«01_k».proof.Proof.Gen.PreRefIdeal
public import proofs.«01_k».proof.Proof.Gen.PreRefIdeal.Run
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.Bounds
public import proofs.«01_k».proof.Proof.Gen.Bounds.Skeleton
public import proofs.«01_k».proof.Proof.Gen.Bounds.Launch
public import proofs.«01_k».proof.Proof.Gen.Bounds.Points
public import proofs.«01_k».proof.Proof.Gen.Bounds.Frame
public import proofs.«01_k».proof.Proof.Gen.BoundsIdeal
public import proofs.«01_k».proof.Proof.Gen.BoundsIdeal.Skeleton
public import proofs.«01_k».proof.Proof.Gen.BoundsIdeal.Launch
public import proofs.«01_k».proof.Proof.Gen.BoundsIdeal.Points
public import proofs.«01_k».proof.Proof.Gen.BoundsIdeal.Frame
public import proofs.«01_k».proof.Proof.Gen.BoundsIdeal.Value
public import proofs.«01_k».proof.Proof.Gen.BoundsRefIdeal
public import proofs.«01_k».proof.Proof.Gen.BoundsRefIdeal.Run
public import proofs.«01_k».proof.Proof.Gen.Pre_finite
public import proofs.«01_k».proof.Proof.AttnLast
public import proofs.«01_k».proof.Proof.AttnFirst
public import proofs.«01_k».proof.Proof.AttnSecond
public import proofs.«01_k».proof.Proof.AttnThird
public import proofs.«01_k».proof.Proof.PostFinal
public import proofs.«01_k».proof.Proof.MidFinal
public import proofs.«01_k».proof.Proof.PreFinal
public import proofs.«01_k».proof.Proof.ModFinal
public import proofs.«01_k».proof.Proof.BoundsFinal
public import proofs.«01_k».proof.Proof.RefFrames
public import Idealize.ShloMosaic.Adequacy
public import Idealize.ShloMosaic.Init

@[expose] public section

noncomputable section

namespace Cert.Proof

open Idealize.ShloMosaic Idealize.SL.Sem Cert.Attn

/-- Every claim of the certificate. -/
theorem claim : Cert.Claim := ⟨Cert.Attn.Gen.facts, Cert.AttnIdeal.Gen.facts, Cert.AttnRefIdeal.Gen.facts, Cert.AttnFirst.Gen.facts, Cert.AttnFirstIdeal.Gen.facts, Cert.AttnFirstRefIdeal.Gen.facts, Cert.AttnSecond.Gen.facts, Cert.AttnSecondIdeal.Gen.facts, Cert.AttnSecondRefIdeal.Gen.facts, Cert.AttnThird.Gen.facts, Cert.AttnThirdIdeal.Gen.facts, Cert.AttnThirdRefIdeal.Gen.facts, Cert.Post.Gen.facts, Cert.PostIdeal.Gen.facts, Cert.PostRefIdeal.Gen.facts, Cert.Mid.Gen.facts, Cert.MidIdeal.Gen.facts, Cert.MidRefIdeal.Gen.facts, Cert.Pre.Gen.facts, Cert.PreIdeal.Gen.facts, Cert.PreRefIdeal.Gen.facts, Cert.Mod.Gen.facts, Cert.ModIdeal.Gen.facts, Cert.ModRefIdeal.Gen.facts, Cert.Bounds.Gen.facts, Cert.BoundsIdeal.Gen.facts, Cert.BoundsRefIdeal.Gen.facts, Cert.Pre_finite.Gen.facts,
  fun m ρ _ => Cert.Attn.Gen.frame m ρ, fun m ρ _ => Cert.AttnIdeal.Gen.frame m ρ, fun m ρ _ => Cert.AttnIdeal.Gen.frame m ρ, Cert.RefFrames.frame_AttnRef, fun m ρ _ => Cert.RefFrames.frame_AttnRef m ρ trivial,
  fun m ρ _ => Cert.AttnFirst.Gen.frame m ρ, fun m ρ _ => Cert.AttnFirstIdeal.Gen.frame m ρ, fun m ρ _ => Cert.AttnFirstIdeal.Gen.frame m ρ, Cert.RefFrames.frame_AttnFirstRef, fun m ρ _ => Cert.RefFrames.frame_AttnFirstRef m ρ trivial,
  fun m ρ _ => Cert.AttnSecond.Gen.frame m ρ, fun m ρ _ => Cert.AttnSecondIdeal.Gen.frame m ρ, fun m ρ _ => Cert.AttnSecondIdeal.Gen.frame m ρ, Cert.RefFrames.frame_AttnSecondRef, fun m ρ _ => Cert.RefFrames.frame_AttnSecondRef m ρ trivial,
  fun m ρ _ => Cert.AttnThird.Gen.frame m ρ, fun m ρ _ => Cert.AttnThirdIdeal.Gen.frame m ρ, fun m ρ _ => Cert.AttnThirdIdeal.Gen.frame m ρ, Cert.RefFrames.frame_AttnThirdRef, fun m ρ _ => Cert.RefFrames.frame_AttnThirdRef m ρ trivial,
  fun m ρ _ => Cert.Post.Gen.frame m ρ, fun m ρ _ => Cert.PostIdeal.Gen.frame m ρ, Cert.RefFrames.frame_PostRef,
  fun m ρ _ => Cert.Mid.Gen.frame m ρ, fun m ρ _ => Cert.MidIdeal.Gen.frame m ρ, Cert.RefFrames.frame_MidRef,
  fun m ρ _ => Cert.Pre.Gen.frame m ρ, fun m ρ _ => Cert.PreIdeal.Gen.frame m ρ, Cert.RefFrames.frame_PreRef,
  fun m ρ _ => Cert.Mod.Gen.frame m ρ, fun m ρ _ => Cert.ModIdeal.Gen.frame m ρ, Cert.RefFrames.frame_ModRef,
  fun m ρ _ => Cert.Bounds.Gen.frame m ρ, fun m ρ _ => Cert.BoundsIdeal.Gen.frame m ρ, Cert.RefFrames.frame_BoundsRef,
  trivial, Cert.AttnIdeal.Result.algebraic,
  trivial, Cert.AttnFirstIdeal.Result.algebraic,
  trivial, Cert.AttnSecondIdeal.Result.algebraic,
  trivial, Cert.AttnThirdIdeal.Result.algebraic,
  trivial, Cert.PostIdeal.Result.algebraic,
  trivial, Cert.MidIdeal.Result.algebraic,
  trivial, Cert.PreIdeal.Result.algebraic,
  trivial, Cert.ModIdeal.Result.algebraic,
  trivial, Cert.BoundsIdeal.Result.algebraic⟩

end Cert.Proof

end
